-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))) = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite2 [hPre_finite2 : Cert.Pre_finite2.Facts] (m : (ℓ : Loc Cert.DiffIdeal.nD Cert.DiffIdeal.τ Cert.DiffIdeal.sig) → Buf (Elt Ideal) ℓ) : Prop :=
  ∀ c : Dev Cert.DiffIdeal.nD,
    (Cert.Pre_finite2.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite2 [hPre_finite2 : Cert.Pre_finite2.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite2.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))) = (fun _ => 1#1)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6)
      ∧ r.2.mem ((c.tc : Thread Cert.Diff.nD Cert.Diff.τ).loc Cert.Diff.main_arg7) = m ((c.tc : Thread Cert.Diff.nD Cert.Diff.τ).loc Cert.Diff.main_arg7))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ r.2.sem = fun _ => 0)

def quiescent_DiffIdeal_pre_finite2 [hDiffIdeal : Cert.DiffIdeal.Facts] [hPre_finite2 : Cert.Pre_finite2.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite2 m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7))
      ∧ r.2.sem = fun _ => 0)

def quiescent_DiffRefIdeal_pre_finite2 [hDiffRefIdeal : Cert.DiffRefIdeal.Facts] [hPre_finite2 : Cert.Pre_finite2.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite2 m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7))
      ∧ r.2.sem = fun _ => 0)

def preserves_Fox_FoxIdeal : Prop :=
  True

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v31)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v31) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v37) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Diff_DiffIdeal : Prop :=
  True

def algebraic_DiffIdeal_DiffRefIdeal_pre_finite2 [hDiffIdeal : Cert.DiffIdeal.Facts] [hDiffRefIdeal : Cert.DiffRefIdeal.Facts] [hPre_finite2 : Cert.Pre_finite2.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite2 m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)
      ∧ m' ((c.tc : Thread Cert.DiffRefIdeal.nD Cert.DiffRefIdeal.τ).loc Cert.DiffRefIdeal.main_arg6) = m ((c.tc : Thread Cert.DiffIdeal.nD Cert.DiffIdeal.τ).loc Cert.DiffIdeal.main_arg6)
      ∧ m' ((c.tc : Thread Cert.DiffRefIdeal.nD Cert.DiffRefIdeal.τ).loc Cert.DiffRefIdeal.main_arg7) = m ((c.tc : Thread Cert.DiffIdeal.nD Cert.DiffIdeal.τ).loc Cert.DiffIdeal.main_arg7)) →
    ∃ (v0 : (c : Dev Cert.DiffIdeal.nD) → Buf (Elt Ideal) ((c.tc : Thread Cert.DiffIdeal.nD Cert.DiffIdeal.τ).loc Cert.DiffIdeal.main_v88)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v88) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
          ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
          ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v106) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6)
          ∧ r.2.mem ((c.tc : Thread Cert.DiffRefIdeal.nD Cert.DiffRefIdeal.τ).loc Cert.DiffRefIdeal.main_arg7) = m' ((c.tc : Thread Cert.DiffRefIdeal.nD Cert.DiffRefIdeal.τ).loc Cert.DiffRefIdeal.main_arg7))

def Claim : Prop :=
  ∃ (hFox : Cert.Fox.Facts) (hFoxIdeal : Cert.FoxIdeal.Facts) (hFoxRefIdeal : Cert.FoxRefIdeal.Facts) (hDiff : Cert.Diff.Facts) (hDiffIdeal : Cert.DiffIdeal.Facts) (hDiffRefIdeal : Cert.DiffRefIdeal.Facts) (hPre_finite : Cert.Pre_finite.Facts) (hPre_finite2 : Cert.Pre_finite2.Facts),
    quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_Diff (hDiff := hDiff)
    ∧ quiescent_DiffIdeal (hDiffIdeal := hDiffIdeal)
    ∧ quiescent_DiffIdeal_pre_finite2 (hDiffIdeal := hDiffIdeal) (hPre_finite2 := hPre_finite2)
    ∧ quiescent_DiffRefIdeal (hDiffRefIdeal := hDiffRefIdeal)
    ∧ quiescent_DiffRefIdeal_pre_finite2 (hDiffRefIdeal := hDiffRefIdeal) (hPre_finite2 := hPre_finite2)
    ∧ preserves_Fox_FoxIdeal
    ∧ algebraic_FoxIdeal_FoxRefIdeal_pre_finite (hFoxIdeal := hFoxIdeal) (hFoxRefIdeal := hFoxRefIdeal) (hPre_finite := hPre_finite)
    ∧ preserves_Diff_DiffIdeal
    ∧ algebraic_DiffIdeal_DiffRefIdeal_pre_finite2 (hDiffIdeal := hDiffIdeal) (hDiffRefIdeal := hDiffRefIdeal) (hPre_finite2 := hPre_finite2)
-- ==== Pre_finite.lean ====
abbrev S16x4096x512 : Shape := ⟨3, ![16, 4096, 512]⟩
abbrev S16x4096x8 : Shape := ⟨3, ![16, 4096, 8]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S16x4096x8 : S_.BroadcastsInDim S16x4096x8 (![] : Fin 0 → Fin S16x4096x8.rank)
  reducesTo_S16x4096x8_S_d0_1_2 : S16x4096x8.ReducesTo [0, 1, 2] S_

variable [Facts]

def fn {F : FTy → Type} [FloatOps F] (main_arg0 : FVec F S16x4096x512 .f32) (main_arg1 : FVec F S16x4096x512 .f32) (main_arg2 : FVec F S16x4096x512 .f32) (main_arg3 : FVec F S16x4096x8 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S16x4096x512 .f32 := Host.absf main_arg1
  let main_cst_0 : FVec F S_ .f32 := constant S_ .f32 0x7F800000#32
  let main_v5 : FVec F S16x4096x512 .f32 := broadcastInDim S16x4096x512 ![] bcast_S_S16x4096x512 main_cst_0
  let main_v6 : IVec S16x4096x512 1 := cmpf .olt main_v4 main_v5
  let main_c_1 : IVec S_ 1 := constantI S_ 1 1#1
  let main_v7 : IVec S_ 1 := (fun x v => Host.reduce IntOp.andi x v reducesTo_S16x4096x512_S_d0_1_2 h_S_) main_v6 main_c_1
  let main_v8 : IVec S_ 1 := andi main_v3 main_v7
  let main_v9 : FVec F S16x4096x8 .f32 := Host.absf main_arg3
  let main_cst_2 : FVec F S_ .f32 := constant S_ .f32 0x7F800000#32
  let main_v10 : FVec F S16x4096x8 .f32 := broadcastInDim S16x4096x8 ![] bcast_S_S16x4096x8 main_cst_2
  let main_v11 : IVec S16x4096x8 1 := cmpf .olt main_v9 main_v10
  let main_c_3 : IVec S_ 1 := constantI S_ 1 1#1
  let main_v12 : IVec S_ 1 := (fun x v => Host.reduce IntOp.andi x v reducesTo_S16x4096x8_S_d0_1_2 h_S_) main_v11 main_c_3
  let main_v13 : IVec S_ 1 := andi main_v8 main_v12
  main_v13
-- ==== Pre_finite2.lean ====
abbrev S16x4096x512 : Shape := ⟨3, ![16, 4096, 512]⟩
abbrev S1x64 : Shape := ⟨2, ![1, 64]⟩
abbrev S1x128 : Shape := ⟨2, ![1, 128]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg6 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg6
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  main_v23

def fn {F : FTy → Type} [FloatOps F] (main_arg0 : FVec F S16x4096x512 .f32) (main_arg1 : FVec F S16x4096x512 .f32) (main_arg2 : FVec F S16x4096x512 .f32) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S16x4096x512 .f32 := Host.absf main_arg2
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S1x64 .f32 := Host.absf main_arg3
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg4
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64 .f32 := Host.absf main_arg5
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg6 main_v13 main_v16
-- ==== Fox.lean ====
abbrev S16x4096x512 : Shape := ⟨3, ![16, 4096, 512]⟩
abbrev S16x4096x8 : Shape := ⟨3, ![16, 4096, 8]⟩
abbrev S_ : Shape := ⟨0, ![]⟩
abbrev S16x512x4096 : Shape := ⟨3, ![16, 512, 4096]⟩
abbrev S16x4096x8x64 : Shape := ⟨4, ![16, 4096, 8, 64]⟩
abbrev S16x4096x8x128 : Shape := ⟨4, ![16, 4096, 8, 128]⟩
abbrev S16x4096x1024 : Shape := ⟨3, ![16, 4096, 1024]⟩
abbrev S16x4096x72 : Shape := ⟨3, ![16, 4096, 72]⟩
abbrev S16x4096x128 : Shape := ⟨3, ![16, 4096, 128]⟩
abbrev S16x128x4096 : Shape := ⟨3, ![16, 128, 4096]⟩
abbrev S1x512x128 : Shape := ⟨3, ![1, 512, 128]⟩
abbrev S1x128x4096 : Shape := ⟨3, ![1, 128, 4096]⟩
abbrev S1x4096x128 : Shape := ⟨3, ![1, 4096, 128]⟩
abbrev S512x128 : Shape := ⟨2, ![512, 128]⟩
abbrev S512x256 : Shape := ⟨2, ![512, 256]⟩
abbrev S1024x256 : Shape := ⟨2, ![1024, 256]⟩
abbrev S512x1 : Shape := ⟨2, ![512, 1]⟩
abbrev S1x128x512 : Shape := ⟨3, ![1, 128, 512]⟩
abbrev S128x512 : Shape := ⟨2, ![128, 512]⟩
abbrev S256x512 : Shape := ⟨2, ![256, 512]⟩
abbrev S1024x512 : Shape := ⟨2, ![1024, 512]⟩
abbrev S512x512 : Shape := ⟨2, ![512, 512]⟩
abbrev S512 : Shape := ⟨1, ![512]⟩

abbrev nBuf : Space → Nat
  | .hbm => 41
  | .vmem => 14
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096x512, .f32⟩
  | .hbm, ⟨3, _⟩ => ⟨S16x4096x8, .f32⟩
  | .hbm, ⟨4, _⟩ => ⟨S_, .f32⟩
  | .hbm, ⟨5, _⟩ => ⟨S16x4096x512, .f32⟩
  | .hbm, ⟨6, _⟩ => ⟨S16x4096x512, .f32⟩
  | .hbm, ⟨7, _⟩ => ⟨S16x4096x512, .bf16⟩
  | .hbm, ⟨8, _⟩ => ⟨S16x512x4096, .f32⟩
  | .hbm, ⟨9, _⟩ => ⟨S16x512x4096, .bf16⟩
  | .hbm, ⟨10, _⟩ => ⟨S_, .f32⟩
  | .hbm, ⟨11, _⟩ => ⟨S16x4096x8x64, .f32⟩
  | .hbm, ⟨12, _⟩ => ⟨S16x4096x8x64, .f32⟩
  | .hbm, ⟨13, _⟩ => ⟨S16x4096x8x128, .f32⟩
  | .hbm, ⟨14, _⟩ => ⟨S16x4096x1024, .f32⟩
  | .hbm, ⟨15, _⟩ => ⟨S16x4096x1024, .bf16⟩
  | .hbm, ⟨16, _⟩ => ⟨S16x4096x8, .bf16⟩
  | .hbm, ⟨17, _⟩ => ⟨S16x4096x8, .f32⟩
  | .hbm, ⟨18, _⟩ => ⟨S16x4096x8, .f32⟩
  | .hbm, ⟨19, _⟩ => ⟨S16x4096x8, .bf16⟩
  | .hbm, ⟨20, _⟩ => ⟨S16x4096x8, .f32⟩
  | .hbm, ⟨21, _⟩ => ⟨S16x4096x8, .f32⟩
  | .hbm, ⟨22, _⟩ => ⟨S16x4096x8, .bf16⟩
  | .hbm, ⟨23, _⟩ => ⟨S16x4096x8, .f32⟩
  | .hbm, ⟨24, _⟩ => ⟨S16x4096x8, .f32⟩
  | .hbm, ⟨25, _⟩ => ⟨S16x4096x8, .f32⟩
  | .hbm, ⟨26, _⟩ => ⟨S_, .f32⟩
  | .hbm, ⟨27, _⟩ => ⟨S16x4096x8, .f32⟩
  | .hbm, ⟨28, _⟩ => ⟨S_, .f32⟩
  | .hbm, ⟨29, _⟩ => ⟨S16x4096x8, .f32⟩
  | .hbm, ⟨30, _⟩ => ⟨S_, .f32⟩
  | .hbm, ⟨31, _⟩ => ⟨S16x4096x72, .f32⟩
  | .hbm, ⟨32, _⟩ => ⟨S16x4096x128, .f32⟩
  | .hbm, ⟨33, _⟩ => ⟨S16x4096x128, .bf16⟩
  | .hbm, ⟨34, _⟩ => ⟨S16x4096x8, .f32⟩
  | .hbm, ⟨35, _⟩ => ⟨S16x4096x8, .f32⟩
  | .hbm, ⟨36, _⟩ => ⟨S16x4096x8, .f32⟩
  | .hbm, ⟨37, _⟩ => ⟨S16x4096x128, .f32⟩
  | .hbm, ⟨38, _⟩ => ⟨S16x128x4096, .f32⟩
  | .hbm, ⟨39, _⟩ => ⟨S16x128x4096, .bf16⟩
  | .hbm, ⟨40, _⟩ => ⟨S16x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x128x4096, .bf16⟩
  | .local _ .vmem, ⟨7, _⟩ => ⟨S1x128x4096, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x512x128, .bf16⟩
  | .local _ .vmem, ⟨13, _⟩ => ⟨S1x512x128, .bf16⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 4, 8], ![false, false, false]⟩

@[reducible] def k0_t1_loop (i : grid0.Coords) : Scf.Loop 32 :=
  let c0_i32_23 : BitVec 32 := 0#32
  let arg2 : BitVec 32 := BitVec.ofNat 32 (i 2).val
  let c0_i32_17 : BitVec 32 := 0#32
  let v53 : BitVec 1 := Scalar.cmpi .sgt arg2 c0_i32_17
  let v54 : BitVec 32 := Scalar.extui v53
  let c0_i32_18 : BitVec 32 := 0#32
  let v55 : BitVec 1 := Scalar.cmpi .slt arg2 c0_i32_18
  let v56 : BitVec 32 := Scalar.extui v55
  let v57 : BitVec 32 := Scalar.subi v54 v56
  let c4_i32 : BitVec 32 := 4#32
  let c0_i32_19 : BitVec 32 := 0#32
  let v58 : BitVec 1 := Scalar.cmpi .sgt c4_i32 c0_i32_19
  let v59 : BitVec 32 := Scalar.extui v58
  let c0_i32_20 : BitVec 32 := 0#32
  let v60 : BitVec 1 := Scalar.cmpi .slt c4_i32 c0_i32_20
  let v61 : BitVec 32 := Scalar.extui v60
  let v62 : BitVec 32 := Scalar.subi v59 v61
  let v63 : BitVec 1 := Scalar.cmpi .ne v57 v62
  let v64 : BitVec 32 := Scalar.remsi arg2 c4_i32
  let c0_i32_21 : BitVec 32 := 0#32
  let v65 : BitVec 1 := Scalar.cmpi .ne v64 c0_i32_21
  let v66 : BitVec 1 := Scalar.andi v63 v65
  let v52 : BitVec 32 := Scalar.divsi arg2 c4_i32
  let c1_i32_22 : BitVec 32 := 1#32
  let v67 : BitVec 32 := Scalar.subi v52 c1_i32_22
  let v68 : BitVec 32 := Scalar.select v66 v67 v52
  let v69 : BitVec 32 := Scalar.subi v68 c0_i32_23
  let c1_i32_24 : BitVec 32 := 1#32
  let v71 : BitVec 32 := Scalar.divsi v69 c1_i32_24
  let v72 : BitVec 32 := Scalar.muli v71 c1_i32_24
  let v73 : BitVec 32 := Scalar.addi c0_i32_23 v72
  let c1_i32_25 : BitVec 32 := 1#32
  ⟨c0_i32_23, v73, c1_i32_25⟩
def k0_mult1 (i : grid0.Coords) (k0_t1 : Fin (k0_t1_loop i).trips) : BitVec 32 :=
  let c4_i32_57 : BitVec 32 := 4#32
  let c0_i32_23 : BitVec 32 := 0#32
  let c1_i32_25 : BitVec 32 := 1#32
  let arg10 : BitVec 32 := Scf.iv c0_i32_23 c1_i32_25 k0_t1
  let v133 : BitVec 32 := Scalar.muli c4_i32_57 arg10
  let c0_i32_58 : BitVec 32 := 0#32
  let v134 : BitVec 32 := Scalar.addi v133 c0_i32_58
  let c512_i32 : BitVec 32 := 512#32
  let v135 : BitVec 32 := Scalar.muli v134 c512_i32
  v135
def k0_off1 (i : grid0.Coords) (k0_t1 : Fin (k0_t1_loop i).trips) (c0_i32_58 : BitVec 32) : Fin 3 → Nat :=
  let c0_59 : Index := 0#32
  let c0_60 : Index := 0#32
  let c4_i32_57 : BitVec 32 := 4#32
  let c0_i32_23 : BitVec 32 := 0#32
  let c1_i32_25 : BitVec 32 := 1#32
  let arg10 : BitVec 32 := Scf.iv c0_i32_23 c1_i32_25 k0_t1
  let v133 : BitVec 32 := Scalar.muli c4_i32_57 arg10
  let v134 : BitVec 32 := Scalar.addi v133 c0_i32_58
  let c512_i32 : BitVec 32 := 512#32
  let v135 : BitVec 32 := Scalar.muli v134 c512_i32
  let v136 : BitVec 32 := v135
  let v137 : Index := Scalar.indexCast v136
  ![0, 0, v137.toNat]
def k0_off2 (i : grid0.Coords) (k0_t1 : Fin (k0_t1_loop i).trips) (c0_i32_58 : BitVec 32) : Fin 3 → Nat :=
  let c0_64 : Index := 0#32
  let c4_i32_57 : BitVec 32 := 4#32
  let c0_i32_23 : BitVec 32 := 0#32
  let c1_i32_25 : BitVec 32 := 1#32
  let arg10 : BitVec 32 := Scf.iv c0_i32_23 c1_i32_25 k0_t1
  let v133 : BitVec 32 := Scalar.muli c4_i32_57 arg10
  let v134 : BitVec 32 := Scalar.addi v133 c0_i32_58
  let c512_i32 : BitVec 32 := 512#32
  let v135 : BitVec 32 := Scalar.muli v134 c512_i32
  let v136 : BitVec 32 := v135
  let v146 : Index := Scalar.indexCast v136
  let c0_65 : Index := 0#32
  ![0, v146.toNat, 0]
def k0_mult2 (i : grid0.Coords) (k0_t1 : Fin (k0_t1_loop i).trips) : BitVec 32 :=
  let c4_i32_72 : BitVec 32 := 4#32
  let c0_i32_23 : BitVec 32 := 0#32
  let c1_i32_25 : BitVec 32 := 1#32
  let arg10 : BitVec 32 := Scf.iv c0_i32_23 c1_i32_25 k0_t1
  let v179 : BitVec 32 := Scalar.muli c4_i32_72 arg10
  let c1_i32_73 : BitVec 32 := 1#32
  let v180 : BitVec 32 := Scalar.addi v179 c1_i32_73
  let c512_i32_74 : BitVec 32 := 512#32
  let v181 : BitVec 32 := Scalar.muli v180 c512_i32_74
  v181
def k0_mult3 (i : grid0.Coords) (k0_t1 : Fin (k0_t1_loop i).trips) : BitVec 32 :=
  let c4_i32_88 : BitVec 32 := 4#32
  let c0_i32_23 : BitVec 32 := 0#32
  let c1_i32_25 : BitVec 32 := 1#32
  let arg10 : BitVec 32 := Scf.iv c0_i32_23 c1_i32_25 k0_t1
  let v225 : BitVec 32 := Scalar.muli c4_i32_88 arg10
  let c2_i32_89 : BitVec 32 := 2#32
  let v226 : BitVec 32 := Scalar.addi v225 c2_i32_89
  let c512_i32_90 : BitVec 32 := 512#32
  let v227 : BitVec 32 := Scalar.muli v226 c512_i32_90
  v227
def k0_mult4 (i : grid0.Coords) (k0_t1 : Fin (k0_t1_loop i).trips) : BitVec 32 :=
  let c4_i32_104 : BitVec 32 := 4#32
  let c0_i32_23 : BitVec 32 := 0#32
  let c1_i32_25 : BitVec 32 := 1#32
  let arg10 : BitVec 32 := Scf.iv c0_i32_23 c1_i32_25 k0_t1
  let v271 : BitVec 32 := Scalar.muli c4_i32_104 arg10
  let c3_i32 : BitVec 32 := 3#32
  let v272 : BitVec 32 := Scalar.addi v271 c3_i32
  let c512_i32_105 : BitVec 32 := 512#32
  let v273 : BitVec 32 := Scalar.muli v272 c512_i32_105
  v273
@[reducible] def k0_t2_loop (i : grid0.Coords) : Scf.Loop 32 :=
  let c0_i32_23 : BitVec 32 := 0#32
  let arg2 : BitVec 32 := BitVec.ofNat 32 (i 2).val
  let c0_i32_17 : BitVec 32 := 0#32
  let v53 : BitVec 1 := Scalar.cmpi .sgt arg2 c0_i32_17
  let v54 : BitVec 32 := Scalar.extui v53
  let c0_i32_18 : BitVec 32 := 0#32
  let v55 : BitVec 1 := Scalar.cmpi .slt arg2 c0_i32_18
  let v56 : BitVec 32 := Scalar.extui v55
  let v57 : BitVec 32 := Scalar.subi v54 v56
  let c4_i32 : BitVec 32 := 4#32
  let c0_i32_19 : BitVec 32 := 0#32
  let v58 : BitVec 1 := Scalar.cmpi .sgt c4_i32 c0_i32_19
  let v59 : BitVec 32 := Scalar.extui v58
  let c0_i32_20 : BitVec 32 := 0#32
  let v60 : BitVec 1 := Scalar.cmpi .slt c4_i32 c0_i32_20
  let v61 : BitVec 32 := Scalar.extui v60
  let v62 : BitVec 32 := Scalar.subi v59 v61
  let v63 : BitVec 1 := Scalar.cmpi .ne v57 v62
  let v64 : BitVec 32 := Scalar.remsi arg2 c4_i32
  let c0_i32_21 : BitVec 32 := 0#32
  let v65 : BitVec 1 := Scalar.cmpi .ne v64 c0_i32_21
  let v66 : BitVec 1 := Scalar.andi v63 v65
  let v52 : BitVec 32 := Scalar.divsi arg2 c4_i32
  let c1_i32_22 : BitVec 32 := 1#32
  let v67 : BitVec 32 := Scalar.subi v52 c1_i32_22
  let v68 : BitVec 32 := Scalar.select v66 v67 v52
  let v69 : BitVec 32 := Scalar.subi v68 c0_i32_23
  let c1_i32_24 : BitVec 32 := 1#32
  let v71 : BitVec 32 := Scalar.divsi v69 c1_i32_24
  let v72 : BitVec 32 := Scalar.muli v71 c1_i32_24
  let v73 : BitVec 32 := Scalar.addi c0_i32_23 v72
  let v70 : BitVec 32 := Scalar.addi c0_i32_23 v69
  let c1_i32_26 : BitVec 32 := 1#32
  ⟨v73, v70, c1_i32_26⟩
def k0_mult5 (i : grid0.Coords) (k0_t2 : Fin (k0_t2_loop i).trips) : BitVec 32 :=
  let c4_i32_57 : BitVec 32 := 4#32
  let c0_i32_23 : BitVec 32 := 0#32
  let arg2 : BitVec 32 := BitVec.ofNat 32 (i 2).val
  let c0_i32_17 : BitVec 32 := 0#32
  let v53 : BitVec 1 := Scalar.cmpi .sgt arg2 c0_i32_17
  let v54 : BitVec 32 := Scalar.extui v53
  let c0_i32_18 : BitVec 32 := 0#32
  let v55 : BitVec 1 := Scalar.cmpi .slt arg2 c0_i32_18
  let v56 : BitVec 32 := Scalar.extui v55
  let v57 : BitVec 32 := Scalar.subi v54 v56
  let c4_i32 : BitVec 32 := 4#32
  let c0_i32_19 : BitVec 32 := 0#32
  let v58 : BitVec 1 := Scalar.cmpi .sgt c4_i32 c0_i32_19
  let v59 : BitVec 32 := Scalar.extui v58
  let c0_i32_20 : BitVec 32 := 0#32
  let v60 : BitVec 1 := Scalar.cmpi .slt c4_i32 c0_i32_20
  let v61 : BitVec 32 := Scalar.extui v60
  let v62 : BitVec 32 := Scalar.subi v59 v61
  let v63 : BitVec 1 := Scalar.cmpi .ne v57 v62
  let v64 : BitVec 32 := Scalar.remsi arg2 c4_i32
  let c0_i32_21 : BitVec 32 := 0#32
  let v65 : BitVec 1 := Scalar.cmpi .ne v64 c0_i32_21
  let v66 : BitVec 1 := Scalar.andi v63 v65
  let v52 : BitVec 32 := Scalar.divsi arg2 c4_i32
  let c1_i32_22 : BitVec 32 := 1#32
  let v67 : BitVec 32 := Scalar.subi v52 c1_i32_22
  let v68 : BitVec 32 := Scalar.select v66 v67 v52
  let v69 : BitVec 32 := Scalar.subi v68 c0_i32_23
  let c1_i32_24 : BitVec 32 := 1#32
  let v71 : BitVec 32 := Scalar.divsi v69 c1_i32_24
  let v72 : BitVec 32 := Scalar.muli v71 c1_i32_24
  let v73 : BitVec 32 := Scalar.addi c0_i32_23 v72
  let c1_i32_26 : BitVec 32 := 1#32
  let arg10 : BitVec 32 := Scf.iv v73 c1_i32_26 k0_t2
  let v133 : BitVec 32 := Scalar.muli c4_i32_57 arg10
  let c0_i32_58 : BitVec 32 := 0#32
  let v134 : BitVec 32 := Scalar.addi v133 c0_i32_58
  let c512_i32 : BitVec 32 := 512#32
  let v135 : BitVec 32 := Scalar.muli v134 c512_i32
  v135
def k0_off3 (i : grid0.Coords) (k0_t2 : Fin (k0_t2_loop i).trips) (c0_i32_58 : BitVec 32) : Fin 3 → Nat :=
  let c0_59 : Index := 0#32
  let c0_60 : Index := 0#32
  let c4_i32_57 : BitVec 32 := 4#32
  let c0_i32_23 : BitVec 32 := 0#32
  let arg2 : BitVec 32 := BitVec.ofNat 32 (i 2).val
  let c0_i32_17 : BitVec 32 := 0#32
  let v53 : BitVec 1 := Scalar.cmpi .sgt arg2 c0_i32_17
  let v54 : BitVec 32 := Scalar.extui v53
  let c0_i32_18 : BitVec 32 := 0#32
  let v55 : BitVec 1 := Scalar.cmpi .slt arg2 c0_i32_18
  let v56 : BitVec 32 := Scalar.extui v55
  let v57 : BitVec 32 := Scalar.subi v54 v56
  let c4_i32 : BitVec 32 := 4#32
  let c0_i32_19 : BitVec 32 := 0#32
  let v58 : BitVec 1 := Scalar.cmpi .sgt c4_i32 c0_i32_19
  let v59 : BitVec 32 := Scalar.extui v58
  let c0_i32_20 : BitVec 32 := 0#32
  let v60 : BitVec 1 := Scalar.cmpi .slt c4_i32 c0_i32_20
  let v61 : BitVec 32 := Scalar.extui v60
  let v62 : BitVec 32 := Scalar.subi v59 v61
  let v63 : BitVec 1 := Scalar.cmpi .ne v57 v62
  let v64 : BitVec 32 := Scalar.remsi arg2 c4_i32
  let c0_i32_21 : BitVec 32 := 0#32
  let v65 : BitVec 1 := Scalar.cmpi .ne v64 c0_i32_21
  let v66 : BitVec 1 := Scalar.andi v63 v65
  let v52 : BitVec 32 := Scalar.divsi arg2 c4_i32
  let c1_i32_22 : BitVec 32 := 1#32
  let v67 : BitVec 32 := Scalar.subi v52 c1_i32_22
  let v68 : BitVec 32 := Scalar.select v66 v67 v52
  let v69 : BitVec 32 := Scalar.subi v68 c0_i32_23
  let c1_i32_24 : BitVec 32 := 1#32
  let v71 : BitVec 32 := Scalar.divsi v69 c1_i32_24
  let v72 : BitVec 32 := Scalar.muli v71 c1_i32_24
  let v73 : BitVec 32 := Scalar.addi c0_i32_23 v72
  let c1_i32_26 : BitVec 32 := 1#32
  let arg10 : BitVec 32 := Scf.iv v73 c1_i32_26 k0_t2
  let v133 : BitVec 32 := Scalar.muli c4_i32_57 arg10
  let v134 : BitVec 32 := Scalar.addi v133 c0_i32_58
  let c512_i32 : BitVec 32 := 512#32
  let v135 : BitVec 32 := Scalar.muli v134 c512_i32
  let v136 : BitVec 32 := v135
  let v137 : Index := Scalar.indexCast v136
  ![0, 0, v137.toNat]
def k0_off4 (i : grid0.Coords) (k0_t2 : Fin (k0_t2_loop i).trips) (c0_i32_58 : BitVec 32) : Fin 3 → Nat :=
  let c0_64 : Index := 0#32
  let c4_i32_57 : BitVec 32 := 4#32
  let c0_i32_23 : BitVec 32 := 0#32
  let arg2 : BitVec 32 := BitVec.ofNat 32 (i 2).val
  let c0_i32_17 : BitVec 32 := 0#32
  let v53 : BitVec 1 := Scalar.cmpi .sgt arg2 c0_i32_17
  let v54 : BitVec 32 := Scalar.extui v53
  let c0_i32_18 : BitVec 32 := 0#32
  let v55 : BitVec 1 := Scalar.cmpi .slt arg2 c0_i32_18
  let v56 : BitVec 32 := Scalar.extui v55
  let v57 : BitVec 32 := Scalar.subi v54 v56
  let c4_i32 : BitVec 32 := 4#32
  let c0_i32_19 : BitVec 32 := 0#32
  let v58 : BitVec 1 := Scalar.cmpi .sgt c4_i32 c0_i32_19
  let v59 : BitVec 32 := Scalar.extui v58
  let c0_i32_20 : BitVec 32 := 0#32
  let v60 : BitVec 1 := Scalar.cmpi .slt c4_i32 c0_i32_20
  let v61 : BitVec 32 := Scalar.extui v60
  let v62 : BitVec 32 := Scalar.subi v59 v61
  let v63 : BitVec 1 := Scalar.cmpi .ne v57 v62
  let v64 : BitVec 32 := Scalar.remsi arg2 c4_i32
  let c0_i32_21 : BitVec 32 := 0#32
  let v65 : BitVec 1 := Scalar.cmpi .ne v64 c0_i32_21
  let v66 : BitVec 1 := Scalar.andi v63 v65
  let v52 : BitVec 32 := Scalar.divsi arg2 c4_i32
  let c1_i32_22 : BitVec 32 := 1#32
  let v67 : BitVec 32 := Scalar.subi v52 c1_i32_22
  let v68 : BitVec 32 := Scalar.select v66 v67 v52
  let v69 : BitVec 32 := Scalar.subi v68 c0_i32_23
  let c1_i32_24 : BitVec 32 := 1#32
  let v71 : BitVec 32 := Scalar.divsi v69 c1_i32_24
  let v72 : BitVec 32 := Scalar.muli v71 c1_i32_24
  let v73 : BitVec 32 := Scalar.addi c0_i32_23 v72
  let c1_i32_26 : BitVec 32 := 1#32
  let arg10 : BitVec 32 := Scf.iv v73 c1_i32_26 k0_t2
  let v133 : BitVec 32 := Scalar.muli c4_i32_57 arg10
  let v134 : BitVec 32 := Scalar.addi v133 c0_i32_58
  let c512_i32 : BitVec 32 := 512#32
  let v135 : BitVec 32 := Scalar.muli v134 c512_i32
  let v136 : BitVec 32 := v135
  let v146 : Index := Scalar.indexCast v136
  let c0_65 : Index := 0#32
  ![0, v146.toNat, 0]
def k0_mult6 (i : grid0.Coords) (k0_t2 : Fin (k0_t2_loop i).trips) : BitVec 32 :=
  let c4_i32_72 : BitVec 32 := 4#32
  let c0_i32_23 : BitVec 32 := 0#32
  let arg2 : BitVec 32 := BitVec.ofNat 32 (i 2).val
  let c0_i32_17 : BitVec 32 := 0#32
  let v53 : BitVec 1 := Scalar.cmpi .sgt arg2 c0_i32_17
  let v54 : BitVec 32 := Scalar.extui v53
  let c0_i32_18 : BitVec 32 := 0#32
  let v55 : BitVec 1 := Scalar.cmpi .slt arg2 c0_i32_18
  let v56 : BitVec 32 := Scalar.extui v55
  let v57 : BitVec 32 := Scalar.subi v54 v56
  let c4_i32 : BitVec 32 := 4#32
  let c0_i32_19 : BitVec 32 := 0#32
  let v58 : BitVec 1 := Scalar.cmpi .sgt c4_i32 c0_i32_19
  let v59 : BitVec 32 := Scalar.extui v58
  let c0_i32_20 : BitVec 32 := 0#32
  let v60 : BitVec 1 := Scalar.cmpi .slt c4_i32 c0_i32_20
  let v61 : BitVec 32 := Scalar.extui v60
  let v62 : BitVec 32 := Scalar.subi v59 v61
  let v63 : BitVec 1 := Scalar.cmpi .ne v57 v62
  let v64 : BitVec 32 := Scalar.remsi arg2 c4_i32
  let c0_i32_21 : BitVec 32 := 0#32
  let v65 : BitVec 1 := Scalar.cmpi .ne v64 c0_i32_21
  let v66 : BitVec 1 := Scalar.andi v63 v65
  let v52 : BitVec 32 := Scalar.divsi arg2 c4_i32
  let c1_i32_22 : BitVec 32 := 1#32
  let v67 : BitVec 32 := Scalar.subi v52 c1_i32_22
  let v68 : BitVec 32 := Scalar.select v66 v67 v52
  let v69 : BitVec 32 := Scalar.subi v68 c0_i32_23
  let c1_i32_24 : BitVec 32 := 1#32
  let v71 : BitVec 32 := Scalar.divsi v69 c1_i32_24
  let v72 : BitVec 32 := Scalar.muli v71 c1_i32_24
  let v73 : BitVec 32 := Scalar.addi c0_i32_23 v72
  let c1_i32_26 : BitVec 32 := 1#32
  let arg10 : BitVec 32 := Scf.iv v73 c1_i32_26 k0_t2
  let v179 : BitVec 32 := Scalar.muli c4_i32_72 arg10
  let c1_i32_73 : BitVec 32 := 1#32
  let v180 : BitVec 32 := Scalar.addi v179 c1_i32_73
  let c512_i32_74 : BitVec 32 := 512#32
  let v181 : BitVec 32 := Scalar.muli v180 c512_i32_74
  v181
def k0_mult7 (i : grid0.Coords) (k0_t2 : Fin (k0_t2_loop i).trips) : BitVec 32 :=
  let c4_i32_88 : BitVec 32 := 4#32
  let c0_i32_23 : BitVec 32 := 0#32
  let arg2 : BitVec 32 := BitVec.ofNat 32 (i 2).val
  let c0_i32_17 : BitVec 32 := 0#32
  let v53 : BitVec 1 := Scalar.cmpi .sgt arg2 c0_i32_17
  let v54 : BitVec 32 := Scalar.extui v53
  let c0_i32_18 : BitVec 32 := 0#32
  let v55 : BitVec 1 := Scalar.cmpi .slt arg2 c0_i32_18
  let v56 : BitVec 32 := Scalar.extui v55
  let v57 : BitVec 32 := Scalar.subi v54 v56
  let c4_i32 : BitVec 32 := 4#32
  let c0_i32_19 : BitVec 32 := 0#32
  let v58 : BitVec 1 := Scalar.cmpi .sgt c4_i32 c0_i32_19
  let v59 : BitVec 32 := Scalar.extui v58
  let c0_i32_20 : BitVec 32 := 0#32
  let v60 : BitVec 1 := Scalar.cmpi .slt c4_i32 c0_i32_20
  let v61 : BitVec 32 := Scalar.extui v60
  let v62 : BitVec 32 := Scalar.subi v59 v61
  let v63 : BitVec 1 := Scalar.cmpi .ne v57 v62
  let v64 : BitVec 32 := Scalar.remsi arg2 c4_i32
  let c0_i32_21 : BitVec 32 := 0#32
  let v65 : BitVec 1 := Scalar.cmpi .ne v64 c0_i32_21
  let v66 : BitVec 1 := Scalar.andi v63 v65
  let v52 : BitVec 32 := Scalar.divsi arg2 c4_i32
  let c1_i32_22 : BitVec 32 := 1#32
  let v67 : BitVec 32 := Scalar.subi v52 c1_i32_22
  let v68 : BitVec 32 := Scalar.select v66 v67 v52
  let v69 : BitVec 32 := Scalar.subi v68 c0_i32_23
  let c1_i32_24 : BitVec 32 := 1#32
  let v71 : BitVec 32 := Scalar.divsi v69 c1_i32_24
  let v72 : BitVec 32 := Scalar.muli v71 c1_i32_24
  let v73 : BitVec 32 := Scalar.addi c0_i32_23 v72
  let c1_i32_26 : BitVec 32 := 1#32
  let arg10 : BitVec 32 := Scf.iv v73 c1_i32_26 k0_t2
  let v225 : BitVec 32 := Scalar.muli c4_i32_88 arg10
  let c2_i32_89 : BitVec 32 := 2#32
  let v226 : BitVec 32 := Scalar.addi v225 c2_i32_89
  let c512_i32_90 : BitVec 32 := 512#32
  let v227 : BitVec 32 := Scalar.muli v226 c512_i32_90
  v227
def k0_mult8 (i : grid0.Coords) (k0_t2 : Fin (k0_t2_loop i).trips) : BitVec 32 :=
  let c4_i32_104 : BitVec 32 := 4#32
  let c0_i32_23 : BitVec 32 := 0#32
  let arg2 : BitVec 32 := BitVec.ofNat 32 (i 2).val
  let c0_i32_17 : BitVec 32 := 0#32
  let v53 : BitVec 1 := Scalar.cmpi .sgt arg2 c0_i32_17
  let v54 : BitVec 32 := Scalar.extui v53
  let c0_i32_18 : BitVec 32 := 0#32
  let v55 : BitVec 1 := Scalar.cmpi .slt arg2 c0_i32_18
  let v56 : BitVec 32 := Scalar.extui v55
  let v57 : BitVec 32 := Scalar.subi v54 v56
  let c4_i32 : BitVec 32 := 4#32
  let c0_i32_19 : BitVec 32 := 0#32
  let v58 : BitVec 1 := Scalar.cmpi .sgt c4_i32 c0_i32_19
  let v59 : BitVec 32 := Scalar.extui v58
  let c0_i32_20 : BitVec 32 := 0#32
  let v60 : BitVec 1 := Scalar.cmpi .slt c4_i32 c0_i32_20
  let v61 : BitVec 32 := Scalar.extui v60
  let v62 : BitVec 32 := Scalar.subi v59 v61
  let v63 : BitVec 1 := Scalar.cmpi .ne v57 v62
  let v64 : BitVec 32 := Scalar.remsi arg2 c4_i32
  let c0_i32_21 : BitVec 32 := 0#32
  let v65 : BitVec 1 := Scalar.cmpi .ne v64 c0_i32_21
  let v66 : BitVec 1 := Scalar.andi v63 v65
  let v52 : BitVec 32 := Scalar.divsi arg2 c4_i32
  let c1_i32_22 : BitVec 32 := 1#32
  let v67 : BitVec 32 := Scalar.subi v52 c1_i32_22
  let v68 : BitVec 32 := Scalar.select v66 v67 v52
  let v69 : BitVec 32 := Scalar.subi v68 c0_i32_23
  let c1_i32_24 : BitVec 32 := 1#32
  let v71 : BitVec 32 := Scalar.divsi v69 c1_i32_24
  let v72 : BitVec 32 := Scalar.muli v71 c1_i32_24
  let v73 : BitVec 32 := Scalar.addi c0_i32_23 v72
  let c1_i32_26 : BitVec 32 := 1#32
  let arg10 : BitVec 32 := Scf.iv v73 c1_i32_26 k0_t2
  let v271 : BitVec 32 := Scalar.muli c4_i32_104 arg10
  let c3_i32 : BitVec 32 := 3#32
  let v272 : BitVec 32 := Scalar.addi v271 c3_i32
  let c512_i32_105 : BitVec 32 := 512#32
  let v273 : BitVec 32 := Scalar.muli v272 c512_i32_105
  v273
def k0_cond1 (i : grid0.Coords) : BitVec 1 :=
  let arg2 : BitVec 32 := BitVec.ofNat 32 (i 2).val
  let c4_i32_35 : BitVec 32 := 4#32
  let c0_i32_36 : BitVec 32 := 0#32
  let v94 : BitVec 1 := Scalar.cmpi .eq c4_i32_35 c0_i32_36
  let c1_i32_37 : BitVec 32 := 1#32
  let v95 : BitVec 32 := Scalar.select v94 c1_i32_37 c4_i32_35
  let v96 : BitVec 32 := Scalar.remsi arg2 v95
  let c0_i32_39 : BitVec 32 := 0#32
  let v98 : BitVec 1 := Scalar.cmpi .slt v96 c0_i32_39
  let c0_i32_40 : BitVec 32 := 0#32
  let v99 : BitVec 1 := Scalar.cmpi .slt v95 c0_i32_40
  let v100 : BitVec 1 := Scalar.xori v98 v99
  let c0_i32_38 : BitVec 32 := 0#32
  let v97 : BitVec 1 := Scalar.cmpi .ne v96 c0_i32_38
  let v101 : BitVec 1 := Scalar.andi v100 v97
  let v102 : BitVec 32 := Scalar.addi v96 v95
  let v103 : BitVec 32 := Scalar.select v101 v102 v96
  let c2_i32_41 : BitVec 32 := 2#32
  let v104 : BitVec 1 := Scalar.cmpi .sge v103 c2_i32_41
  let v105 : BitVec 32 := Scalar.extui v104
  let c0_i32_42 : BitVec 32 := 0#32
  let v106 : BitVec 1 := Scalar.cmpi .ne v105 c0_i32_42
  v106

def k0_mult9 (i : grid0.Coords) : BitVec 32 :=
  let arg2 : BitVec 32 := BitVec.ofNat 32 (i 2).val
  let c0_i32_28 : BitVec 32 := 0#32
  let v77 : BitVec 1 := Scalar.cmpi .sgt arg2 c0_i32_28
  let v78 : BitVec 32 := Scalar.extui v77
  let c0_i32_29 : BitVec 32 := 0#32
  let v79 : BitVec 1 := Scalar.cmpi .slt arg2 c0_i32_29
  let v80 : BitVec 32 := Scalar.extui v79
  let v81 : BitVec 32 := Scalar.subi v78 v80
  let c4_i32_27 : BitVec 32 := 4#32
  let c0_i32_30 : BitVec 32 := 0#32
  let v82 : BitVec 1 := Scalar.cmpi .sgt c4_i32_27 c0_i32_30
  let v83 : BitVec 32 := Scalar.extui v82
  let c0_i32_31 : BitVec 32 := 0#32
  let v84 : BitVec 1 := Scalar.cmpi .slt c4_i32_27 c0_i32_31
  let v85 : BitVec 32 := Scalar.extui v84
  let v86 : BitVec 32 := Scalar.subi v83 v85
  let v87 : BitVec 1 := Scalar.cmpi .ne v81 v86
  let v88 : BitVec 32 := Scalar.remsi arg2 c4_i32_27
  let c0_i32_32 : BitVec 32 := 0#32
  let v89 : BitVec 1 := Scalar.cmpi .ne v88 c0_i32_32
  let v90 : BitVec 1 := Scalar.andi v87 v89
  let v76 : BitVec 32 := Scalar.divsi arg2 c4_i32_27
  let c1_i32_33 : BitVec 32 := 1#32
  let v91 : BitVec 32 := Scalar.subi v76 c1_i32_33
  let v92 : BitVec 32 := Scalar.select v90 v91 v76
  let c4_i32_34 : BitVec 32 := 4#32
  let v93 : BitVec 32 := Scalar.muli v92 c4_i32_34
  let c512_i32 : BitVec 32 := 512#32
  let v134 : BitVec 32 := Scalar.muli v93 c512_i32
  v134
def k0_off5 (i : grid0.Coords) : Fin 3 → Nat :=
  let c0_58 : Index := 0#32
  let c0_59 : Index := 0#32
  let arg2 : BitVec 32 := BitVec.ofNat 32 (i 2).val
  let c0_i32_28 : BitVec 32 := 0#32
  let v77 : BitVec 1 := Scalar.cmpi .sgt arg2 c0_i32_28
  let v78 : BitVec 32 := Scalar.extui v77
  let c0_i32_29 : BitVec 32 := 0#32
  let v79 : BitVec 1 := Scalar.cmpi .slt arg2 c0_i32_29
  let v80 : BitVec 32 := Scalar.extui v79
  let v81 : BitVec 32 := Scalar.subi v78 v80
  let c4_i32_27 : BitVec 32 := 4#32
  let c0_i32_30 : BitVec 32 := 0#32
  let v82 : BitVec 1 := Scalar.cmpi .sgt c4_i32_27 c0_i32_30
  let v83 : BitVec 32 := Scalar.extui v82
  let c0_i32_31 : BitVec 32 := 0#32
  let v84 : BitVec 1 := Scalar.cmpi .slt c4_i32_27 c0_i32_31
  let v85 : BitVec 32 := Scalar.extui v84
  let v86 : BitVec 32 := Scalar.subi v83 v85
  let v87 : BitVec 1 := Scalar.cmpi .ne v81 v86
  let v88 : BitVec 32 := Scalar.remsi arg2 c4_i32_27
  let c0_i32_32 : BitVec 32 := 0#32
  let v89 : BitVec 1 := Scalar.cmpi .ne v88 c0_i32_32
  let v90 : BitVec 1 := Scalar.andi v87 v89
  let v76 : BitVec 32 := Scalar.divsi arg2 c4_i32_27
  let c1_i32_33 : BitVec 32 := 1#32
  let v91 : BitVec 32 := Scalar.subi v76 c1_i32_33
  let v92 : BitVec 32 := Scalar.select v90 v91 v76
  let c4_i32_34 : BitVec 32 := 4#32
  let v93 : BitVec 32 := Scalar.muli v92 c4_i32_34
  let c512_i32 : BitVec 32 := 512#32
  let v134 : BitVec 32 := Scalar.muli v93 c512_i32
  let v135 : BitVec 32 := v134
  let v136 : Index := Scalar.indexCast v135
  ![0, 0, v136.toNat]
def k0_off6 (i : grid0.Coords) : Fin 3 → Nat :=
  let c0_63 : Index := 0#32
  let arg2 : BitVec 32 := BitVec.ofNat 32 (i 2).val
  let c0_i32_28 : BitVec 32 := 0#32
  let v77 : BitVec 1 := Scalar.cmpi .sgt arg2 c0_i32_28
  let v78 : BitVec 32 := Scalar.extui v77
  let c0_i32_29 : BitVec 32 := 0#32
  let v79 : BitVec 1 := Scalar.cmpi .slt arg2 c0_i32_29
  let v80 : BitVec 32 := Scalar.extui v79
  let v81 : BitVec 32 := Scalar.subi v78 v80
  let c4_i32_27 : BitVec 32 := 4#32
  let c0_i32_30 : BitVec 32 := 0#32
  let v82 : BitVec 1 := Scalar.cmpi .sgt c4_i32_27 c0_i32_30
  let v83 : BitVec 32 := Scalar.extui v82
  let c0_i32_31 : BitVec 32 := 0#32
  let v84 : BitVec 1 := Scalar.cmpi .slt c4_i32_27 c0_i32_31
  let v85 : BitVec 32 := Scalar.extui v84
  let v86 : BitVec 32 := Scalar.subi v83 v85
  let v87 : BitVec 1 := Scalar.cmpi .ne v81 v86
  let v88 : BitVec 32 := Scalar.remsi arg2 c4_i32_27
  let c0_i32_32 : BitVec 32 := 0#32
  let v89 : BitVec 1 := Scalar.cmpi .ne v88 c0_i32_32
  let v90 : BitVec 1 := Scalar.andi v87 v89
  let v76 : BitVec 32 := Scalar.divsi arg2 c4_i32_27
  let c1_i32_33 : BitVec 32 := 1#32
  let v91 : BitVec 32 := Scalar.subi v76 c1_i32_33
  let v92 : BitVec 32 := Scalar.select v90 v91 v76
  let c4_i32_34 : BitVec 32 := 4#32
  let v93 : BitVec 32 := Scalar.muli v92 c4_i32_34
  let c512_i32 : BitVec 32 := 512#32
  let v134 : BitVec 32 := Scalar.muli v93 c512_i32
  let v135 : BitVec 32 := v134
  let v145 : Index := Scalar.indexCast v135
  let c0_64 : Index := 0#32
  ![0, v145.toNat, 0]
def k0_mult10 (i : grid0.Coords) : BitVec 32 :=
  let arg2 : BitVec 32 := BitVec.ofNat 32 (i 2).val
  let c0_i32_28 : BitVec 32 := 0#32
  let v77 : BitVec 1 := Scalar.cmpi .sgt arg2 c0_i32_28
  let v78 : BitVec 32 := Scalar.extui v77
  let c0_i32_29 : BitVec 32 := 0#32
  let v79 : BitVec 1 := Scalar.cmpi .slt arg2 c0_i32_29
  let v80 : BitVec 32 := Scalar.extui v79
  let v81 : BitVec 32 := Scalar.subi v78 v80
  let c4_i32_27 : BitVec 32 := 4#32
  let c0_i32_30 : BitVec 32 := 0#32
  let v82 : BitVec 1 := Scalar.cmpi .sgt c4_i32_27 c0_i32_30
  let v83 : BitVec 32 := Scalar.extui v82
  let c0_i32_31 : BitVec 32 := 0#32
  let v84 : BitVec 1 := Scalar.cmpi .slt c4_i32_27 c0_i32_31
  let v85 : BitVec 32 := Scalar.extui v84
  let v86 : BitVec 32 := Scalar.subi v83 v85
  let v87 : BitVec 1 := Scalar.cmpi .ne v81 v86
  let v88 : BitVec 32 := Scalar.remsi arg2 c4_i32_27
  let c0_i32_32 : BitVec 32 := 0#32
  let v89 : BitVec 1 := Scalar.cmpi .ne v88 c0_i32_32
  let v90 : BitVec 1 := Scalar.andi v87 v89
  let v76 : BitVec 32 := Scalar.divsi arg2 c4_i32_27
  let c1_i32_33 : BitVec 32 := 1#32
  let v91 : BitVec 32 := Scalar.subi v76 c1_i32_33
  let v92 : BitVec 32 := Scalar.select v90 v91 v76
  let c4_i32_34 : BitVec 32 := 4#32
  let v93 : BitVec 32 := Scalar.muli v92 c4_i32_34
  let c1_i32_57 : BitVec 32 := 1#32
  let v133 : BitVec 32 := Scalar.addi v93 c1_i32_57
  let c512_i32_71 : BitVec 32 := 512#32
  let v178 : BitVec 32 := Scalar.muli v133 c512_i32_71
  v178
def k0_off7 (i : grid0.Coords) : Fin 3 → Nat :=
  let c0_72 : Index := 0#32
  let c0_73 : Index := 0#32
  let arg2 : BitVec 32 := BitVec.ofNat 32 (i 2).val
  let c0_i32_28 : BitVec 32 := 0#32
  let v77 : BitVec 1 := Scalar.cmpi .sgt arg2 c0_i32_28
  let v78 : BitVec 32 := Scalar.extui v77
  let c0_i32_29 : BitVec 32 := 0#32
  let v79 : BitVec 1 := Scalar.cmpi .slt arg2 c0_i32_29
  let v80 : BitVec 32 := Scalar.extui v79
  let v81 : BitVec 32 := Scalar.subi v78 v80
  let c4_i32_27 : BitVec 32 := 4#32
  let c0_i32_30 : BitVec 32 := 0#32
  let v82 : BitVec 1 := Scalar.cmpi .sgt c4_i32_27 c0_i32_30
  let v83 : BitVec 32 := Scalar.extui v82
  let c0_i32_31 : BitVec 32 := 0#32
  let v84 : BitVec 1 := Scalar.cmpi .slt c4_i32_27 c0_i32_31
  let v85 : BitVec 32 := Scalar.extui v84
  let v86 : BitVec 32 := Scalar.subi v83 v85
  let v87 : BitVec 1 := Scalar.cmpi .ne v81 v86
  let v88 : BitVec 32 := Scalar.remsi arg2 c4_i32_27
  let c0_i32_32 : BitVec 32 := 0#32
  let v89 : BitVec 1 := Scalar.cmpi .ne v88 c0_i32_32
  let v90 : BitVec 1 := Scalar.andi v87 v89
  let v76 : BitVec 32 := Scalar.divsi arg2 c4_i32_27
  let c1_i32_33 : BitVec 32 := 1#32
  let v91 : BitVec 32 := Scalar.subi v76 c1_i32_33
  let v92 : BitVec 32 := Scalar.select v90 v91 v76
  let c4_i32_34 : BitVec 32 := 4#32
  let v93 : BitVec 32 := Scalar.muli v92 c4_i32_34
  let c1_i32_57 : BitVec 32 := 1#32
  let v133 : BitVec 32 := Scalar.addi v93 c1_i32_57
  let c512_i32_71 : BitVec 32 := 512#32
  let v178 : BitVec 32 := Scalar.muli v133 c512_i32_71
  let v179 : BitVec 32 := v178
  let v180 : Index := Scalar.indexCast v179
  ![0, 0, v180.toNat]
def k0_off8 (i : grid0.Coords) : Fin 3 → Nat :=
  let c0_77 : Index := 0#32
  let arg2 : BitVec 32 := BitVec.ofNat 32 (i 2).val
  let c0_i32_28 : BitVec 32 := 0#32
  let v77 : BitVec 1 := Scalar.cmpi .sgt arg2 c0_i32_28
  let v78 : BitVec 32 := Scalar.extui v77
  let c0_i32_29 : BitVec 32 := 0#32
  let v79 : BitVec 1 := Scalar.cmpi .slt arg2 c0_i32_29
  let v80 : BitVec 32 := Scalar.extui v79
  let v81 : BitVec 32 := Scalar.subi v78 v80
  let c4_i32_27 : BitVec 32 := 4#32
  let c0_i32_30 : BitVec 32 := 0#32
  let v82 : BitVec 1 := Scalar.cmpi .sgt c4_i32_27 c0_i32_30
  let v83 : BitVec 32 := Scalar.extui v82
  let c0_i32_31 : BitVec 32 := 0#32
  let v84 : BitVec 1 := Scalar.cmpi .slt c4_i32_27 c0_i32_31
  let v85 : BitVec 32 := Scalar.extui v84
  let v86 : BitVec 32 := Scalar.subi v83 v85
  let v87 : BitVec 1 := Scalar.cmpi .ne v81 v86
  let v88 : BitVec 32 := Scalar.remsi arg2 c4_i32_27
  let c0_i32_32 : BitVec 32 := 0#32
  let v89 : BitVec 1 := Scalar.cmpi .ne v88 c0_i32_32
  let v90 : BitVec 1 := Scalar.andi v87 v89
  let v76 : BitVec 32 := Scalar.divsi arg2 c4_i32_27
  let c1_i32_33 : BitVec 32 := 1#32
  let v91 : BitVec 32 := Scalar.subi v76 c1_i32_33
  let v92 : BitVec 32 := Scalar.select v90 v91 v76
  let c4_i32_34 : BitVec 32 := 4#32
  let v93 : BitVec 32 := Scalar.muli v92 c4_i32_34
  let c1_i32_57 : BitVec 32 := 1#32
  let v133 : BitVec 32 := Scalar.addi v93 c1_i32_57
  let c512_i32_71 : BitVec 32 := 512#32
  let v178 : BitVec 32 := Scalar.muli v133 c512_i32_71
  let v179 : BitVec 32 := v178
  let v189 : Index := Scalar.indexCast v179
  let c0_78 : Index := 0#32
  ![0, v189.toNat, 0]
def k0_cond2 (i : grid0.Coords) : BitVec 1 :=
  let arg2 : BitVec 32 := BitVec.ofNat 32 (i 2).val
  let c2_i32_43 : BitVec 32 := 2#32
  let c0_i32_44 : BitVec 32 := 0#32
  let v108 : BitVec 1 := Scalar.cmpi .eq c2_i32_43 c0_i32_44
  let c1_i32_45 : BitVec 32 := 1#32
  let v109 : BitVec 32 := Scalar.select v108 c1_i32_45 c2_i32_43
  let v110 : BitVec 32 := Scalar.remsi arg2 v109
  let c0_i32_47 : BitVec 32 := 0#32
  let v112 : BitVec 1 := Scalar.cmpi .slt v110 c0_i32_47
  let c0_i32_48 : BitVec 32 := 0#32
  let v113 : BitVec 1 := Scalar.cmpi .slt v109 c0_i32_48
  let v114 : BitVec 1 := Scalar.xori v112 v113
  let c0_i32_46 : BitVec 32 := 0#32
  let v111 : BitVec 1 := Scalar.cmpi .ne v110 c0_i32_46
  let v115 : BitVec 1 := Scalar.andi v114 v111
  let v116 : BitVec 32 := Scalar.addi v110 v109
  let v117 : BitVec 32 := Scalar.select v115 v116 v110
  let c1_i32_49 : BitVec 32 := 1#32
  let v118 : BitVec 1 := Scalar.cmpi .eq v117 c1_i32_49
  let v119 : BitVec 32 := Scalar.extui v118
  let c0_i32_50 : BitVec 32 := 0#32
  let v120 : BitVec 1 := Scalar.cmpi .ne v119 c0_i32_50
  v120

def k0_mult11 (i : grid0.Coords) : BitVec 32 :=
  let arg2 : BitVec 32 := BitVec.ofNat 32 (i 2).val
  let c1_i32_57 : BitVec 32 := 1#32
  let v133 : BitVec 32 := Scalar.subi arg2 c1_i32_57
  let c512_i32 : BitVec 32 := 512#32
  let v134 : BitVec 32 := Scalar.muli v133 c512_i32
  v134
def k0_off9 (i : grid0.Coords) : Fin 3 → Nat :=
  let c0_58 : Index := 0#32
  let c0_59 : Index := 0#32
  let arg2 : BitVec 32 := BitVec.ofNat 32 (i 2).val
  let c1_i32_57 : BitVec 32 := 1#32
  let v133 : BitVec 32 := Scalar.subi arg2 c1_i32_57
  let c512_i32 : BitVec 32 := 512#32
  let v134 : BitVec 32 := Scalar.muli v133 c512_i32
  let v135 : BitVec 32 := v134
  let v136 : Index := Scalar.indexCast v135
  ![0, 0, v136.toNat]
def k0_off10 (i : grid0.Coords) : Fin 3 → Nat :=
  let c0_63 : Index := 0#32
  let arg2 : BitVec 32 := BitVec.ofNat 32 (i 2).val
  let c1_i32_57 : BitVec 32 := 1#32
  let v133 : BitVec 32 := Scalar.subi arg2 c1_i32_57
  let c512_i32 : BitVec 32 := 512#32
  let v134 : BitVec 32 := Scalar.muli v133 c512_i32
  let v135 : BitVec 32 := v134
  let v145 : Index := Scalar.indexCast v135
  let c0_64 : Index := 0#32
  ![0, v145.toNat, 0]
def k0_mult12 (i : grid0.Coords) : BitVec 32 :=
  let arg2 : BitVec 32 := BitVec.ofNat 32 (i 2).val
  let c512_i32_71 : BitVec 32 := 512#32
  let v178 : BitVec 32 := Scalar.muli arg2 c512_i32_71
  v178
def k0_off11 (i : grid0.Coords) : Fin 3 → Nat :=
  let c0_72 : Index := 0#32
  let c0_73 : Index := 0#32
  let arg2 : BitVec 32 := BitVec.ofNat 32 (i 2).val
  let c512_i32_71 : BitVec 32 := 512#32
  let v178 : BitVec 32 := Scalar.muli arg2 c512_i32_71
  let v179 : BitVec 32 := v178
  let v180 : Index := Scalar.indexCast v179
  ![0, 0, v180.toNat]
def k0_off12 (i : grid0.Coords) : Fin 3 → Nat :=
  let c0_78 : Index := 0#32
  let arg2 : BitVec 32 := BitVec.ofNat 32 (i 2).val
  let c512_i32_71 : BitVec 32 := 512#32
  let v178 : BitVec 32 := Scalar.muli arg2 c512_i32_71
  let v179 : BitVec 32 := v178
  let v194 : Index := Scalar.indexCast v179
  let c0_79 : Index := 0#32
  ![0, v194.toNat, 0]
def k0_mult13 (i : grid0.Coords) : BitVec 32 :=
  let arg2 : BitVec 32 := BitVec.ofNat 32 (i 2).val
  let c512_i32 : BitVec 32 := 512#32
  let v133 : BitVec 32 := Scalar.muli arg2 c512_i32
  v133
def k0_off13 (i : grid0.Coords) : Fin 3 → Nat :=
  let c0_57 : Index := 0#32
  let c0_58 : Index := 0#32
  let arg2 : BitVec 32 := BitVec.ofNat 32 (i 2).val
  let c512_i32 : BitVec 32 := 512#32
  let v133 : BitVec 32 := Scalar.muli arg2 c512_i32
  let v134 : BitVec 32 := v133
  let v135 : Index := Scalar.indexCast v134
  ![0, 0, v135.toNat]
def k0_off14 (i : grid0.Coords) : Fin 3 → Nat :=
  let c0_63 : Index := 0#32
  let arg2 : BitVec 32 := BitVec.ofNat 32 (i 2).val
  let c512_i32 : BitVec 32 := 512#32
  let v133 : BitVec 32 := Scalar.muli arg2 c512_i32
  let v134 : BitVec 32 := v133
  let v149 : Index := Scalar.indexCast v134
  let c0_64 : Index := 0#32
  ![0, v149.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, c0_i32.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== FoxRefIdeal.lean ====
abbrev S16x4096x512 : Shape := ⟨3, ![16, 4096, 512]⟩
abbrev S16x4096x8 : Shape := ⟨3, ![16, 4096, 8]⟩
abbrev S16x4096x8x64 : Shape := ⟨4, ![16, 4096, 8, 64]⟩
abbrev S16x8x4096x64 : Shape := ⟨4, ![16, 8, 4096, 64]⟩
abbrev S16x8x4096 : Shape := ⟨3, ![16, 8, 4096]⟩
abbrev S4096 : Shape := ⟨1, ![4096]⟩
abbrev S16x8x4096x4096 : Shape := ⟨4, ![16, 8, 4096, 4096]⟩
abbrev S_ : Shape := ⟨0, ![]⟩
abbrev S16x8x4096x1 : Shape := ⟨4, ![16, 8, 4096, 1]⟩
abbrev S16x8x1x4096 : Shape := ⟨4, ![16, 8, 1, 4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 50
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096x512, .f32⟩
  | .hbm, ⟨3, _⟩ => ⟨S16x4096x8, .f32⟩
  | .hbm, ⟨4, _⟩ => ⟨S16x4096x8x64, .f32⟩
  | .hbm, ⟨5, _⟩ => ⟨S16x8x4096x64, .f32⟩
  | .hbm, ⟨6, _⟩ => ⟨S16x4096x8x64, .f32⟩
  | .hbm, ⟨7, _⟩ => ⟨S16x8x4096x64, .f32⟩
  | .hbm, ⟨8, _⟩ => ⟨S16x4096x8x64, .f32⟩
  | .hbm, ⟨9, _⟩ => ⟨S16x8x4096x64, .f32⟩
  | .hbm, ⟨10, _⟩ => ⟨S16x8x4096, .f32⟩
  | .hbm, ⟨11, _⟩ => ⟨S4096, .i32⟩
  | .hbm, ⟨12, _⟩ => ⟨S16x8x4096x4096, .f32⟩
  | .hbm, ⟨13, _⟩ => ⟨S_, .f32⟩
  | .hbm, ⟨14, _⟩ => ⟨S16x8x4096x4096, .f32⟩
  | .hbm, ⟨15, _⟩ => ⟨S16x8x4096x4096, .f32⟩
  | .hbm, ⟨16, _⟩ => ⟨S16x8x4096x1, .f32⟩
  | .hbm, ⟨17, _⟩ => ⟨S16x8x1x4096, .f32⟩
  | .hbm, ⟨18, _⟩ => ⟨S16x8x4096x4096, .f32⟩
  | .hbm, ⟨19, _⟩ => ⟨S16x8x4096x4096, .f32⟩
  | .hbm, ⟨20, _⟩ => ⟨S16x8x4096x4096, .f32⟩
  | .hbm, ⟨21, _⟩ => ⟨S16x8x4096x4096, .f32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S16x8x4096x4096, .i1⟩
  | .hbm, ⟨30, _⟩ => ⟨S16x8x4096x4096, .f32⟩
  | .hbm, ⟨31, _⟩ => ⟨S16x8x4096x4096, .f32⟩
  | .hbm, ⟨32, _⟩ => ⟨S_, .f32⟩
  | .hbm, ⟨33, _⟩ => ⟨S16x8x4096, .f32⟩
  | .hbm, ⟨34, _⟩ => ⟨S_, .f32⟩
  | .hbm, ⟨35, _⟩ => ⟨S16x8x4096, .f32⟩
  | .hbm, ⟨36, _⟩ => ⟨S16x8x4096, .f32⟩
  | .hbm, ⟨37, _⟩ => ⟨S16x8x4096x1, .f32⟩
  | .hbm, ⟨38, _⟩ => ⟨S16x8x4096x4096, .f32⟩
  | .hbm, ⟨39, _⟩ => ⟨S16x8x4096x4096, .f32⟩
  | .hbm, ⟨40, _⟩ => ⟨S16x8x4096x4096, .f32⟩
  | .hbm, ⟨41, _⟩ => ⟨S_, .f32⟩
  | .hbm, ⟨42, _⟩ => ⟨S16x8x4096, .f32⟩
  | .hbm, ⟨43, _⟩ => ⟨S16x8x4096x1, .f32⟩
  | .hbm, ⟨44, _⟩ => ⟨S16x8x4096x4096, .f32⟩
  | .hbm, ⟨45, _⟩ => ⟨S16x8x4096x4096, .f32⟩
  | .hbm, ⟨46, _⟩ => ⟨S16x8x4096x64, .f32⟩
  | .hbm, ⟨47, _⟩ => ⟨S16x4096x8x64, .f32⟩
  | .hbm, ⟨48, _⟩ => ⟨S16x4096x512, .f32⟩
  | .hbm, ⟨49, _⟩ => ⟨S16x4096x512, .bf16⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Diff.lean ====
abbrev S16x4096x512 : Shape := ⟨3, ![16, 4096, 512]⟩
abbrev S1x64 : Shape := ⟨2, ![1, 64]⟩
abbrev S1x128 : Shape := ⟨2, ![1, 128]⟩
abbrev S4 : Shape := ⟨1, ![4]⟩
abbrev S4096 : Shape := ⟨1, ![4096]⟩
abbrev S_ : Shape := ⟨0, ![]⟩
abbrev S4x1x1 : Shape := ⟨3, ![4, 1, 1]⟩
abbrev S128 : Shape := ⟨1, ![128]⟩
abbrev S1x4096x1 : Shape := ⟨3, ![1, 4096, 1]⟩
abbrev S4x4096x1 : Shape := ⟨3, ![4, 4096, 1]⟩
abbrev S4x4096x128 : Shape := ⟨3, ![4, 4096, 128]⟩
abbrev S1x4096 : Shape := ⟨2, ![1, 4096]⟩
abbrev S128x4096 : Shape := ⟨2, ![128, 4096]⟩
abbrev S128x1 : Shape := ⟨2, ![128, 1]⟩
abbrev S4x8x128 : Shape := ⟨3, ![4, 8, 128]⟩
abbrev S16x512x4096 : Shape := ⟨3, ![16, 512, 4096]⟩
abbrev S4x128 : Shape := ⟨2, ![4, 128]⟩
abbrev S64 : Shape := ⟨1, ![64]⟩
abbrev S1 : Shape := ⟨1, ![1]⟩
abbrev S2 : Shape := ⟨1, ![2]⟩
abbrev S1x512x128 : Shape := ⟨3, ![1, 512, 128]⟩
abbrev S1x128x4096 : Shape := ⟨3, ![1, 128, 4096]⟩
abbrev S1x4096x128 : Shape := ⟨3, ![1, 4096, 128]⟩
abbrev S1x8x128 : Shape := ⟨3, ![1, 8, 128]⟩
abbrev S512x128 : Shape := ⟨2, ![512, 128]⟩
abbrev S512x256 : Shape := ⟨2, ![512, 256]⟩
abbrev S1024x256 : Shape := ⟨2, ![1024, 256]⟩
abbrev S512x1 : Shape := ⟨2, ![512, 1]⟩
abbrev S1x128x512 : Shape := ⟨3, ![1, 128, 512]⟩
abbrev S128x512 : Shape := ⟨2, ![128, 512]⟩
abbrev S256x512 : Shape := ⟨2, ![256, 512]⟩
abbrev S1024x512 : Shape := ⟨2, ![1024, 512]⟩
abbrev S512x512 : Shape := ⟨2, ![512, 512]⟩
abbrev S512 : Shape := ⟨1, ![512]⟩
abbrev S1x1x1 : Shape := ⟨3, ![1, 1, 1]⟩
abbrev S1x1 : Shape := ⟨2, ![1, 1]⟩

abbrev nBuf : Space → Nat
  | .hbm => 176
  | .vmem => 15
  | .smem => 0
  | _ => 0

abbrev hbmTy0_0 (i : Nat) : BufTy := match i % 128 with
  | 0 => ⟨S16x4096x512, .f32⟩
  | 1 => ⟨S16x4096x512, .f32⟩
  | 2 => ⟨S16x4096x512, .f32⟩
  | 3 => ⟨S1x64, .f32⟩
  | 4 => ⟨S1x64, .f32⟩
  | 5 => ⟨S1x64, .f32⟩
  | 6 => ⟨S1x64, .f32⟩
  | 7 => ⟨S1x128, .f32⟩
  | 8 => ⟨S4, .f32⟩
  | 9 => ⟨S4096, .i32⟩
  | 10 => ⟨S_, .i32⟩
  | 11 => ⟨S_, .i32⟩
  | 12 => ⟨S4096, .i32⟩
  | 13 => ⟨S4096, .i32⟩
  | 14 => ⟨S4096, .i32⟩
  | 15 => ⟨S_, .i32⟩
  | 16 => ⟨S4096, .i32⟩
  | 17 => ⟨S4096, .i1⟩
  | 18 => ⟨S4096, .i32⟩
  | 19 => ⟨S4096, .i32⟩
  | 20 => ⟨S_, .i32⟩
  | 21 => ⟨S4096, .i32⟩
  | 22 => ⟨S4096, .i1⟩
  | 23 => ⟨S4096, .i1⟩
  | 24 => ⟨S_, .i32⟩
  | 25 => ⟨S4096, .i32⟩
  | 26 => ⟨S4096, .i32⟩
  | 27 => ⟨S4096, .i32⟩
  | 28 => ⟨S4096, .f32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S4096, .i32⟩
  | 36 => ⟨S4096, .i32⟩
  | 37 => ⟨S_, .i32⟩
  | 38 => ⟨S4096, .i32⟩
  | 39 => ⟨S4096, .i1⟩
  | 40 => ⟨S_, .i32⟩
  | 41 => ⟨S4096, .i32⟩
  | 42 => ⟨S4096, .i1⟩
  | 43 => ⟨S_, .i32⟩
  | 44 => ⟨S_, .i1⟩
  | 45 => ⟨S4096, .i1⟩
  | 46 => ⟨S4096, .i1⟩
  | 47 => ⟨S4096, .i1⟩
  | 48 => ⟨S4096, .i32⟩
  | 49 => ⟨S4096, .i32⟩
  | 50 => ⟨S4096, .i32⟩
  | 51 => ⟨S4096, .f32⟩
  | 52 => ⟨S4x1x1, .f32⟩
  | 53 => ⟨S128, .i32⟩
  | 54 => ⟨S4x1x1, .f32⟩
  | 55 => ⟨S_, .f32⟩
  | 56 => ⟨S4x1x1, .f32⟩
  | 57 => ⟨S4x1x1, .f32⟩
  | 58 => ⟨S1x4096x1, .f32⟩
  | 59 => ⟨S4x4096x1, .f32⟩
  | 60 => ⟨S4x4096x1, .f32⟩
  | 61 => ⟨S4x4096x1, .f32⟩
  | 62 => ⟨S4x1x1, .f32⟩
  | 63 => ⟨S1x4096x1, .f32⟩
  | 64 => ⟨S4x4096x1, .f32⟩
  | 65 => ⟨S4x4096x1, .f32⟩
  | 66 => ⟨S4x4096x1, .f32⟩
  | 67 => ⟨S_, .f32⟩
  | 68 => ⟨S4x1x1, .f32⟩
  | 69 => ⟨S4x1x1, .f32⟩
  | 70 => ⟨S_, .f32⟩
  | 71 => ⟨S4x4096x128, .f32⟩
  | 72 => ⟨S_, .i32⟩
  | 73 => ⟨S128, .i32⟩
  | 74 => ⟨S128, .i1⟩
  | 75 => ⟨S4x4096x128, .i1⟩
  | 76 => ⟨S4x4096x128, .f32⟩
  | 77 => ⟨S4x4096x128, .f32⟩
  | 78 => ⟨S_, .i32⟩
  | 79 => ⟨S128, .i32⟩
  | 80 => ⟨S128, .i1⟩
  | 81 => ⟨S4x4096x128, .i1⟩
  | 82 => ⟨S4x4096x128, .f32⟩
  | 83 => ⟨S4x4096x128, .f32⟩
  | 84 => ⟨S_, .i32⟩
  | 85 => ⟨S128, .i32⟩
  | 86 => ⟨S128, .i1⟩
  | 87 => ⟨S4x4096x128, .i1⟩
  | 88 => ⟨S4x4096x128, .f32⟩
  | 89 => ⟨S4x4096x128, .f32⟩
  | 90 => ⟨S_, .i32⟩
  | 91 => ⟨S128, .i32⟩
  | 92 => ⟨S128, .i1⟩
  | 93 => ⟨S4x4096x128, .i1⟩
  | 94 => ⟨S4x4096x128, .f32⟩
  | 95 => ⟨S4x4096x128, .f32⟩
  | 96 => ⟨S_, .f32⟩
  | 97 => ⟨S1x4096, .f32⟩
  | 98 => ⟨S_, .f32⟩
  | 99 => ⟨S1x4096, .f32⟩
  | 100 => ⟨S1x4096, .f32⟩
  | 101 => ⟨S1x4096, .f32⟩
  | 102 => ⟨S_, .f32⟩
  | 103 => ⟨S128x4096, .f32⟩
  | 104 => ⟨S128x1, .i32⟩
  | 105 => ⟨S_, .i32⟩
  | 106 => ⟨S128x1, .i32⟩
  | 107 => ⟨S128x1, .i1⟩
  | 108 => ⟨S128x4096, .i1⟩
  | 109 => ⟨S128x4096, .f32⟩
  | 110 => ⟨S128x4096, .f32⟩
  | 111 => ⟨S128x1, .i32⟩
  | 112 => ⟨S_, .i32⟩
  | 113 => ⟨S128x1, .i32⟩
  | 114 => ⟨S128x1, .i1⟩
  | 115 => ⟨S128x4096, .i1⟩
  | 116 => ⟨S128x4096, .f32⟩
  | 117 => ⟨S128x4096, .f32⟩
  | 118 => ⟨S128x1, .i32⟩
  | 119 => ⟨S_, .i32⟩
  | 120 => ⟨S128x1, .i32⟩
  | 121 => ⟨S128x1, .i1⟩
  | 122 => ⟨S128x4096, .i1⟩
  | 123 => ⟨S128x4096, .f32⟩
  | 124 => ⟨S128x4096, .f32⟩
  | 125 => ⟨S128x1, .i32⟩
  | 126 => ⟨S_, .i32⟩
  | 127 => ⟨S128x1, .i32⟩
  | _ => ⟨S16x4096x512, .f32⟩

abbrev hbmTy0_1 (i : Nat) : BufTy := match i % 128 with
  | 0 => ⟨S128x1, .i1⟩
  | 1 => ⟨S128x4096, .i1⟩
  | 2 => ⟨S128x4096, .f32⟩
  | 3 => ⟨S128x4096, .f32⟩
  | 4 => ⟨S4x1x1, .f32⟩
  | 5 => ⟨S4x8x128, .f32⟩
  | 6 => ⟨S4x4096x128, .bf16⟩
  | 7 => ⟨S128x4096, .bf16⟩
  | 8 => ⟨S_, .f32⟩
  | 9 => ⟨S16x4096x512, .f32⟩
  | 10 => ⟨S16x4096x512, .f32⟩
  | 11 => ⟨S16x4096x512, .bf16⟩
  | 12 => ⟨S16x512x4096, .f32⟩
  | 13 => ⟨S16x512x4096, .bf16⟩
  | 14 => ⟨S16x4096x512, .bf16⟩
  | 15 => ⟨S_, .f32⟩
  | 16 => ⟨S4x128, .f32⟩
  | 17 => ⟨S64, .f32⟩
  | 18 => ⟨S_, .i32⟩
  | 19 => ⟨S1, .i32⟩
  | 20 => ⟨S_, .i32⟩
  | 21 => ⟨S1, .i32⟩
  | 22 => ⟨S2, .i32⟩
  | 23 => ⟨S4x128, .f32⟩
  | 24 => ⟨S64, .f32⟩
  | 25 => ⟨S_, .i32⟩
  | 26 => ⟨S1, .i32⟩
  | 27 => ⟨S_, .i32⟩
  | 28 => ⟨S1, .i32⟩
  | 29 => ⟨S2, .i32⟩
  | 30 => ⟨S4x128, .f32⟩
  | 31 => ⟨S64, .f32⟩
  | 32 => ⟨S_, .i32⟩
  | 33 => ⟨S1, .i32⟩
  | 34 => ⟨S_, .i32⟩
  | 35 => ⟨S1, .i32⟩
  | 36 => ⟨S2, .i32⟩
  | 37 => ⟨S4x128, .f32⟩
  | 38 => ⟨S64, .f32⟩
  | 39 => ⟨S_, .i32⟩
  | 40 => ⟨S1, .i32⟩
  | 41 => ⟨S_, .i32⟩
  | 42 => ⟨S1, .i32⟩
  | 43 => ⟨S2, .i32⟩
  | 44 => ⟨S4x128, .f32⟩
  | 45 => ⟨S128, .f32⟩
  | 46 => ⟨S1x128, .f32⟩
  | 47 => ⟨S16x4096x512, .bf16⟩
  | _ => ⟨S16x4096x512, .f32⟩

abbrev hbmTy (i : Nat) : BufTy := match i / 128 with
  | 0 => hbmTy0_0 i
  | 1 => hbmTy0_1 i
  | _ => ⟨S16x4096x512, .f32⟩

abbrev bufTy : (tb : Table) → Fin (tcTables nBuf tb) → BufTy
  | .hbm, ⟨i, _⟩ => hbmTy i
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x128x4096, .bf16⟩
  | .local _ .vmem, ⟨5, _⟩ => ⟨S1x128x4096, .bf16⟩
  | .local _ .vmem, ⟨6, _⟩ => ⟨S128x4096, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x8x128, .f32⟩
  | .local _ .vmem, ⟨10, _⟩ => ⟨S1x8x128, .f32⟩
  | .local _ .vmem, ⟨11, _⟩ => ⟨S4x128, .f32⟩
  | .local _ .vmem, ⟨12, _⟩ => ⟨S1x128, .f32⟩
  | .local _ .vmem, ⟨13, _⟩ => ⟨S1x512x128, .bf16⟩
  | .local _ .vmem, ⟨14, _⟩ => ⟨S1x512x128, .bf16⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_1 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_cst_2 : Ref sig .tc := ⟨.hbm, 67, rfl⟩
abbrev main_v19 : Ref sig .tc := ⟨.hbm, 68, rfl⟩
abbrev main_v20 : Ref sig .tc := ⟨.hbm, 69, rfl⟩
abbrev main_cst_3 : Ref sig .tc := ⟨.hbm, 70, rfl⟩
abbrev main_v21 : Ref sig .tc := ⟨.hbm, 71, rfl⟩
abbrev main_c_4 : Ref sig .tc := ⟨.hbm, 72, rfl⟩
abbrev main_v22 : Ref sig .tc := ⟨.hbm, 73, rfl⟩
abbrev main_v23 : Ref sig .tc := ⟨.hbm, 74, rfl⟩
abbrev main_call2_v0 : Ref sig .tc := ⟨.hbm, 75, rfl⟩
abbrev main_call2_v1 : Ref sig .tc := ⟨.hbm, 76, rfl⟩
abbrev main_v24 : Ref sig .tc := ⟨.hbm, 77, rfl⟩
abbrev main_c_5 : Ref sig .tc := ⟨.hbm, 78, rfl⟩
abbrev main_v25 : Ref sig .tc := ⟨.hbm, 79, rfl⟩
abbrev main_v26 : Ref sig .tc := ⟨.hbm, 80, rfl⟩
abbrev main_call3_v0 : Ref sig .tc := ⟨.hbm, 81, rfl⟩
abbrev main_call3_v1 : Ref sig .tc := ⟨.hbm, 82, rfl⟩
abbrev main_v27 : Ref sig .tc := ⟨.hbm, 83, rfl⟩
abbrev main_c_6 : Ref sig .tc := ⟨.hbm, 84, rfl⟩
abbrev main_v28 : Ref sig .tc := ⟨.hbm, 85, rfl⟩
abbrev main_v29 : Ref sig .tc := ⟨.hbm, 86, rfl⟩
abbrev main_call4_v0 : Ref sig .tc := ⟨.hbm, 87, rfl⟩
abbrev main_call4_v1 : Ref sig .tc := ⟨.hbm, 88, rfl⟩
abbrev main_v30 : Ref sig .tc := ⟨.hbm, 89, rfl⟩
abbrev main_c_7 : Ref sig .tc := ⟨.hbm, 90, rfl⟩
abbrev main_v31 : Ref sig .tc := ⟨.hbm, 91, rfl⟩
abbrev main_v32 : Ref sig .tc := ⟨.hbm, 92, rfl⟩
abbrev main_call5_v0 : Ref sig .tc := ⟨.hbm, 93, rfl⟩
abbrev main_call5_v1 : Ref sig .tc := ⟨.hbm, 94, rfl⟩
abbrev main_v33 : Ref sig .tc := ⟨.hbm, 95, rfl⟩
abbrev main_cst_8 : Ref sig .tc := ⟨.hbm, 96, rfl⟩
abbrev main_v34 : Ref sig .tc := ⟨.hbm, 97, rfl⟩
abbrev main_cst_9 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_cst_10 : Ref sig .tc := ⟨.hbm, 102, rfl⟩
abbrev main_v38 : Ref sig .tc := ⟨.hbm, 103, rfl⟩
abbrev main_v39 : Ref sig .tc := ⟨.hbm, 104, rfl⟩
abbrev main_c_11 : Ref sig .tc := ⟨.hbm, 105, rfl⟩
abbrev main_v40 : Ref sig .tc := ⟨.hbm, 106, rfl⟩
abbrev main_v41 : Ref sig .tc := ⟨.hbm, 107, rfl⟩
abbrev main_call6_v0 : Ref sig .tc := ⟨.hbm, 108, rfl⟩
abbrev main_call6_v1 : Ref sig .tc := ⟨.hbm, 109, rfl⟩
abbrev main_v42 : Ref sig .tc := ⟨.hbm, 110, rfl⟩
abbrev main_v43 : Ref sig .tc := ⟨.hbm, 111, rfl⟩
abbrev main_c_12 : Ref sig .tc := ⟨.hbm, 112, rfl⟩
abbrev main_v44 : Ref sig .tc := ⟨.hbm, 113, rfl⟩
abbrev main_v45 : Ref sig .tc := ⟨.hbm, 114, rfl⟩
abbrev main_call7_v0 : Ref sig .tc := ⟨.hbm, 115, rfl⟩
abbrev main_call7_v1 : Ref sig .tc := ⟨.hbm, 116, rfl⟩
abbrev main_v46 : Ref sig .tc := ⟨.hbm, 117, rfl⟩
abbrev main_v47 : Ref sig .tc := ⟨.hbm, 118, rfl⟩
abbrev main_c_13 : Ref sig .tc := ⟨.hbm, 119, rfl⟩
abbrev main_v48 : Ref sig .tc := ⟨.hbm, 120, rfl⟩
abbrev main_v49 : Ref sig .tc := ⟨.hbm, 121, rfl⟩
abbrev main_call8_v0 : Ref sig .tc := ⟨.hbm, 122, rfl⟩
abbrev main_call8_v1 : Ref sig .tc := ⟨.hbm, 123, rfl⟩
abbrev main_v50 : Ref sig .tc := ⟨.hbm, 124, rfl⟩
abbrev main_v51 : Ref sig .tc := ⟨.hbm, 125, rfl⟩
abbrev main_c_14 : Ref sig .tc := ⟨.hbm, 126, rfl⟩
abbrev main_v52 : Ref sig .tc := ⟨.hbm, 127, rfl⟩
abbrev main_v53 : Ref sig .tc := ⟨.hbm, 128, rfl⟩
abbrev main_call9_v0 : Ref sig .tc := ⟨.hbm, 129, rfl⟩
abbrev main_call9_v1 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_cst_15 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_cst_16 : Ref sig .tc := ⟨.hbm, 143, rfl⟩
abbrev main_v65 : Ref sig .tc := ⟨.hbm, 144, rfl⟩
abbrev main_v66 : Ref sig .tc := ⟨.hbm, 145, rfl⟩
abbrev main_c_17 : Ref sig .tc := ⟨.hbm, 146, rfl⟩
abbrev main_v67 : Ref sig .tc := ⟨.hbm, 147, rfl⟩
abbrev main_c_18 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_c_19 : Ref sig .tc := ⟨.hbm, 153, rfl⟩
abbrev main_v72 : Ref sig .tc := ⟨.hbm, 154, rfl⟩
abbrev main_c_20 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_c_21 : Ref sig .tc := ⟨.hbm, 160, rfl⟩
abbrev main_v77 : Ref sig .tc := ⟨.hbm, 161, rfl⟩
abbrev main_c_22 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_c_23 : Ref sig .tc := ⟨.hbm, 167, rfl⟩
abbrev main_v82 : Ref sig .tc := ⟨.hbm, 168, rfl⟩
abbrev main_c_24 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![16, 4, 8], ![false, false, false]⟩

@[reducible] def k0_t1_loop (i : grid0.Coords) : Scf.Loop 32 :=
  let c0_i32_16 : BitVec 32 := 0#32
  let arg2 : BitVec 32 := BitVec.ofNat 32 (i 2).val
  let c0_i32 : BitVec 32 := 0#32
  let v25 : BitVec 1 := Scalar.cmpi .sgt arg2 c0_i32
  let v26 : BitVec 32 := Scalar.extui v25
  let c0_i32_12 : BitVec 32 := 0#32
  let v27 : BitVec 1 := Scalar.cmpi .slt arg2 c0_i32_12
  let v28 : BitVec 32 := Scalar.extui v27
  let v29 : BitVec 32 := Scalar.subi v26 v28
  let c2_i32 : BitVec 32 := 2#32
  let c0_i32_13 : BitVec 32 := 0#32
  let v30 : BitVec 1 := Scalar.cmpi .sgt c2_i32 c0_i32_13
  let v31 : BitVec 32 := Scalar.extui v30
  let c0_i32_14 : BitVec 32 := 0#32
  let v32 : BitVec 1 := Scalar.cmpi .slt c2_i32 c0_i32_14
  let v33 : BitVec 32 := Scalar.extui v32
  let v34 : BitVec 32 := Scalar.subi v31 v33
  let v35 : BitVec 1 := Scalar.cmpi .ne v29 v34
  let v36 : BitVec 32 := Scalar.remsi arg2 c2_i32
  let c0_i32_15 : BitVec 32 := 0#32
  let v37 : BitVec 1 := Scalar.cmpi .ne v36 c0_i32_15
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_16
  let c1_i32_17 : BitVec 32 := 1#32
  let v43 : BitVec 32 := Scalar.divsi v41 c1_i32_17
  let v44 : BitVec 32 := Scalar.muli v43 c1_i32_17
  let v45 : BitVec 32 := Scalar.addi c0_i32_16 v44
  let c1_i32_18 : BitVec 32 := 1#32
  ⟨c0_i32_16, v45, c1_i32_18⟩
def k0_mult1 (i : grid0.Coords) (k0_t1 : Fin (k0_t1_loop i).trips) : BitVec 32 :=
  let c2_i32_44 : BitVec 32 := 2#32
  let c0_i32_16 : BitVec 32 := 0#32
  let c1_i32_18 : BitVec 32 := 1#32
  let arg12 : BitVec 32 := Scf.iv c0_i32_16 c1_i32_18 k0_t1
  let v110 : BitVec 32 := Scalar.muli c2_i32_44 arg12
  let c512_i32 : BitVec 32 := 512#32
  let v111 : BitVec 32 := Scalar.muli v110 c512_i32
  v111
def k0_off1 (i : grid0.Coords) (k0_t1 : Fin (k0_t1_loop i).trips) : Fin 3 → Nat :=
  let c0_45 : Index := 0#32
  let c0_46 : Index := 0#32
  let c2_i32_44 : BitVec 32 := 2#32
  let c0_i32_16 : BitVec 32 := 0#32
  let c1_i32_18 : BitVec 32 := 1#32
  let arg12 : BitVec 32 := Scf.iv c0_i32_16 c1_i32_18 k0_t1
  let v110 : BitVec 32 := Scalar.muli c2_i32_44 arg12
  let c512_i32 : BitVec 32 := 512#32
  let v111 : BitVec 32 := Scalar.muli v110 c512_i32
  let v112 : BitVec 32 := v111
  let v113 : Index := Scalar.indexCast v112
  ![0, 0, v113.toNat]
def k0_off2 (i : grid0.Coords) (k0_t1 : Fin (k0_t1_loop i).trips) : Fin 2 → Nat :=
  let c0_47 : Index := 0#32
  let c2_i32_44 : BitVec 32 := 2#32
  let c0_i32_16 : BitVec 32 := 0#32
  let c1_i32_18 : BitVec 32 := 1#32
  let arg12 : BitVec 32 := Scf.iv c0_i32_16 c1_i32_18 k0_t1
  let v110 : BitVec 32 := Scalar.muli c2_i32_44 arg12
  let c512_i32 : BitVec 32 := 512#32
  let v111 : BitVec 32 := Scalar.muli v110 c512_i32
  let v112 : BitVec 32 := v111
  let v116 : Index := Scalar.indexCast v112
  ![0, v116.toNat]
def k0_off3 (i : grid0.Coords) (k0_t1 : Fin (k0_t1_loop i).trips) : Fin 3 → Nat :=
  let c0_49 : Index := 0#32
  let c2_i32_44 : BitVec 32 := 2#32
  let c0_i32_16 : BitVec 32 := 0#32
  let c1_i32_18 : BitVec 32 := 1#32
  let arg12 : BitVec 32 := Scf.iv c0_i32_16 c1_i32_18 k0_t1
  let v110 : BitVec 32 := Scalar.muli c2_i32_44 arg12
  let c512_i32 : BitVec 32 := 512#32
  let v111 : BitVec 32 := Scalar.muli v110 c512_i32
  let v112 : BitVec 32 := v111
  let v121 : Index := Scalar.indexCast v112
  let c0_50 : Index := 0#32
  ![0, v121.toNat, 0]
def k0_mult2 (i : grid0.Coords) (k0_t1 : Fin (k0_t1_loop i).trips) : BitVec 32 :=
  let c2_i32_42 : BitVec 32 := 2#32
  let c0_i32_16 : BitVec 32 := 0#32
  let c1_i32_18 : BitVec 32 := 1#32
  let arg12 : BitVec 32 := Scf.iv c0_i32_16 c1_i32_18 k0_t1
  let v108 : BitVec 32 := Scalar.muli c2_i32_42 arg12
  let c1_i32_43 : BitVec 32 := 1#32
  let v109 : BitVec 32 := Scalar.addi v108 c1_i32_43
  let c512_i32_55 : BitVec 32 := 512#32
  let v153 : BitVec 32 := Scalar.muli v109 c512_i32_55
  v153
def k0_off4 (i : grid0.Coords) (k0_t1 : Fin (k0_t1_loop i).trips) : Fin 3 → Nat :=
  let c0_56 : Index := 0#32
  let c0_57 : Index := 0#32
  let c2_i32_42 : BitVec 32 := 2#32
  let c0_i32_16 : BitVec 32 := 0#32
  let c1_i32_18 : BitVec 32 := 1#32
  let arg12 : BitVec 32 := Scf.iv c0_i32_16 c1_i32_18 k0_t1
  let v108 : BitVec 32 := Scalar.muli c2_i32_42 arg12
  let c1_i32_43 : BitVec 32 := 1#32
  let v109 : BitVec 32 := Scalar.addi v108 c1_i32_43
  let c512_i32_55 : BitVec 32 := 512#32
  let v153 : BitVec 32 := Scalar.muli v109 c512_i32_55
  let v154 : BitVec 32 := v153
  let v155 : Index := Scalar.indexCast v154
  ![0, 0, v155.toNat]
def k0_off5 (i : grid0.Coords) (k0_t1 : Fin (k0_t1_loop i).trips) : Fin 2 → Nat :=
  let c0_58 : Index := 0#32
  let c2_i32_42 : BitVec 32 := 2#32
  let c0_i32_16 : BitVec 32 := 0#32
  let c1_i32_18 : BitVec 32 := 1#32
  let arg12 : BitVec 32 := Scf.iv c0_i32_16 c1_i32_18 k0_t1
  let v108 : BitVec 32 := Scalar.muli c2_i32_42 arg12
  let c1_i32_43 : BitVec 32 := 1#32
  let v109 : BitVec 32 := Scalar.addi v108 c1_i32_43
  let c512_i32_55 : BitVec 32 := 512#32
  let v153 : BitVec 32 := Scalar.muli v109 c512_i32_55
  let v154 : BitVec 32 := v153
  let v158 : Index := Scalar.indexCast v154
  ![0, v158.toNat]
def k0_off6 (i : grid0.Coords) (k0_t1 : Fin (k0_t1_loop i).trips) : Fin 3 → Nat :=
  let c0_60 : Index := 0#32
  let c2_i32_42 : BitVec 32 := 2#32
  let c0_i32_16 : BitVec 32 := 0#32
  let c1_i32_18 : BitVec 32 := 1#32
  let arg12 : BitVec 32 := Scf.iv c0_i32_16 c1_i32_18 k0_t1
  let v108 : BitVec 32 := Scalar.muli c2_i32_42 arg12
  let c1_i32_43 : BitVec 32 := 1#32
  let v109 : BitVec 32 := Scalar.addi v108 c1_i32_43
  let c512_i32_55 : BitVec 32 := 512#32
  let v153 : BitVec 32 := Scalar.muli v109 c512_i32_55
  let v154 : BitVec 32 := v153
  let v163 : Index := Scalar.indexCast v154
  let c0_61 : Index := 0#32
  ![0, v163.toNat, 0]
@[reducible] def k0_t2_loop (i : grid0.Coords) : Scf.Loop 32 :=
  let c0_i32_16 : BitVec 32 := 0#32
  let arg2 : BitVec 32 := BitVec.ofNat 32 (i 2).val
  let c0_i32 : BitVec 32 := 0#32
  let v25 : BitVec 1 := Scalar.cmpi .sgt arg2 c0_i32
  let v26 : BitVec 32 := Scalar.extui v25
  let c0_i32_12 : BitVec 32 := 0#32
  let v27 : BitVec 1 := Scalar.cmpi .slt arg2 c0_i32_12
  let v28 : BitVec 32 := Scalar.extui v27
  let v29 : BitVec 32 := Scalar.subi v26 v28
  let c2_i32 : BitVec 32 := 2#32
  let c0_i32_13 : BitVec 32 := 0#32
  let v30 : BitVec 1 := Scalar.cmpi .sgt c2_i32 c0_i32_13
  let v31 : BitVec 32 := Scalar.extui v30
  let c0_i32_14 : BitVec 32 := 0#32
  let v32 : BitVec 1 := Scalar.cmpi .slt c2_i32 c0_i32_14
  let v33 : BitVec 32 := Scalar.extui v32
  let v34 : BitVec 32 := Scalar.subi v31 v33
  let v35 : BitVec 1 := Scalar.cmpi .ne v29 v34
  let v36 : BitVec 32 := Scalar.remsi arg2 c2_i32
  let c0_i32_15 : BitVec 32 := 0#32
  let v37 : BitVec 1 := Scalar.cmpi .ne v36 c0_i32_15
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_16
  let c1_i32_17 : BitVec 32 := 1#32
  let v43 : BitVec 32 := Scalar.divsi v41 c1_i32_17
  let v44 : BitVec 32 := Scalar.muli v43 c1_i32_17
  let v45 : BitVec 32 := Scalar.addi c0_i32_16 v44
  let v42 : BitVec 32 := Scalar.addi c0_i32_16 v41
  let c1_i32_19 : BitVec 32 := 1#32
  ⟨v45, v42, c1_i32_19⟩
def k0_mult3 (i : grid0.Coords) (k0_t2 : Fin (k0_t2_loop i).trips) : BitVec 32 :=
  let c2_i32_44 : BitVec 32 := 2#32
  let c0_i32_16 : BitVec 32 := 0#32
  let arg2 : BitVec 32 := BitVec.ofNat 32 (i 2).val
  let c0_i32 : BitVec 32 := 0#32
  let v25 : BitVec 1 := Scalar.cmpi .sgt arg2 c0_i32
  let v26 : BitVec 32 := Scalar.extui v25
  let c0_i32_12 : BitVec 32 := 0#32
  let v27 : BitVec 1 := Scalar.cmpi .slt arg2 c0_i32_12
  let v28 : BitVec 32 := Scalar.extui v27
  let v29 : BitVec 32 := Scalar.subi v26 v28
  let c2_i32 : BitVec 32 := 2#32
  let c0_i32_13 : BitVec 32 := 0#32
  let v30 : BitVec 1 := Scalar.cmpi .sgt c2_i32 c0_i32_13
  let v31 : BitVec 32 := Scalar.extui v30
  let c0_i32_14 : BitVec 32 := 0#32
  let v32 : BitVec 1 := Scalar.cmpi .slt c2_i32 c0_i32_14
  let v33 : BitVec 32 := Scalar.extui v32
  let v34 : BitVec 32 := Scalar.subi v31 v33
  let v35 : BitVec 1 := Scalar.cmpi .ne v29 v34
  let v36 : BitVec 32 := Scalar.remsi arg2 c2_i32
  let c0_i32_15 : BitVec 32 := 0#32
  let v37 : BitVec 1 := Scalar.cmpi .ne v36 c0_i32_15
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_16
  let c1_i32_17 : BitVec 32 := 1#32
  let v43 : BitVec 32 := Scalar.divsi v41 c1_i32_17
  let v44 : BitVec 32 := Scalar.muli v43 c1_i32_17
  let v45 : BitVec 32 := Scalar.addi c0_i32_16 v44
  let c1_i32_19 : BitVec 32 := 1#32
  let arg12 : BitVec 32 := Scf.iv v45 c1_i32_19 k0_t2
  let v110 : BitVec 32 := Scalar.muli c2_i32_44 arg12
  let c512_i32 : BitVec 32 := 512#32
  let v111 : BitVec 32 := Scalar.muli v110 c512_i32
  v111
def k0_off7 (i : grid0.Coords) (k0_t2 : Fin (k0_t2_loop i).trips) : Fin 3 → Nat :=
  let c0_45 : Index := 0#32
  let c0_46 : Index := 0#32
  let c2_i32_44 : BitVec 32 := 2#32
  let c0_i32_16 : BitVec 32 := 0#32
  let arg2 : BitVec 32 := BitVec.ofNat 32 (i 2).val
  let c0_i32 : BitVec 32 := 0#32
  let v25 : BitVec 1 := Scalar.cmpi .sgt arg2 c0_i32
  let v26 : BitVec 32 := Scalar.extui v25
  let c0_i32_12 : BitVec 32 := 0#32
  let v27 : BitVec 1 := Scalar.cmpi .slt arg2 c0_i32_12
  let v28 : BitVec 32 := Scalar.extui v27
  let v29 : BitVec 32 := Scalar.subi v26 v28
  let c2_i32 : BitVec 32 := 2#32
  let c0_i32_13 : BitVec 32 := 0#32
  let v30 : BitVec 1 := Scalar.cmpi .sgt c2_i32 c0_i32_13
  let v31 : BitVec 32 := Scalar.extui v30
  let c0_i32_14 : BitVec 32 := 0#32
  let v32 : BitVec 1 := Scalar.cmpi .slt c2_i32 c0_i32_14
  let v33 : BitVec 32 := Scalar.extui v32
  let v34 : BitVec 32 := Scalar.subi v31 v33
  let v35 : BitVec 1 := Scalar.cmpi .ne v29 v34
  let v36 : BitVec 32 := Scalar.remsi arg2 c2_i32
  let c0_i32_15 : BitVec 32 := 0#32
  let v37 : BitVec 1 := Scalar.cmpi .ne v36 c0_i32_15
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_16
  let c1_i32_17 : BitVec 32 := 1#32
  let v43 : BitVec 32 := Scalar.divsi v41 c1_i32_17
  let v44 : BitVec 32 := Scalar.muli v43 c1_i32_17
  let v45 : BitVec 32 := Scalar.addi c0_i32_16 v44
  let c1_i32_19 : BitVec 32 := 1#32
  let arg12 : BitVec 32 := Scf.iv v45 c1_i32_19 k0_t2
  let v110 : BitVec 32 := Scalar.muli c2_i32_44 arg12
  let c512_i32 : BitVec 32 := 512#32
  let v111 : BitVec 32 := Scalar.muli v110 c512_i32
  let v112 : BitVec 32 := v111
  let v113 : Index := Scalar.indexCast v112
  ![0, 0, v113.toNat]
def k0_off8 (i : grid0.Coords) (k0_t2 : Fin (k0_t2_loop i).trips) : Fin 2 → Nat :=
  let c0_47 : Index := 0#32
  let c2_i32_44 : BitVec 32 := 2#32
  let c0_i32_16 : BitVec 32 := 0#32
  let arg2 : BitVec 32 := BitVec.ofNat 32 (i 2).val
  let c0_i32 : BitVec 32 := 0#32
  let v25 : BitVec 1 := Scalar.cmpi .sgt arg2 c0_i32
  let v26 : BitVec 32 := Scalar.extui v25
  let c0_i32_12 : BitVec 32 := 0#32
  let v27 : BitVec 1 := Scalar.cmpi .slt arg2 c0_i32_12
  let v28 : BitVec 32 := Scalar.extui v27
  let v29 : BitVec 32 := Scalar.subi v26 v28
  let c2_i32 : BitVec 32 := 2#32
  let c0_i32_13 : BitVec 32 := 0#32
  let v30 : BitVec 1 := Scalar.cmpi .sgt c2_i32 c0_i32_13
  let v31 : BitVec 32 := Scalar.extui v30
  let c0_i32_14 : BitVec 32 := 0#32
  let v32 : BitVec 1 := Scalar.cmpi .slt c2_i32 c0_i32_14
  let v33 : BitVec 32 := Scalar.extui v32
  let v34 : BitVec 32 := Scalar.subi v31 v33
  let v35 : BitVec 1 := Scalar.cmpi .ne v29 v34
  let v36 : BitVec 32 := Scalar.remsi arg2 c2_i32
  let c0_i32_15 : BitVec 32 := 0#32
  let v37 : BitVec 1 := Scalar.cmpi .ne v36 c0_i32_15
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_16
  let c1_i32_17 : BitVec 32 := 1#32
  let v43 : BitVec 32 := Scalar.divsi v41 c1_i32_17
  let v44 : BitVec 32 := Scalar.muli v43 c1_i32_17
  let v45 : BitVec 32 := Scalar.addi c0_i32_16 v44
  let c1_i32_19 : BitVec 32 := 1#32
  let arg12 : BitVec 32 := Scf.iv v45 c1_i32_19 k0_t2
  let v110 : BitVec 32 := Scalar.muli c2_i32_44 arg12
  let c512_i32 : BitVec 32 := 512#32
  let v111 : BitVec 32 := Scalar.muli v110 c512_i32
  let v112 : BitVec 32 := v111
  let v116 : Index := Scalar.indexCast v112
  ![0, v116.toNat]
def k0_off9 (i : grid0.Coords) (k0_t2 : Fin (k0_t2_loop i).trips) : Fin 3 → Nat :=
  let c0_49 : Index := 0#32
  let c2_i32_44 : BitVec 32 := 2#32
  let c0_i32_16 : BitVec 32 := 0#32
  let arg2 : BitVec 32 := BitVec.ofNat 32 (i 2).val
  let c0_i32 : BitVec 32 := 0#32
  let v25 : BitVec 1 := Scalar.cmpi .sgt arg2 c0_i32
  let v26 : BitVec 32 := Scalar.extui v25
  let c0_i32_12 : BitVec 32 := 0#32
  let v27 : BitVec 1 := Scalar.cmpi .slt arg2 c0_i32_12
  let v28 : BitVec 32 := Scalar.extui v27
  let v29 : BitVec 32 := Scalar.subi v26 v28
  let c2_i32 : BitVec 32 := 2#32
  let c0_i32_13 : BitVec 32 := 0#32
  let v30 : BitVec 1 := Scalar.cmpi .sgt c2_i32 c0_i32_13
  let v31 : BitVec 32 := Scalar.extui v30
  let c0_i32_14 : BitVec 32 := 0#32
  let v32 : BitVec 1 := Scalar.cmpi .slt c2_i32 c0_i32_14
  let v33 : BitVec 32 := Scalar.extui v32
  let v34 : BitVec 32 := Scalar.subi v31 v33
  let v35 : BitVec 1 := Scalar.cmpi .ne v29 v34
  let v36 : BitVec 32 := Scalar.remsi arg2 c2_i32
  let c0_i32_15 : BitVec 32 := 0#32
  let v37 : BitVec 1 := Scalar.cmpi .ne v36 c0_i32_15
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_16
  let c1_i32_17 : BitVec 32 := 1#32
  let v43 : BitVec 32 := Scalar.divsi v41 c1_i32_17
  let v44 : BitVec 32 := Scalar.muli v43 c1_i32_17
  let v45 : BitVec 32 := Scalar.addi c0_i32_16 v44
  let c1_i32_19 : BitVec 32 := 1#32
  let arg12 : BitVec 32 := Scf.iv v45 c1_i32_19 k0_t2
  let v110 : BitVec 32 := Scalar.muli c2_i32_44 arg12
  let c512_i32 : BitVec 32 := 512#32
  let v111 : BitVec 32 := Scalar.muli v110 c512_i32
  let v112 : BitVec 32 := v111
  let v121 : Index := Scalar.indexCast v112
  let c0_50 : Index := 0#32
  ![0, v121.toNat, 0]
def k0_mult4 (i : grid0.Coords) (k0_t2 : Fin (k0_t2_loop i).trips) : BitVec 32 :=
  let c2_i32_42 : BitVec 32 := 2#32
  let c0_i32_16 : BitVec 32 := 0#32
  let arg2 : BitVec 32 := BitVec.ofNat 32 (i 2).val
  let c0_i32 : BitVec 32 := 0#32
  let v25 : BitVec 1 := Scalar.cmpi .sgt arg2 c0_i32
  let v26 : BitVec 32 := Scalar.extui v25
  let c0_i32_12 : BitVec 32 := 0#32
  let v27 : BitVec 1 := Scalar.cmpi .slt arg2 c0_i32_12
  let v28 : BitVec 32 := Scalar.extui v27
  let v29 : BitVec 32 := Scalar.subi v26 v28
  let c2_i32 : BitVec 32 := 2#32
  let c0_i32_13 : BitVec 32 := 0#32
  let v30 : BitVec 1 := Scalar.cmpi .sgt c2_i32 c0_i32_13
  let v31 : BitVec 32 := Scalar.extui v30
  let c0_i32_14 : BitVec 32 := 0#32
  let v32 : BitVec 1 := Scalar.cmpi .slt c2_i32 c0_i32_14
  let v33 : BitVec 32 := Scalar.extui v32
  let v34 : BitVec 32 := Scalar.subi v31 v33
  let v35 : BitVec 1 := Scalar.cmpi .ne v29 v34
  let v36 : BitVec 32 := Scalar.remsi arg2 c2_i32
  let c0_i32_15 : BitVec 32 := 0#32
  let v37 : BitVec 1 := Scalar.cmpi .ne v36 c0_i32_15
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_16
  let c1_i32_17 : BitVec 32 := 1#32
  let v43 : BitVec 32 := Scalar.divsi v41 c1_i32_17
  let v44 : BitVec 32 := Scalar.muli v43 c1_i32_17
  let v45 : BitVec 32 := Scalar.addi c0_i32_16 v44
  let c1_i32_19 : BitVec 32 := 1#32
  let arg12 : BitVec 32 := Scf.iv v45 c1_i32_19 k0_t2
  let v108 : BitVec 32 := Scalar.muli c2_i32_42 arg12
  let c1_i32_43 : BitVec 32 := 1#32
  let v109 : BitVec 32 := Scalar.addi v108 c1_i32_43
  let c512_i32_55 : BitVec 32 := 512#32
  let v153 : BitVec 32 := Scalar.muli v109 c512_i32_55
  v153
def k0_off10 (i : grid0.Coords) (k0_t2 : Fin (k0_t2_loop i).trips) : Fin 3 → Nat :=
  let c0_56 : Index := 0#32
  let c0_57 : Index := 0#32
  let c2_i32_42 : BitVec 32 := 2#32
  let c0_i32_16 : BitVec 32 := 0#32
  let arg2 : BitVec 32 := BitVec.ofNat 32 (i 2).val
  let c0_i32 : BitVec 32 := 0#32
  let v25 : BitVec 1 := Scalar.cmpi .sgt arg2 c0_i32
  let v26 : BitVec 32 := Scalar.extui v25
  let c0_i32_12 : BitVec 32 := 0#32
  let v27 : BitVec 1 := Scalar.cmpi .slt arg2 c0_i32_12
  let v28 : BitVec 32 := Scalar.extui v27
  let v29 : BitVec 32 := Scalar.subi v26 v28
  let c2_i32 : BitVec 32 := 2#32
  let c0_i32_13 : BitVec 32 := 0#32
  let v30 : BitVec 1 := Scalar.cmpi .sgt c2_i32 c0_i32_13
  let v31 : BitVec 32 := Scalar.extui v30
  let c0_i32_14 : BitVec 32 := 0#32
  let v32 : BitVec 1 := Scalar.cmpi .slt c2_i32 c0_i32_14
  let v33 : BitVec 32 := Scalar.extui v32
  let v34 : BitVec 32 := Scalar.subi v31 v33
  let v35 : BitVec 1 := Scalar.cmpi .ne v29 v34
  let v36 : BitVec 32 := Scalar.remsi arg2 c2_i32
  let c0_i32_15 : BitVec 32 := 0#32
  let v37 : BitVec 1 := Scalar.cmpi .ne v36 c0_i32_15
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_16
  let c1_i32_17 : BitVec 32 := 1#32
  let v43 : BitVec 32 := Scalar.divsi v41 c1_i32_17
  let v44 : BitVec 32 := Scalar.muli v43 c1_i32_17
  let v45 : BitVec 32 := Scalar.addi c0_i32_16 v44
  let c1_i32_19 : BitVec 32 := 1#32
  let arg12 : BitVec 32 := Scf.iv v45 c1_i32_19 k0_t2
  let v108 : BitVec 32 := Scalar.muli c2_i32_42 arg12
  let c1_i32_43 : BitVec 32 := 1#32
  let v109 : BitVec 32 := Scalar.addi v108 c1_i32_43
  let c512_i32_55 : BitVec 32 := 512#32
  let v153 : BitVec 32 := Scalar.muli v109 c512_i32_55
  let v154 : BitVec 32 := v153
  let v155 : Index := Scalar.indexCast v154
  ![0, 0, v155.toNat]
def k0_off11 (i : grid0.Coords) (k0_t2 : Fin (k0_t2_loop i).trips) : Fin 2 → Nat :=
  let c0_58 : Index := 0#32
  let c2_i32_42 : BitVec 32 := 2#32
  let c0_i32_16 : BitVec 32 := 0#32
  let arg2 : BitVec 32 := BitVec.ofNat 32 (i 2).val
  let c0_i32 : BitVec 32 := 0#32
  let v25 : BitVec 1 := Scalar.cmpi .sgt arg2 c0_i32
  let v26 : BitVec 32 := Scalar.extui v25
  let c0_i32_12 : BitVec 32 := 0#32
  let v27 : BitVec 1 := Scalar.cmpi .slt arg2 c0_i32_12
  let v28 : BitVec 32 := Scalar.extui v27
  let v29 : BitVec 32 := Scalar.subi v26 v28
  let c2_i32 : BitVec 32 := 2#32
  let c0_i32_13 : BitVec 32 := 0#32
  let v30 : BitVec 1 := Scalar.cmpi .sgt c2_i32 c0_i32_13
  let v31 : BitVec 32 := Scalar.extui v30
  let c0_i32_14 : BitVec 32 := 0#32
  let v32 : BitVec 1 := Scalar.cmpi .slt c2_i32 c0_i32_14
  let v33 : BitVec 32 := Scalar.extui v32
  let v34 : BitVec 32 := Scalar.subi v31 v33
  let v35 : BitVec 1 := Scalar.cmpi .ne v29 v34
  let v36 : BitVec 32 := Scalar.remsi arg2 c2_i32
  let c0_i32_15 : BitVec 32 := 0#32
  let v37 : BitVec 1 := Scalar.cmpi .ne v36 c0_i32_15
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_16
  let c1_i32_17 : BitVec 32 := 1#32
  let v43 : BitVec 32 := Scalar.divsi v41 c1_i32_17
  let v44 : BitVec 32 := Scalar.muli v43 c1_i32_17
  let v45 : BitVec 32 := Scalar.addi c0_i32_16 v44
  let c1_i32_19 : BitVec 32 := 1#32
  let arg12 : BitVec 32 := Scf.iv v45 c1_i32_19 k0_t2
  let v108 : BitVec 32 := Scalar.muli c2_i32_42 arg12
  let c1_i32_43 : BitVec 32 := 1#32
  let v109 : BitVec 32 := Scalar.addi v108 c1_i32_43
  let c512_i32_55 : BitVec 32 := 512#32
  let v153 : BitVec 32 := Scalar.muli v109 c512_i32_55
  let v154 : BitVec 32 := v153
  let v158 : Index := Scalar.indexCast v154
  ![0, v158.toNat]
def k0_off12 (i : grid0.Coords) (k0_t2 : Fin (k0_t2_loop i).trips) : Fin 3 → Nat :=
  let c0_60 : Index := 0#32
  let c2_i32_42 : BitVec 32 := 2#32
  let c0_i32_16 : BitVec 32 := 0#32
  let arg2 : BitVec 32 := BitVec.ofNat 32 (i 2).val
  let c0_i32 : BitVec 32 := 0#32
  let v25 : BitVec 1 := Scalar.cmpi .sgt arg2 c0_i32
  let v26 : BitVec 32 := Scalar.extui v25
  let c0_i32_12 : BitVec 32 := 0#32
  let v27 : BitVec 1 := Scalar.cmpi .slt arg2 c0_i32_12
  let v28 : BitVec 32 := Scalar.extui v27
  let v29 : BitVec 32 := Scalar.subi v26 v28
  let c2_i32 : BitVec 32 := 2#32
  let c0_i32_13 : BitVec 32 := 0#32
  let v30 : BitVec 1 := Scalar.cmpi .sgt c2_i32 c0_i32_13
  let v31 : BitVec 32 := Scalar.extui v30
  let c0_i32_14 : BitVec 32 := 0#32
  let v32 : BitVec 1 := Scalar.cmpi .slt c2_i32 c0_i32_14
  let v33 : BitVec 32 := Scalar.extui v32
  let v34 : BitVec 32 := Scalar.subi v31 v33
  let v35 : BitVec 1 := Scalar.cmpi .ne v29 v34
  let v36 : BitVec 32 := Scalar.remsi arg2 c2_i32
  let c0_i32_15 : BitVec 32 := 0#32
  let v37 : BitVec 1 := Scalar.cmpi .ne v36 c0_i32_15
  let v38 : BitVec 1 := Scalar.andi v35 v37
  let v24 : BitVec 32 := Scalar.divsi arg2 c2_i32
  let c1_i32 : BitVec 32 := 1#32
  let v39 : BitVec 32 := Scalar.subi v24 c1_i32
  let v40 : BitVec 32 := Scalar.select v38 v39 v24
  let v41 : BitVec 32 := Scalar.subi v40 c0_i32_16
  let c1_i32_17 : BitVec 32 := 1#32
  let v43 : BitVec 32 := Scalar.divsi v41 c1_i32_17
  let v44 : BitVec 32 := Scalar.muli v43 c1_i32_17
  let v45 : BitVec 32 := Scalar.addi c0_i32_16 v44
  let c1_i32_19 : BitVec 32 := 1#32
  let arg12 : BitVec 32 := Scf.iv v45 c1_i32_19 k0_t2
  let v108 : BitVec 32 := Scalar.muli c2_i32_42 arg12
  let c1_i32_43 : BitVec 32 := 1#32
  let v109 : BitVec 32 := Scalar.addi v108 c1_i32_43
  let c512_i32_55 : BitVec 32 := 512#32
  let v153 : BitVec 32 := Scalar.muli v109 c512_i32_55
  let v154 : BitVec 32 := v153
  let v163 : Index := Scalar.indexCast v154
  let c0_61 : Index := 0#32
  ![0, v163.toNat, 0]
def k0_cond1 (i : grid0.Coords) : BitVec 1 :=
  let arg2 : BitVec 32 := BitVec.ofNat 32 (i 2).val
  let c2_i32_20 : BitVec 32 := 2#32
  let c0_i32_21 : BitVec 32 := 0#32
  let v48 : BitVec 1 := Scalar.cmpi .eq c2_i32_20 c0_i32_21
  let c1_i32_22 : BitVec 32 := 1#32
  let v49 : BitVec 32 := Scalar.select v48 c1_i32_22 c2_i32_20
  let v50 : BitVec 32 := Scalar.remsi arg2 v49
  let c0_i32_24 : BitVec 32 := 0#32
  let v52 : BitVec 1 := Scalar.cmpi .slt v50 c0_i32_24
  let c0_i32_25 : BitVec 32 := 0#32
  let v53 : BitVec 1 := Scalar.cmpi .slt v49 c0_i32_25
  let v54 : BitVec 1 := Scalar.xori v52 v53
  let c0_i32_23 : BitVec 32 := 0#32
  let v51 : BitVec 1 := Scalar.cmpi .ne v50 c0_i32_23
  let v55 : BitVec 1 := Scalar.andi v54 v51
  let v56 : BitVec 32 := Scalar.addi v50 v49
  let v57 : BitVec 32 := Scalar.select v55 v56 v50
  let c1_i32_26 : BitVec 32 := 1#32
  let v58 : BitVec 1 := Scalar.cmpi .eq v57 c1_i32_26
  let v59 : BitVec 32 := Scalar.extui v58
  let c0_i32_27 : BitVec 32 := 0#32
  let v60 : BitVec 1 := Scalar.cmpi .ne v59 c0_i32_27
  v60

def k0_mult5 (i : grid0.Coords) : BitVec 32 :=
  let arg2 : BitVec 32 := BitVec.ofNat 32 (i 2).val
  let c1_i32_42 : BitVec 32 := 1#32
  let v108 : BitVec 32 := Scalar.subi arg2 c1_i32_42
  let c512_i32 : BitVec 32 := 512#32
  let v109 : BitVec 32 := Scalar.muli v108 c512_i32
  v109
def k0_off13 (i : grid0.Coords) : Fin 3 → Nat :=
  let c0_43 : Index := 0#32
  let c0_44 : Index := 0#32
  let arg2 : BitVec 32 := BitVec.ofNat 32 (i 2).val
  let c1_i32_42 : BitVec 32 := 1#32
  let v108 : BitVec 32 := Scalar.subi arg2 c1_i32_42
  let c512_i32 : BitVec 32 := 512#32
  let v109 : BitVec 32 := Scalar.muli v108 c512_i32
  let v110 : BitVec 32 := v109
  let v111 : Index := Scalar.indexCast v110
  ![0, 0, v111.toNat]
def k0_off14 (i : grid0.Coords) : Fin 2 → Nat :=
  let c0_45 : Index := 0#32
  let arg2 : BitVec 32 := BitVec.ofNat 32 (i 2).val
  let c1_i32_42 : BitVec 32 := 1#32
  let v108 : BitVec 32 := Scalar.subi arg2 c1_i32_42
  let c512_i32 : BitVec 32 := 512#32
  let v109 : BitVec 32 := Scalar.muli v108 c512_i32
  let v110 : BitVec 32 := v109
  let v114 : Index := Scalar.indexCast v110
  ![0, v114.toNat]
def k0_off15 (i : grid0.Coords) : Fin 3 → Nat :=
  let c0_47 : Index := 0#32
  let arg2 : BitVec 32 := BitVec.ofNat 32 (i 2).val
  let c1_i32_42 : BitVec 32 := 1#32
  let v108 : BitVec 32 := Scalar.subi arg2 c1_i32_42
  let c512_i32 : BitVec 32 := 512#32
  let v109 : BitVec 32 := Scalar.muli v108 c512_i32
  let v110 : BitVec 32 := v109
  let v119 : Index := Scalar.indexCast v110
  let c0_48 : Index := 0#32
  ![0, v119.toNat, 0]
def k0_mult6 (i : grid0.Coords) : BitVec 32 :=
  let arg2 : BitVec 32 := BitVec.ofNat 32 (i 2).val
  let c512_i32_53 : BitVec 32 := 512#32
  let v151 : BitVec 32 := Scalar.muli arg2 c512_i32_53
  v151
def k0_off16 (i : grid0.Coords) : Fin 3 → Nat :=
  let c0_54 : Index := 0#32
  let c0_55 : Index := 0#32
  let arg2 : BitVec 32 := BitVec.ofNat 32 (i 2).val
  let c512_i32_53 : BitVec 32 := 512#32
  let v151 : BitVec 32 := Scalar.muli arg2 c512_i32_53
  let v152 : BitVec 32 := v151
  let v153 : Index := Scalar.indexCast v152
  ![0, 0, v153.toNat]
def k0_off17 (i : grid0.Coords) : Fin 2 → Nat :=
  let c0_56 : Index := 0#32
  let arg2 : BitVec 32 := BitVec.ofNat 32 (i 2).val
  let c512_i32_53 : BitVec 32 := 512#32
  let v151 : BitVec 32 := Scalar.muli arg2 c512_i32_53
  let v152 : BitVec 32 := v151
  let v156 : Index := Scalar.indexCast v152
  ![0, v156.toNat]
def k0_off18 (i : grid0.Coords) : Fin 3 → Nat :=
  let c0_58 : Index := 0#32
  let arg2 : BitVec 32 := BitVec.ofNat 32 (i 2).val
  let c512_i32_53 : BitVec 32 := 512#32
  let v151 : BitVec 32 := Scalar.muli arg2 c512_i32_53
  let v152 : BitVec 32 := v151
  let v161 : Index := Scalar.indexCast v152
  let c0_59 : Index := 0#32
  ![0, v161.toNat, 0]
def k0_mult7 (i : grid0.Coords) : BitVec 32 :=
  let arg2 : BitVec 32 := BitVec.ofNat 32 (i 2).val
  let c512_i32 : BitVec 32 := 512#32
  let v108 : BitVec 32 := Scalar.muli arg2 c512_i32
  v108
def k0_off19 (i : grid0.Coords) : Fin 3 → Nat :=
  let c0_42 : Index := 0#32
  let c0_43 : Index := 0#32
  let arg2 : BitVec 32 := BitVec.ofNat 32 (i 2).val
  let c512_i32 : BitVec 32 := 512#32
  let v108 : BitVec 32 := Scalar.muli arg2 c512_i32
  let v109 : BitVec 32 := v108
  let v110 : Index := Scalar.indexCast v109
  ![0, 0, v110.toNat]
def k0_off20 (i : grid0.Coords) : Fin 2 → Nat :=
  let c0_44 : Index := 0#32
  let arg2 : BitVec 32 := BitVec.ofNat 32 (i 2).val
  let c512_i32 : BitVec 32 := 512#32
  let v108 : BitVec 32 := Scalar.muli arg2 c512_i32
  let v109 : BitVec 32 := v108
  let v113 : Index := Scalar.indexCast v109
  ![0, v113.toNat]
def k0_off21 (i : grid0.Coords) : Fin 3 → Nat :=
  let c0_46 : Index := 0#32
  let arg2 : BitVec 32 := BitVec.ofNat 32 (i 2).val
  let c512_i32 : BitVec 32 := 512#32
  let v108 : BitVec 32 := Scalar.muli arg2 c512_i32
  let v109 : BitVec 32 := v108
  let v118 : Index := Scalar.indexCast v109
  let c0_47 : Index := 0#32
  ![0, v118.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== DiffRefIdeal.lean ====
abbrev S16x4096x512 : Shape := ⟨3, ![16, 4096, 512]⟩
abbrev S1x64 : Shape := ⟨2, ![1, 64]⟩
abbrev S1x128 : Shape := ⟨2, ![1, 128]⟩
abbrev S16x4096x4x128 : Shape := ⟨4, ![16, 4096, 4, 128]⟩
abbrev S16x4x4096x128 : Shape := ⟨4, ![16, 4, 4096, 128]⟩
abbrev S16x4x4096x64 : Shape := ⟨4, ![16, 4, 4096, 64]⟩
abbrev S64 : Shape := ⟨1, ![64]⟩
abbrev S_ : Shape := ⟨0, ![]⟩
abbrev S1 : Shape := ⟨1, ![1]⟩
abbrev S4 : Shape := ⟨1, ![4]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S16x4x4096x4096 : Shape := ⟨4, ![16, 4, 4096, 4096]⟩
abbrev S1x4x4096x4096 : Shape := ⟨4, ![1, 4, 4096, 4096]⟩
abbrev S16x4x4096 : Shape := ⟨3, ![16, 4, 4096]⟩
abbrev S16x4x4096x1 : Shape := ⟨4, ![16, 4, 4096, 1]⟩
abbrev S128 : Shape := ⟨1, ![128]⟩
abbrev S1x1x1x128 : Shape := ⟨4, ![1, 1, 1, 128]⟩

abbrev nBuf : Space → Nat
  | .hbm => 176
  | .vmem => 0
  | .smem => 0
  | _ => 0

abbrev hbmTy0_0 (i : Nat) : BufTy := match i % 128 with
  | 0 => ⟨S16x4096x512, .f32⟩
  | 1 => ⟨S16x4096x512, .f32⟩
  | 2 => ⟨S16x4096x512, .f32⟩
  | 3 => ⟨S1x64, .f32⟩
  | 4 => ⟨S1x64, .f32⟩
  | 5 => ⟨S1x64, .f32⟩
  | 6 => ⟨S1x64, .f32⟩
  | 7 => ⟨S1x128, .f32⟩
  | 8 => ⟨S16x4096x4x128, .f32⟩
  | 9 => ⟨S16x4x4096x128, .f32⟩
  | 10 => ⟨S16x4096x4x128, .f32⟩
  | 11 => ⟨S16x4x4096x128, .f32⟩
  | 12 => ⟨S16x4096x4x128, .f32⟩
  | 13 => ⟨S16x4x4096x128, .f32⟩
  | 14 => ⟨S16x4x4096x64, .f32⟩
  | 15 => ⟨S16x4x4096x64, .f32⟩
  | 16 => ⟨S16x4x4096x64, .f32⟩
  | 17 => ⟨S16x4x4096x64, .f32⟩
  | 18 => ⟨S64, .f32⟩
  | 19 => ⟨S64, .f32⟩
  | 20 => ⟨S64, .f32⟩
  | 21 => ⟨S_, .f32⟩
  | 22 => ⟨S_, .f32⟩
  | 23 => ⟨S_, .f32⟩
  | 24 => ⟨S64, .f32⟩
  | 25 => ⟨S64, .f32⟩
  | 26 => ⟨S64, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S1, .f32⟩
  | 35 => ⟨S_, .f32⟩
  | 36 => ⟨S1, .f32⟩
  | 37 => ⟨S_, .f32⟩
  | 38 => ⟨S1, .f32⟩
  | 39 => ⟨S_, .f32⟩
  | 40 => ⟨S1, .f32⟩
  | 41 => ⟨S4, .f32⟩
  | 42 => ⟨S4096, .i32⟩
  | 43 => ⟨S4096x1, .i32⟩
  | 44 => ⟨S1x4096, .i32⟩
  | 45 => ⟨S4096x4096, .i32⟩
  | 46 => ⟨S4096x4096, .i32⟩
  | 47 => ⟨S4096x4096, .i32⟩
  | 48 => ⟨S4096x4096, .i32⟩
  | 49 => ⟨S4096x4096, .f32⟩
  | 50 => ⟨S4x1x1, .f32⟩
  | 51 => ⟨S4x1x1, .f32⟩
  | 52 => ⟨S1x4096x4096, .f32⟩
  | 53 => ⟨S4x4096x4096, .f32⟩
  | 54 => ⟨S4x4096x4096, .f32⟩
  | 55 => ⟨S4x4096x4096, .f32⟩
  | 56 => ⟨S1x4096, .i32⟩
  | 57 => ⟨S_, .i32⟩
  | 58 => ⟨S_, .i32⟩
  | 59 => ⟨S1x4096, .i32⟩
  | 60 => ⟨S1x4096, .i32⟩
  | 61 => ⟨S1x4096, .i32⟩
  | 62 => ⟨S_, .i32⟩
  | 63 => ⟨S1x4096, .i32⟩
  | 64 => ⟨S1x4096, .i1⟩
  | 65 => ⟨S1x4096, .i32⟩
  | 66 => ⟨S1x4096, .i32⟩
  | 67 => ⟨S_, .i32⟩
  | 68 => ⟨S1x4096, .i32⟩
  | 69 => ⟨S1x4096, .i1⟩
  | 70 => ⟨S1x4096, .i1⟩
  | 71 => ⟨S_, .i32⟩
  | 72 => ⟨S1x4096, .i32⟩
  | 73 => ⟨S1x4096, .i32⟩
  | 74 => ⟨S1x4096, .i32⟩
  | 75 => ⟨S4096x1, .i32⟩
  | 76 => ⟨S_, .i32⟩
  | 77 => ⟨S_, .i32⟩
  | 78 => ⟨S4096x1, .i32⟩
  | 79 => ⟨S4096x1, .i32⟩
  | 80 => ⟨S4096x1, .i32⟩
  | 81 => ⟨S_, .i32⟩
  | 82 => ⟨S4096x1, .i32⟩
  | 83 => ⟨S4096x1, .i1⟩
  | 84 => ⟨S4096x1, .i32⟩
  | 85 => ⟨S4096x1, .i32⟩
  | 86 => ⟨S_, .i32⟩
  | 87 => ⟨S4096x1, .i32⟩
  | 88 => ⟨S4096x1, .i1⟩
  | 89 => ⟨S4096x1, .i1⟩
  | 90 => ⟨S_, .i32⟩
  | 91 => ⟨S4096x1, .i32⟩
  | 92 => ⟨S4096x1, .i32⟩
  | 93 => ⟨S4096x1, .i32⟩
  | 94 => ⟨S4096x4096, .i32⟩
  | 95 => ⟨S4096x4096, .i32⟩
  | 96 => ⟨S4096x4096, .i1⟩
  | 97 => ⟨S16x4x4096x4096, .f32⟩
  | 98 => ⟨S_, .f32⟩
  | 99 => ⟨S16x4x4096x4096, .f32⟩
  | 100 => ⟨S16x4x4096x4096, .f32⟩
  | 101 => ⟨S1x4x4096x4096, .f32⟩
  | 102 => ⟨S16x4x4096x4096, .f32⟩
  | 103 => ⟨S16x4x4096x4096, .f32⟩
  | 104 => ⟨S16x4x4096x4096, .f32⟩
  | 105 => ⟨S_, .f32⟩
  | 106 => ⟨S16x4x4096x4096, .f32⟩
  | 107 => ⟨S16x4x4096x4096, .f32⟩
  | 108 => ⟨S1x4x4096x4096, .f32⟩
  | 109 => ⟨S16x4x4096x4096, .f32⟩
  | 110 => ⟨S16x4x4096x4096, .f32⟩
  | 111 => ⟨S_, .f32⟩
  | 112 => ⟨S_, .f32⟩
  | 113 => ⟨S16x4x4096x4096, .i1⟩
  | 114 => ⟨S16x4x4096x4096, .f32⟩
  | 115 => ⟨S16x4x4096x4096, .f32⟩
  | 116 => ⟨S_, .f32⟩
  | 117 => ⟨S16x4x4096, .f32⟩
  | 118 => ⟨S_, .f32⟩
  | 119 => ⟨S16x4x4096, .f32⟩
  | 120 => ⟨S16x4x4096, .f32⟩
  | 121 => ⟨S16x4x4096x1, .f32⟩
  | 122 => ⟨S16x4x4096x4096, .f32⟩
  | 123 => ⟨S16x4x4096x4096, .f32⟩
  | 124 => ⟨S16x4x4096x4096, .f32⟩
  | 125 => ⟨S_, .f32⟩
  | 126 => ⟨S16x4x4096, .f32⟩
  | 127 => ⟨S16x4x4096x1, .f32⟩
  | _ => ⟨S16x4096x512, .f32⟩

abbrev hbmTy0_1 (i : Nat) : BufTy := match i % 128 with
  | 0 => ⟨S16x4x4096x4096, .f32⟩
  | 1 => ⟨S16x4x4096x4096, .f32⟩
  | 2 => ⟨S_, .f32⟩
  | 3 => ⟨S_, .f32⟩
  | 4 => ⟨S16x4x4096x4096, .i1⟩
  | 5 => ⟨S16x4x4096x4096, .f32⟩
  | 6 => ⟨S16x4x4096x4096, .f32⟩
  | 7 => ⟨S_, .f32⟩
  | 8 => ⟨S16x4x4096, .f32⟩
  | 9 => ⟨S_, .f32⟩
  | 10 => ⟨S16x4x4096, .f32⟩
  | 11 => ⟨S16x4x4096, .f32⟩
  | 12 => ⟨S16x4x4096x1, .f32⟩
  | 13 => ⟨S16x4x4096x4096, .f32⟩
  | 14 => ⟨S16x4x4096x4096, .f32⟩
  | 15 => ⟨S16x4x4096x4096, .f32⟩
  | 16 => ⟨S_, .f32⟩
  | 17 => ⟨S16x4x4096, .f32⟩
  | 18 => ⟨S16x4x4096x1, .f32⟩
  | 19 => ⟨S16x4x4096x4096, .f32⟩
  | 20 => ⟨S16x4x4096x4096, .f32⟩
  | 21 => ⟨S16x4x4096x4096, .f32⟩
  | 22 => ⟨S16x4x4096x4096, .f32⟩
  | 23 => ⟨S16x4x4096x4096, .f32⟩
  | 24 => ⟨S16x4x4096x128, .f32⟩
  | 25 => ⟨S16x4x4096x128, .f32⟩
  | 26 => ⟨S_, .f32⟩
  | 27 => ⟨S16x4x4096, .f32⟩
  | 28 => ⟨S16x4x4096x1, .f32⟩
  | 29 => ⟨S_, .f32⟩
  | 30 => ⟨S16x4x4096x1, .f32⟩
  | 31 => ⟨S16x4x4096x1, .f32⟩
  | 32 => ⟨S_, .f32⟩
  | 33 => ⟨S16x4x4096x1, .f32⟩
  | 34 => ⟨S16x4x4096x1, .f32⟩
  | 35 => ⟨S16x4x4096x1, .f32⟩
  | 36 => ⟨S16x4x4096x128, .f32⟩
  | 37 => ⟨S16x4x4096x128, .f32⟩
  | 38 => ⟨S128, .f32⟩
  | 39 => ⟨S1x1x1x128, .f32⟩
  | 40 => ⟨S16x4x4096x128, .f32⟩
  | 41 => ⟨S16x4x4096x128, .f32⟩
  | 42 => ⟨S_, .f32⟩
  | 43 => ⟨S16x4x4096x128, .f32⟩
  | 44 => ⟨S16x4x4096x128, .f32⟩
  | 45 => ⟨S16x4096x4x128, .f32⟩
  | 46 => ⟨S16x4096x512, .f32⟩
  | 47 => ⟨S16x4096x512, .bf16⟩
  | _ => ⟨S16x4096x512, .f32⟩

abbrev hbmTy (i : Nat) : BufTy := match i / 128 with
  | 0 => hbmTy0_0 i
  | 1 => hbmTy0_1 i
  | _ => ⟨S16x4096x512, .f32⟩

abbrev bufTy : (tb : Table) → Fin (tcTables nBuf tb) → BufTy
  | .hbm, ⟨i, _⟩ => hbmTy i
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_c : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_0 : Ref sig .tc := ⟨.hbm, 71, rfl⟩
abbrev main_call0_v12 : Ref sig .tc := ⟨.hbm, 72, rfl⟩
abbrev main_call0_v13 : Ref sig .tc := ⟨.hbm, 73, rfl⟩
abbrev main_v42 : Ref sig .tc := ⟨.hbm, 74, rfl⟩
abbrev main_v43 : Ref sig .tc := ⟨.hbm, 75, rfl⟩
abbrev main_c_6 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_c : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_c_0 : Ref sig .tc := ⟨.hbm, 90, rfl⟩
abbrev main_call1_v12 : Ref sig .tc := ⟨.hbm, 91, rfl⟩
abbrev main_call1_v13 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_cst_7 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_cst_8 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_9 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_v60 : Ref sig .tc := ⟨.hbm, 115, rfl⟩
abbrev main_cst_10 : Ref sig .tc := ⟨.hbm, 116, rfl⟩
abbrev main_v61 : Ref sig .tc := ⟨.hbm, 117, rfl⟩
abbrev main_cst_11 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_cst_12 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_cst_13 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_v72 : Ref sig .tc := ⟨.hbm, 134, rfl⟩
abbrev main_cst_14 : Ref sig .tc := ⟨.hbm, 135, rfl⟩
abbrev main_v73 : Ref sig .tc := ⟨.hbm, 136, rfl⟩
abbrev main_cst_15 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_cst_16 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_cst_17 : Ref sig .tc := ⟨.hbm, 154, rfl⟩
abbrev main_v89 : Ref sig .tc := ⟨.hbm, 155, rfl⟩
abbrev main_v90 : Ref sig .tc := ⟨.hbm, 156, rfl⟩
abbrev main_cst_18 : Ref sig .tc := ⟨.hbm, 157, rfl⟩
abbrev main_v91 : Ref sig .tc := ⟨.hbm, 158, rfl⟩
abbrev main_v92 : Ref sig .tc := ⟨.hbm, 159, rfl⟩
abbrev main_cst_19 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_cst_20 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩

abbrev nD : Nat := 1
abbrev τ : Topo := Topo.v7x

variable {F : FTy → Type} [FloatOps F]
-- ==== Proof.Fox.Steps.lean ====
/-
  The forgetting attention's kernel as a function of the six blocks that one grid point reads: the queries with their
  bias lanes (`qAll`), one block of 512 keys folded into the running maximum and accumulator of both heads (`step`),
  the blocks before the diagonal one (`accN`), the diagonal block under the causal mask (`stepC`), and the quotient
  that is stored (`outBlk`). Stated over any value instance, with the operations of the printed kernel.
-/
module

public import proofs.«01_k».proof.Proof.Gen.FoxIdeal.Frame
public import proofs.«01_k».proof.Proof.Gen.FoxIdeal.Loops

@[expose] public section

set_option maxRecDepth 16384

noncomputable section

namespace Cert.FoxIdeal.Hand

open Cert.FoxIdeal Cert.FoxIdeal.Gen
open Idealize.ShloMosaic Idealize.ShloMosaic.TcCoe

variable {F : FTy → Type} [FloatOps F]

/-- Both heads' queries and masked bias lanes, one head below the other. -/
def qAll (i : grid0.Coords) (x3 x4 : Vec F S1x512x128 .bf16) : FVec F S1024x256 .bf16 :=
  k0_pay109 (iota .tc S512x128 32 [1] iota_S512x128_d1_w32) (k0_pay105 x4) (k0_pay106 i x3 x4)
    (Scalar.addi (Scalar.muli 2#32 (BitVec.ofNat 32 (i 1).val)) 1#32) (k0_pay107 x3) (k0_pay108)

/-- The logits of both heads against one block of keys. -/
def scores (q : FVec F S1024x256 .bf16) (kt bkt : Vec F S1x128x512 .bf16) : FVec F S1024x512 .f32 :=
  matmul dot_S1024x256_S256x512_S1024x512_1_0_0_1_n_n none q
    (concatenate S256x512 0 [⟨S128x512, shapeCast S128x512 kt shapeCasts_S1x128x512_S128x512⟩,
      ⟨S128x512, shapeCast S128x512 bkt shapeCasts_S1x128x512_S128x512⟩] concatenates_S128x512_S128x512_S256x512_d0)
    (constant S1024x512 .f32 0x00000000#32)

/-- The upper head's logits, and the lower head's. -/
def scores0 (q : FVec F S1024x256 .bf16) (kt bkt : Vec F S1x128x512 .bf16) : FVec F S512x512 .f32 :=
  extractStridedSlice S512x512 ![0, 0] (scores q kt bkt) slices_S1024x512_o0_0_S512x512
def scores1 (q : FVec F S1024x256 .bf16) (kt bkt : Vec F S1x128x512 .bf16) : FVec F S512x512 .f32 :=
  extractStridedSlice S512x512 ![512, 0] (scores q kt bkt) slices_S1024x512_o512_0_S512x512

/-- Logits of the diagonal block: the keys after the query are at minus infinity. -/
def masked (s : FVec F S512x512 .f32) : FVec F S512x512 .f32 :=
  select (cmpi .sle (iota .tc S512x512 32 [1] iota_S512x512_d1_w32) (iota .tc S512x512 32 [0] iota_S512x512_d0_w32)) s
    (broadcast S512x512 (Scalar.ofBits .f32 0xFF800000#32))

/-- The running maximum after a block of logits. -/
def newM (s : FVec F S512x512 .f32) (m : FVec F S512x1 .f32) : FVec F S512x1 .f32 :=
  maximumf m (shapeCast S512x1 (multiReduction .maximumf [1] S512 s 0xFF800000#32 reduces_S512x512_S512 (.inl rfl) rfl) shapeCasts_S512_S512x1)

/-- The accumulator after a block of logits and values. -/
def newA (s : FVec F S512x512 .f32) (m : FVec F S512x1 .f32) (a : FVec F S512x128 .f32) (v : Vec F S1x512x128 .bf16) : FVec F S512x128 .f32 :=
  addf (mulf (broadcastTo S512x128 (exp (subf m (newM s m))) broadcasts_S512x1_S512x128) a)
    (matmul dot_S512x512_S512x128_S512x128_1_0_0_1_n_n none
      (truncf .bf16 (exp (subf s (broadcastTo S512x512 (newM s m) broadcasts_S512x1_S512x512))) bitsLt_bf16_f32)
      (shapeCast S512x128 v shapeCasts_S1x512x128_S512x128 : FVec F S512x128 .bf16) (constant S512x128 .f32 0x00000000#32))

/-- What both heads carry from block to block: each its running maximum and its accumulator. -/
abbrev Carry (F : FTy → Type) : Type := FVec F S512x1 .f32 × FVec F S512x128 .f32 × FVec F S512x1 .f32 × FVec F S512x128 .f32

/-- One block of keys and values, no mask. -/
def step (q : FVec F S1024x256 .bf16) (kt bkt : Vec F S1x128x512 .bf16) (v0 v1 : Vec F S1x512x128 .bf16) (c : Carry F) : Carry F :=
  (newM (scores0 q kt bkt) c.1, newA (scores0 q kt bkt) c.1 c.2.1 v0,
    newM (scores1 q kt bkt) c.2.2.1, newA (scores1 q kt bkt) c.2.2.1 c.2.2.2 v1)

/-- The diagonal block: both heads' accumulators after it. -/
def stepC (q : FVec F S1024x256 .bf16) (kt bkt : Vec F S1x128x512 .bf16) (v0 v1 : Vec F S1x512x128 .bf16) (c : Carry F) :
    FVec F S512x128 .f32 × FVec F S512x128 .f32 :=
  (newA (masked (scores0 q kt bkt)) c.1 c.2.1 v0, newA (masked (scores1 q kt bkt)) c.2.2.1 c.2.2.2 v1)

/-- Columns `512 j …` of a transposed key block, and rows `512 j …` of a value block. -/
def ldK (x : Vec F S1x128x4096 .bf16) (j : ℕ) : Vec F S1x128x512 .bf16 :=
  fun y => x (fun a => match a with
    | ⟨0, _⟩ => ⟨(y 0).val, (y 0).isLt⟩
    | ⟨1, _⟩ => ⟨(y 1).val, (y 1).isLt⟩
    | ⟨2, _⟩ => ⟨(512 * j + (y 2).val) % 4096, Nat.mod_lt _ (by decide)⟩)
def ldV (x : Vec F S1x4096x128 .bf16) (j : ℕ) : Vec F S1x512x128 .bf16 :=
  fun y => x (fun a => match a with
    | ⟨0, _⟩ => ⟨(y 0).val, (y 0).isLt⟩
    | ⟨1, _⟩ => ⟨(512 * j + (y 1).val) % 4096, Nat.mod_lt _ (by decide)⟩
    | ⟨2, _⟩ => ⟨(y 2).val, (y 2).isLt⟩)

/-- Block `j` of the keys and values folded in. -/
def stepAt (q : FVec F S1024x256 .bf16) (x5 x6 : Vec F S1x128x4096 .bf16) (x7 x8 : Vec F S1x4096x128 .bf16) (j : ℕ) (c : Carry F) : Carry F :=
  step q (ldK x5 j) (ldK x6 j) (ldV x7 j) (ldV x8 j) c

/-- The carry before block `n`. -/
def accN (q : FVec F S1024x256 .bf16) (x5 x6 : Vec F S1x128x4096 .bf16) (x7 x8 : Vec F S1x4096x128 .bf16) : ℕ → Carry F
  | 0 => (k0_pay110, k0_pay111, k0_pay112, k0_pay113)
  | n + 1 => stepAt q x5 x6 x7 x8 n (accN q x5 x6 x7 x8 n)

/-- The block the kernel stores at a grid point. -/
def outBlk (i : grid0.Coords) (x3 x4 : Vec F S1x512x128 .bf16) (x5 x6 : Vec F S1x128x4096 .bf16) (x7 x8 : Vec F S1x4096x128 .bf16) :
    Vec F S1x512x128 .bf16 :=
  let q := qAll i x3 x4
  let n := (i 2).val
  let r := stepC q (ldK x5 n) (ldK x6 n) (ldV x7 n) (ldV x8 n) (accN q x5 x6 x7 x8 n)
  k0_pay3 (iota .tc S512x128 32 [1] iota_S512x128_d1_w32) r.1 r.2

end Cert.FoxIdeal.Hand

end
-- ==== Proof.Softmax.Online.lean ====
/-
  The running softmax over the extended reals. A row of logits, each a real or minus infinity, is met block by block:
  the maximum so far is a real number `μ`, and the accumulator is the sum of the values weighed by `exp (logit − μ)`.
  Moving to a new maximum rescales the accumulator (`fold_block`); the quotient at the end is the softmax-weighted
  sum whatever the maxima were (`quotient`). The values may be any extended reals.
-/
module

public import Idealize.ShloMosaic.PureOps.Ideal
public import Idealize.ShloMosaic.PureOps.Ideal.Laws

@[expose] public section

noncomputable section

namespace Cert.Softmax

open Idealize.ShloMosaic

/-- The weight of a logit against a real maximum. -/
def wt (l : EReal) (μ : ℝ) : EReal := Ideal.exp (l - (μ : EReal))

theorem wt_bot (μ : ℝ) : wt ⊥ μ = 0 := by
  rw [wt, EReal.bot_sub]; rfl

theorem wt_coe (r μ : ℝ) : wt (r : EReal) μ = (Real.exp (r - μ) : EReal) := by
  rw [wt, ← EReal.coe_sub, Ideal.exp_coe]

/-- The same weight as a real number. -/
def rwt (l : EReal) (μ : ℝ) : ℝ := (wt l μ).toReal

theorem wt_eq {l : EReal} (h : l ≠ ⊤) (μ : ℝ) : wt l μ = (rwt l μ : EReal) := by
  induction l with
  | bot => simp [rwt, wt_bot]
  | coe r => simp [rwt, wt_coe]
  | top => exact absurd rfl h

theorem rwt_nonneg {l : EReal} (h : l ≠ ⊤) (μ : ℝ) : 0 ≤ rwt l μ := by
  induction l with
  | bot => simp [rwt, wt_bot]
  | coe r => simp [rwt, wt_coe]; exact (Real.exp_pos _).le
  | top => exact absurd rfl h

theorem rwt_pos (r μ : ℝ) : 0 < rwt (r : EReal) μ := by
  simp [rwt, wt_coe]; exact Real.exp_pos _

theorem rwt_shift {l : EReal} (h : l ≠ ⊤) (μ ν : ℝ) : Real.exp (μ - ν) * rwt l μ = rwt l ν := by
  induction l with
  | bot => simp [rwt, wt_bot]
  | coe r =>
    simp only [rwt, wt_coe, EReal.toReal_coe]
    rw [← Real.exp_add]; congr 1; ring
  | top => exact absurd rfl h

/-- A nonnegative real goes into a sum of extended reals. -/
theorem mul_sum {ι : Type} (t : Finset ι) {c : ℝ} (hc : 0 ≤ c) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha, ← ih]
    exact EReal.left_distrib_of_nonneg_of_ne_top (EReal.coe_nonneg.2 hc) (EReal.coe_ne_top c) _ _

/-- The coercion of a finite real sum. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, ← ih, EReal.coe_add]

/-- The accumulator over the first `n` keys against the maximum `μ`. -/
def acc (l v : ℕ → EReal) (μ : ℝ) (n : ℕ) : EReal := ∑ s ∈ Finset.range n, wt (l s) μ * v s

theorem acc_shift {l v : ℕ → EReal} (hl : ∀ s, l s ≠ ⊤) (μ ν : ℝ) (n : ℕ) :
    Ideal.exp ((μ : EReal) - (ν : EReal)) * acc l v μ n = acc l v ν n := by
  rw [← EReal.coe_sub, Ideal.exp_coe, acc, mul_sum _ (Real.exp_pos _).le]
  refine Finset.sum_congr rfl fun s _ => ?_
  rw [wt_eq (hl s), wt_eq (hl s), ← mul_assoc, ← EReal.coe_mul, rwt_shift (hl s)]

/-- One block of `B` keys: the accumulator rescaled to the new maximum, plus the block's weighed values. -/
theorem fold_block {l v : ℕ → EReal} (hl : ∀ s, l s ≠ ⊤) (μ ν : ℝ) (n B : ℕ) :
    Ideal.exp ((μ : EReal) - (ν : EReal)) * acc l v μ n
        + ∑ k : Fin B, Ideal.exp (l (n + k.val) - (ν : EReal)) * v (n + k.val)
      = acc l v ν (n + B) := by
  rw [acc_shift hl, acc, acc, Finset.sum_range_add, Finset.sum_range (n := B)]
  rfl

/-- The maximum of a real and of finitely many logits is a real. -/
theorem max_real {ι : Type} [Fintype ι] (μ : ℝ) (f : ι → EReal) (hf : ∀ i, f i ≠ ⊤) :
    ∃ ν : ℝ, max (μ : EReal) (Finset.univ.fold max ⊥ f) = (ν : EReal) := by
  have h1 : Finset.univ.fold max (⊥ : EReal) f ≠ ⊤ := by
    intro h
    have : (⊤ : EReal) ≤ Finset.univ.fold max ⊥ f := h.ge
    rw [Finset.le_fold_max] at this
    rcases this with h | ⟨i, -, h⟩
    · exact absurd (le_bot_iff.1 h) (by simp)
    · exact hf i (top_le_iff.1 h)
  have h2 : max (μ : EReal) (Finset.univ.fold max ⊥ f) ≠ ⊤ := by
    intro h
    rcases max_eq_iff.1 h with ⟨h, -⟩ | ⟨h, -⟩
    · exact EReal.coe_ne_top _ h
    · exact h1 h
  have h3 : max (μ : EReal) (Finset.univ.fold max ⊥ f) ≠ ⊥ := by
    intro h
    exact absurd (le_bot_iff.1 (h ▸ le_max_left _ _)) (EReal.coe_ne_bot μ)
  exact ⟨_, (EReal.coe_toReal h2 h3).symm⟩

/-- The maximum of finitely many logits of which one is a real is a real. -/
theorem max_real' {ι : Type} [Fintype ι] (f : ι → EReal) (hf : ∀ i, f i ≠ ⊤) (i₀ : ι) (h₀ : f i₀ ≠ ⊥) :
    ∃ ν : ℝ, Finset.univ.fold max (⊥ : EReal) f = (ν : EReal) := by
  obtain ⟨ν, hν⟩ := max_real (f i₀).toReal f hf
  refine ⟨ν, hν ▸ (max_eq_right ?_).symm⟩
  rw [EReal.coe_toReal (hf i₀) h₀, Finset.le_fold_max]
  exact Or.inr ⟨i₀, Finset.mem_univ _, le_rfl⟩

/-- The total weight of the first `n` keys, as a real. -/
def tot (l : ℕ → EReal) (μ : ℝ) (n : ℕ) : ℝ := ∑ s ∈ Finset.range n, rwt (l s) μ

theorem acc_one {l : ℕ → EReal} (hl : ∀ s, l s ≠ ⊤) (μ : ℝ) (n : ℕ) : acc l (fun _ => 1) μ n = (tot l μ n : EReal) := by
  rw [acc, tot, coe_sum]
  exact Finset.sum_congr rfl fun s _ => by rw [mul_one, wt_eq (hl s)]

theorem tot_pos {l : ℕ → EReal} (hl : ∀ s, l s ≠ ⊤) (μ : ℝ) {n s₀ : ℕ} (hs : s₀ < n) (h₀ : l s₀ ≠ ⊥) : 0 < tot l μ n := by
  refine Finset.sum_pos' (fun s _ => rwt_nonneg (hl s) μ) ⟨s₀, Finset.mem_range.2 hs, ?_⟩
  rw [← EReal.coe_toReal (hl s₀) h₀]
  exact rwt_pos _ _

/-- Keys at minus infinity add nothing. -/
theorem acc_extend {l v : ℕ → EReal} (μ : ℝ) {n T : ℕ} (hT : n ≤ T) (hm : ∀ s, n ≤ s → s < T → l s = ⊥) :
    acc l v μ n = acc l v μ T := by
  refine Finset.sum_subset (Finset.range_mono hT) fun s hs hn => ?_
  rw [hm s (by simpa using hn) (Finset.mem_range.1 hs), wt_bot, zero_mul]

/-- The quotient of the accumulator by the total weight is the softmax-weighted sum of the values, the weights
    taken against any other real maximum. -/
theorem quotient {l v : ℕ → EReal} (hl : ∀ s, l s ≠ ⊤) (μ ν : ℝ) {n T : ℕ} (hT : n ≤ T)
    (hm : ∀ s, n ≤ s → s < T → l s = ⊥) {s₀ : ℕ} (hs : s₀ < n) (h₀ : l s₀ ≠ ⊥) :
    Ideal.div (acc l v μ n) (acc l (fun _ => 1) μ n)
      = ∑ k : Fin T, Ideal.div (Ideal.exp (l k.val - (ν : EReal))) (∑ j : Fin T, Ideal.exp (l j.val - (ν : EReal))) * v k.val := by
  have e1 : (∑ j : Fin T, Ideal.exp (l j.val - (ν : EReal))) = (tot l ν T : EReal) := by
    rw [← acc_one hl, acc, Finset.sum_range]
    exact Finset.sum_congr rfl fun s _ => (mul_one _).symm
  have p1 := tot_pos hl μ (lt_of_lt_of_le hs hT) h₀
  have p2 := tot_pos hl ν (lt_of_lt_of_le hs hT) h₀
  have e2 : tot l ν T = Real.exp (μ - ν) * tot l μ T := by
    rw [tot, tot, Finset.mul_sum]
    exact Finset.sum_congr rfl fun s _ => (rwt_shift (hl s) μ ν).symm
  rw [acc_extend μ hT hm, acc_extend (v := fun _ => 1) μ hT hm, acc_one hl, e1, Ideal.div_coe p1.ne', mul_comm, acc,
    mul_sum _ (by positivity), Finset.sum_range]
  refine Finset.sum_congr rfl fun k _ => ?_
  change _ = Ideal.div (wt (l k.val) ν) _ * _
  rw [Ideal.div_coe p2.ne', ← mul_assoc, wt_eq (hl _), wt_eq (hl _), ← EReal.coe_mul, ← EReal.coe_mul]
  congr 2
  rw [e2, ← rwt_shift (hl _) μ ν]
  have := (Real.exp_pos (μ - ν)).ne'
  field_simp

end Cert.Softmax

end
-- ==== Proof.Fox.Row.lean ====
/-
  The forgetting attention's block at the ideal, one query row at a time. The scores of a row against a key are two
  sums of products, over the head's lanes and over the bias lanes (`BL`); when they are a row of logits of which none
  is infinite upwards, the carry after `n` blocks is a real maximum with the accumulator against it (`accN_inv`), and
  the stored lane is the accumulator of a value lane divided by the total weight (`outBlk_lo`, `outBlk_hi`).
-/
module

public import proofs.«01_k».proof.Proof.Fox.Steps
public import proofs.«01_k».proof.Proof.Softmax.Online
public import Idealize.ShloMosaic.Lib.Pointwise

@[expose] public section

set_option maxRecDepth 16384

noncomputable section

namespace Cert.FoxIdeal.Hand

open Cert.FoxIdeal Cert.FoxIdeal.Gen Cert.Softmax
open Idealize.ShloMosaic Idealize.ShloMosaic.TcCoe

/-- The score of query row `r` of head `e` of the pair against key `s`. -/
def BL (p : ℕ) (x3 x4 : Vec Ideal S1x512x128 .bf16) (x5 x6 : Vec Ideal S1x128x4096 .bf16) (e : ℕ) (r : Fin 512) (s : Fin 4096) : EReal :=
  (∑ x : Fin 128, (if x.val / 64 = e then (x3 (ix3 0 r x) : EReal) else 0) * x5 (ix3 0 x s))
    + ∑ x : Fin 128, (if x.val % 8 = 2 * p + e ∧ x.val < 56 then (x4 (ix3 0 r x) : EReal) else 0) * x6 (ix3 0 x s)

theorem sel_ite {α : Type} {P : Prop} [Decidable P] {b : BitVec 1} (h : b = if P then 1#1 else 0#1) (x y : α) :
    Scalar.select b x y = if P then x else y := by
  subst h; by_cases h : P <;> simp [h, Scalar.select]

theorem half0 : ∀ x : Fin 128, IntOp.andi (IntOp.cmpi CmpIPredicate.sge (BitVec.ofNat 32 x.val) 0#32)
    (IntOp.cmpi CmpIPredicate.slt (BitVec.ofNat 32 x.val) 64#32) = if x.val / 64 = 0 then 1#1 else 0#1 := by decide +kernel
theorem half1 : ∀ x : Fin 128, IntOp.andi (IntOp.cmpi CmpIPredicate.sge (BitVec.ofNat 32 x.val) 64#32)
    (IntOp.cmpi CmpIPredicate.slt (BitVec.ofNat 32 x.val) 128#32) = if x.val / 64 = 1 then 1#1 else 0#1 := by decide +kernel
theorem lane0 : ∀ (p : Fin 4) (x : Fin 128), IntOp.andi
    (IntOp.cmpi CmpIPredicate.eq (IntOp.andi (BitVec.ofNat 32 x.val) 7#32)
      (Scalar.addi (Scalar.muli (2#32) (BitVec.ofNat 32 p.val)) 0#32))
    (IntOp.cmpi CmpIPredicate.slt (BitVec.ofNat 32 x.val) 56#32)
    = if x.val % 8 = 2 * p.val + 0 ∧ x.val < 56 then 1#1 else 0#1 := by decide +kernel
theorem lane1 : ∀ (p : Fin 4) (x : Fin 128), IntOp.andi
    (IntOp.cmpi CmpIPredicate.eq (IntOp.andi (BitVec.ofNat 32 x.val) 7#32)
      (Scalar.addi (Scalar.muli (2#32) (BitVec.ofNat 32 p.val)) 1#32))
    (IntOp.cmpi CmpIPredicate.slt (BitVec.ofNat 32 x.val) 56#32)
    = if x.val % 8 = 2 * p.val + 1 ∧ x.val < 56 then 1#1 else 0#1 := by decide +kernel

theorem ldK_read (x : Vec Ideal S1x128x4096 .bf16) (j : ℕ) (a : Fin 128) (c : Fin 512) :
    ldK x j (ix3 0 a c) = x (ix3 0 a ⟨(512 * j + c.val) % 4096, Nat.mod_lt _ (by decide)⟩) := by
  refine congrArg x (funext fun d => ?_)
  match d with
  | ⟨0, _⟩ => rfl
  | ⟨1, _⟩ => rfl
  | ⟨2, _⟩ => rfl

theorem scores0_read (i : grid0.Coords) (x3 x4 : Vec Ideal S1x512x128 .bf16) (x5 x6 : Vec Ideal S1x128x4096 .bf16) (j : ℕ) (r c : Fin 512) :
    scores0 (qAll i x3 x4) (ldK x5 j) (ldK x6 j) (ix2 r c)
      = BL (i 1).val x3 x4 x5 x6 0 r ⟨(512 * j + c.val) % 4096, Nat.mod_lt _ (by decide)⟩ := by
  pointwise [scores0, scores]
  rw [BL]
  refine congrArg₂ (· + ·) (Finset.sum_congr rfl fun x _ => congrArg₂ (· * ·) ?_ ?_)
    (Finset.sum_congr rfl fun x _ => congrArg₂ (· * ·) ?_ ?_)
  · pointwise [qAll, k0_pay109, k0_pay105, k0_pay106, k0_pay107, k0_pay108, k0_pay104]
    exact sel_ite (half0 x) _ _
  · exact ldK_read x5 j x c
  · pointwise [qAll, k0_pay109, k0_pay105, k0_pay106, k0_pay107, k0_pay108, k0_pay104]
    exact sel_ite (lane0 (i 1) x) _ _
  · exact ldK_read x6 j x c

theorem scores1_read (i : grid0.Coords) (x3 x4 : Vec Ideal S1x512x128 .bf16) (x5 x6 : Vec Ideal S1x128x4096 .bf16) (j : ℕ) (r c : Fin 512) :
    scores1 (qAll i x3 x4) (ldK x5 j) (ldK x6 j) (ix2 r c)
      = BL (i 1).val x3 x4 x5 x6 1 r ⟨(512 * j + c.val) % 4096, Nat.mod_lt _ (by decide)⟩ := by
  pointwise [scores1, scores]
  rw [BL]
  refine congrArg₂ (· + ·) (Finset.sum_congr rfl fun x _ => congrArg₂ (· * ·) ?_ ?_)
    (Finset.sum_congr rfl fun x _ => congrArg₂ (· * ·) ?_ ?_)
  · pointwise [qAll, k0_pay109, k0_pay105, k0_pay106, k0_pay107, k0_pay108, k0_pay104]
    exact sel_ite (half1 x) _ _
  · exact ldK_read x5 j x c
  · pointwise [qAll, k0_pay109, k0_pay105, k0_pay106, k0_pay107, k0_pay108, k0_pay104]
    exact sel_ite (lane1 (i 1) x) _ _
  · exact ldK_read x6 j x c

theorem le_word (r c : Fin 512) : IntOp.cmpi CmpIPredicate.sle (BitVec.ofNat 32 c.val) (BitVec.ofNat 32 r.val) = if c.val ≤ r.val then 1#1 else 0#1 := by
  have hc := c.isLt; have hr := r.isLt
  have e1 : (BitVec.ofNat 32 c.val).toInt = c.val := by
    rw [BitVec.toInt_eq_toNat_of_lt (by rw [BitVec.toNat_ofNat]; omega), BitVec.toNat_ofNat]
    exact congrArg Nat.cast (Nat.mod_eq_of_lt (by omega))
  have e2 : (BitVec.ofNat 32 r.val).toInt = r.val := by
    rw [BitVec.toInt_eq_toNat_of_lt (by rw [BitVec.toNat_ofNat]; omega), BitVec.toNat_ofNat]
    exact congrArg Nat.cast (Nat.mod_eq_of_lt (by omega))
  by_cases h : c.val ≤ r.val
  · simp [IntOp.cmpi, BitVec.sle, e1, e2, h]
  · simp [IntOp.cmpi, BitVec.sle, e1, e2, h]

theorem negInf : Ideal.ofBits FTy.f32 4286578688#32 = ⊥ := by
  simp [Ideal.ofBits, Ideal.ieee]

theorem masked_read (s : FVec Ideal S512x512 .f32) (r c : Fin 512) :
    masked s (ix2 r c) = if c.val ≤ r.val then s (ix2 r c) else (⊥ : EReal) := by
  pointwise [masked]
  rw [sel_ite (le_word r c), negInf]

theorem ldV_read (x : Vec Ideal S1x4096x128 .bf16) (n : ℕ) (c : Fin 512) (d : Fin 128) (h : 512 * n + c.val < 4096) :
    ldV x n (ix3 0 c d) = x (ix3 0 ⟨512 * n + c.val, h⟩ d) := by
  have e := Nat.mod_eq_of_lt h
  refine congrArg x (funext fun a => ?_)
  match a with
  | ⟨0, _⟩ => rfl
  | ⟨1, _⟩ => exact Fin.ext e
  | ⟨2, _⟩ => rfl

/-- One head's carry at a query row holds the running softmax over the first `n` keys. -/
def Inv (l : ℕ → EReal) (v : ℕ → Fin 128 → EReal) (n : ℕ) (m : FVec Ideal S512x1 .f32) (a : FVec Ideal S512x128 .f32) (r : Fin 512) : Prop :=
  ∃ μ : ℝ, m (ix2 r 0) = (μ : EReal) ∧ ∀ d : Fin 128, a (ix2 r d) = acc l (fun s => v s d) μ n

theorem newM_real (s : FVec Ideal S512x512 .f32) (m : FVec Ideal S512x1 .f32) (r : Fin 512) (μ : ℝ) (hm : m (ix2 r 0) = (μ : EReal))
    (hs : ∀ c, s (ix2 r c) ≠ (⊤ : EReal)) : ∃ ν : ℝ, newM s m (ix2 r 0) = (ν : EReal) := by
  obtain ⟨ν, hν⟩ := max_real μ (fun c : Fin 512 => (s (ix2 r c) : EReal)) hs
  refine ⟨ν, ?_⟩
  pointwise [newM]
  rw [hm, negInf]
  exact hν

/-- A block of 512 keys, whose scores at this row are the logits `l (n + c)`, moves the invariant by 512. -/
theorem inv_block {l : ℕ → EReal} (hl : ∀ s, l s ≠ ⊤) {v : ℕ → Fin 128 → EReal} {n : ℕ} {m : FVec Ideal S512x1 .f32} {a : FVec Ideal S512x128 .f32} {r : Fin 512}
    (h : Inv l v n m a r) (s : FVec Ideal S512x512 .f32) (w : Vec Ideal S1x512x128 .bf16)
    (hs : ∀ c : Fin 512, s (ix2 r c) = l (n + c.val)) (hw : ∀ (c : Fin 512) (d : Fin 128), w (ix3 0 c d) = v (n + c.val) d) :
    Inv l v (n + 512) (newM s m) (newA s m a w) r := by
  obtain ⟨μ, hm, ha⟩ := h
  obtain ⟨ν, hν⟩ := newM_real s m r μ hm (fun c => by rw [hs]; exact hl _)
  refine ⟨ν, hν, fun d => ?_⟩
  rw [← fold_block hl μ ν n 512, ← ha d]
  pointwise [newA]
  rw [hν, hm]
  refine congrArg₂ (· + ·) rfl (Finset.sum_congr rfl fun c _ => ?_)
  rw [hs, hw]

theorem inv_start {l : ℕ → EReal} {v : ℕ → Fin 128 → EReal} (r : Fin 512) :
    Inv l v 0 (k0_pay110 (F := Ideal)) (k0_pay111 (F := Ideal)) r := by
  have h1 : ∃ ν : ℝ, Ideal.ofBits FTy.f32 0xF149F2CA#32 = (ν : EReal) :=
    ⟨_, by simp [Ideal.ofBits, Ideal.ieee]; norm_cast⟩
  obtain ⟨ν, hν⟩ := h1
  refine ⟨ν, hν, fun d => ?_⟩
  pointwise [k0_pay111]
  simp [acc]

theorem accN_inv (i : grid0.Coords) (x3 x4 : Vec Ideal S1x512x128 .bf16) (x5 x6 : Vec Ideal S1x128x4096 .bf16) (x7 x8 : Vec Ideal S1x4096x128 .bf16)
    (l : ℕ → ℕ → EReal) (hl : ∀ e s, l e s ≠ ⊤) (v : ℕ → ℕ → Fin 128 → EReal) (r : Fin 512) (N : ℕ) (hN : N ≤ 8)
    (hs : ∀ e < 2, ∀ s : Fin 4096, s.val < 512 * N → BL (i 1).val x3 x4 x5 x6 e r s = l e s.val)
    (h7 : ∀ (s : Fin 4096) d, x7 (ix3 0 s d) = v 0 s.val d) (h8 : ∀ (s : Fin 4096) d, x8 (ix3 0 s d) = v 1 s.val d) :
    ∀ n ≤ N, Inv (l 0) (v 0) (512 * n) (accN (qAll i x3 x4) x5 x6 x7 x8 n).1 (accN (qAll i x3 x4) x5 x6 x7 x8 n).2.1 r
      ∧ Inv (l 1) (v 1) (512 * n) (accN (qAll i x3 x4) x5 x6 x7 x8 n).2.2.1 (accN (qAll i x3 x4) x5 x6 x7 x8 n).2.2.2 r := by
  intro n
  induction n with
  | zero => exact fun _ => ⟨inv_start r, inv_start r⟩
  | succ n ih =>
    intro hn
    obtain ⟨h0, h1⟩ := ih (by omega)
    have hb : ∀ c : Fin 512, (512 * n + c.val) % 4096 = 512 * n + c.val := fun c => Nat.mod_eq_of_lt (by omega)
    refine ⟨inv_block (hl 0) h0 _ _ (fun c => ?_) (fun c d => ?_), inv_block (hl 1) h1 _ _ (fun c => ?_) (fun c d => ?_)⟩
    · rw [scores0_read, hs 0 (by omega) _ (by simp only [hb]; omega)]; simp only [hb]
    · rw [ldV_read _ _ _ _ (by omega), h7]
    · rw [scores1_read, hs 1 (by omega) _ (by simp only [hb]; omega)]; simp only [hb]
    · rw [ldV_read _ _ _ _ (by omega), h8]

/-- After the diagonal block both accumulators hold the row's softmax over the first `512 (n + 1)` keys. -/
theorem stepC_acc (i : grid0.Coords) (x3 x4 : Vec Ideal S1x512x128 .bf16) (x5 x6 : Vec Ideal S1x128x4096 .bf16) (x7 x8 : Vec Ideal S1x4096x128 .bf16)
    (l : ℕ → ℕ → EReal) (hl : ∀ e s, l e s ≠ ⊤) (v : ℕ → ℕ → Fin 128 → EReal) (r : Fin 512) (n : ℕ) (hn : n < 8)
    (hs : ∀ e < 2, ∀ s : Fin 4096, s.val ≤ 512 * n + r.val → BL (i 1).val x3 x4 x5 x6 e r s = l e s.val)
    (hb : ∀ e s, 512 * n + r.val < s → l e s = ⊥)
    (h7 : ∀ (s : Fin 4096) d, x7 (ix3 0 s d) = v 0 s.val d) (h8 : ∀ (s : Fin 4096) d, x8 (ix3 0 s d) = v 1 s.val d) :
    (∃ μ : ℝ, ∀ d, (stepC (qAll i x3 x4) (ldK x5 n) (ldK x6 n) (ldV x7 n) (ldV x8 n) (accN (qAll i x3 x4) x5 x6 x7 x8 n)).1 (ix2 r d)
        = acc (l 0) (fun s => v 0 s d) μ (512 * n + 512))
    ∧ (∃ μ : ℝ, ∀ d, (stepC (qAll i x3 x4) (ldK x5 n) (ldK x6 n) (ldV x7 n) (ldV x8 n) (accN (qAll i x3 x4) x5 x6 x7 x8 n)).2 (ix2 r d)
        = acc (l 1) (fun s => v 1 s d) μ (512 * n + 512)) := by
  obtain ⟨h0, h1⟩ := accN_inv i x3 x4 x5 x6 x7 x8 l hl v r n (by omega) (fun e he s h => hs e he s (by omega)) h7 h8 n le_rfl
  have hm : ∀ c : Fin 512, (512 * n + c.val) % 4096 = 512 * n + c.val := fun c => Nat.mod_eq_of_lt (by omega)
  have k0 := inv_block (hl 0) h0 (masked (scores0 (qAll i x3 x4) (ldK x5 n) (ldK x6 n))) (ldV x7 n) (fun c => by
      rw [masked_read]
      split
      · rw [scores0_read, hs 0 (by omega) _ (by simp only [hm]; omega)]; simp only [hm]
      · exact (hb _ _ (by omega)).symm)
    (fun c d => by rw [ldV_read _ _ _ _ (by omega), h7])
  have k1 := inv_block (hl 1) h1 (masked (scores1 (qAll i x3 x4) (ldK x5 n) (ldK x6 n))) (ldV x8 n) (fun c => by
      rw [masked_read]
      split
      · rw [scores1_read, hs 1 (by omega) _ (by simp only [hm]; omega)]; simp only [hm]
      · exact (hb _ _ (by omega)).symm)
    (fun c d => by rw [ldV_read _ _ _ _ (by omega), h8])
  obtain ⟨μ, -, h⟩ := k0
  obtain ⟨ν, -, h'⟩ := k1
  exact ⟨⟨μ, h⟩, ⟨ν, h'⟩⟩

theorem lt64 : ∀ x : Fin 128, IntOp.cmpi CmpIPredicate.slt (BitVec.ofNat 32 x.val) 64#32 = if x.val < 64 then 1#1 else 0#1 := by decide +kernel

/-- THE STORED LANE: lane `64 e + d` of a row is head `e`'s softmax-weighted sum of the values of lane `d`, the
    weights against any real maximum `ν`. -/
theorem outBlk_read (i : grid0.Coords) (x3 x4 : Vec Ideal S1x512x128 .bf16) (x5 x6 : Vec Ideal S1x128x4096 .bf16) (x7 x8 : Vec Ideal S1x4096x128 .bf16)
    (l : ℕ → ℕ → EReal) (hl : ∀ e s, l e s ≠ ⊤) (v : ℕ → ℕ → ℕ → EReal) (r : Fin 512)
    (hs : ∀ e < 2, ∀ s : Fin 4096, s.val ≤ 512 * (i 2).val + r.val → BL (i 1).val x3 x4 x5 x6 e r s = l e s.val)
    (hb : ∀ e s, 512 * (i 2).val + r.val < s → l e s = ⊥) (hd : ∀ e, l e (512 * (i 2).val + r.val) ≠ ⊥)
    (h7 : ∀ (s : Fin 4096) (d : Fin 128), x7 (ix3 0 s d) = if d.val < 64 then v 0 s.val d.val else (1 : EReal))
    (h8 : ∀ (s : Fin 4096) (d : Fin 128), x8 (ix3 0 s d) = if d.val < 64 then v 1 s.val d.val else (1 : EReal))
    (c : Fin 128) (z : Fin 1) (ν : ℝ) :
    outBlk i x3 x4 x5 x6 x7 x8 (ix3 z r c)
      = ∑ k : Fin 4096, Ideal.div (Ideal.exp (l (c.val / 64) k.val - (ν : EReal)))
          (∑ j : Fin 4096, Ideal.exp (l (c.val / 64) j.val - (ν : EReal))) * v (c.val / 64) k.val (c.val % 64) := by
  have hi : (i 2).val < 8 := (i 2).isLt
  obtain ⟨⟨μ, h0⟩, ⟨μ', h1⟩⟩ := stepC_acc i x3 x4 x5 x6 x7 x8 l hl
    (fun e s d => if d.val < 64 then v e s d.val else (1 : EReal)) r (i 2).val hi hs hb h7 h8
  pointwise [outBlk, k0_pay3]
  rw [sel_ite (lt64 c)]
  have hc := c.isLt
  by_cases h : c.val < 64
  · have e0 : c.val / 64 = 0 := by omega
    rw [if_pos h, h0, h0, e0]
    simp only [if_pos h, if_neg (show ¬ (c.val + 128 - 64) % 128 < 64 by omega)]
    rw [quotient (hl 0) μ ν (T := 4096) (by omega) (fun s hs' _ => hb 0 s (by omega)) (s₀ := 512 * (i 2).val + r.val) (by omega) (hd 0),
      show c.val % 64 = c.val by omega]
  · have e1 : c.val / 64 = 1 := by omega
    rw [if_neg h, h1, h1, e1]
    simp only [if_neg h, if_pos (show (c.val + 128 - 64) % 128 < 64 by omega)]
    rw [quotient (hl 1) μ' ν (T := 4096) (by omega) (fun s hs' _ => hb 1 s (by omega)) (s₀ := 512 * (i 2).val + r.val) (by omega) (hd 1),
      show (c.val + 128 - 64) % 128 = c.val % 64 by omega]

end Cert.FoxIdeal.Hand

end
-- ==== Proof.Fox.Body.lean ====
/-
  The run of the forgetting attention's kernel body, over any value instance: at every grid point, from staged blocks
  that read `x3 … x8`, it stores `Hand.outBlk` of them (Fox/Steps.lean).
-/
module

public import proofs.«01_k».proof.Proof.Fox.Steps
public import Idealize.ShloMosaic.Lib.Pipeline.Value
public import Idealize.ShloMosaic.Lib.Pipeline.ValueKit.Tiles
public import Idealize.ShloMosaic.Lib.VecWindow

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The offsets of the loads, the trips of the loops and the two conditions, in closed form -/

theorem trips1 (i : grid0.Coords) : (k0_t1_loop i).trips = (i 2).val / 4 := by
  have h : ∀ j : Fin 8, ∀ i : grid0.Coords, (i 2).val = j.val → (k0_t1_loop i).trips = j.val / 4 := by
    intro j i h; unfold k0_t1_loop; rw [h]; clear h i; revert j; decide +kernel
  exact h ⟨(i 2).val, (i 2).isLt⟩ i rfl
theorem trips2 (i : grid0.Coords) : (k0_t2_loop i).trips = 0 := by
  have h : ∀ j : Fin 8, ∀ i : grid0.Coords, (i 2).val = j.val → (k0_t2_loop i).trips = 0 := by
    intro j i h; unfold k0_t2_loop; rw [h]; clear h i; revert j; decide +kernel
  exact h ⟨(i 2).val, (i 2).isLt⟩ i rfl
theorem cond1 (i : grid0.Coords) : k0_cond1 i = 1#1 ↔ 2 ≤ (i 2).val % 4 := by
  have h : ∀ j : Fin 8, ∀ i : grid0.Coords, (i 2).val = j.val → (k0_cond1 i = 1#1 ↔ 2 ≤ j.val % 4) := by
    intro j i h; unfold k0_cond1; rw [h]; clear h i; revert j; decide +kernel
  exact h ⟨(i 2).val, (i 2).isLt⟩ i rfl
theorem cond2 (i : grid0.Coords) : k0_cond2 i = 1#1 ↔ (i 2).val % 2 = 1 := by
  have h : ∀ j : Fin 8, ∀ i : grid0.Coords, (i 2).val = j.val → (k0_cond2 i = 1#1 ↔ j.val % 2 = 1) := by
    intro j i h; unfold k0_cond2; rw [h]; clear h i; revert j; decide +kernel
  exact h ⟨(i 2).val, (i 2).isLt⟩ i rfl

theorem off1 (i : grid0.Coords) (k : Fin (k0_t1_loop i).trips) (j : Fin 4) :
    k0_off1 i k (BitVec.ofNat 32 j.val) = ![0, 0, 512 * (4 * k.val + j.val)]
    ∧ k0_off2 i k (BitVec.ofNat 32 j.val) = ![0, 512 * (4 * k.val + j.val), 0] := by
  have hk : k.val < 2 := by
    have h1 := k.isLt; have h2 := trips1 i; have h3 : (i 2).val < 8 := (i 2).isLt; omega
  unfold k0_off1 k0_off2
  generalize k.val = n at *
  obtain ⟨l, rfl⟩ : ∃ l : Fin 2, n = l.val := ⟨⟨n, hk⟩, rfl⟩
  clear hk
  revert l j
  decide +kernel
theorem off5 (i : grid0.Coords) : k0_off5 i = ![0, 0, 512 * (4 * ((i 2).val / 4))] ∧ k0_off6 i = ![0, 512 * (4 * ((i 2).val / 4)), 0]
    ∧ k0_off7 i = ![0, 0, 512 * (4 * ((i 2).val / 4) + 1)] ∧ k0_off8 i = ![0, 512 * (4 * ((i 2).val / 4) + 1), 0] := by
  unfold k0_off5 k0_off6 k0_off7 k0_off8
  have h : (i 2).val < 8 := (i 2).isLt
  generalize (i 2).val = n at *
  obtain ⟨j, rfl⟩ : ∃ j : Fin 8, n = j.val := ⟨⟨n, h⟩, rfl⟩
  clear h i
  revert j
  decide +kernel
theorem off9 (i : grid0.Coords) (h0 : 0 < (i 2).val) : k0_off9 i = ![0, 0, 512 * ((i 2).val - 1)] ∧ k0_off10 i = ![0, 512 * ((i 2).val - 1), 0] := by
  unfold k0_off9 k0_off10
  have h : (i 2).val < 8 := (i 2).isLt
  generalize (i 2).val = n at *
  obtain ⟨j, rfl⟩ : ∃ j : Fin 8, n = j.val := ⟨⟨n, h⟩, rfl⟩
  clear h i
  revert j
  decide +kernel
theorem off11 (i : grid0.Coords) : k0_off11 i = ![0, 0, 512 * (i 2).val] ∧ k0_off12 i = ![0, 512 * (i 2).val, 0]
    ∧ k0_off13 i = ![0, 0, 512 * (i 2).val] ∧ k0_off14 i = ![0, 512 * (i 2).val, 0] := by
  unfold k0_off11 k0_off12 k0_off13 k0_off14
  have h : (i 2).val < 8 := (i 2).isLt
  generalize (i 2).val = n at *
  obtain ⟨j, rfl⟩ : ∃ j : Fin 8, n = j.val := ⟨⟨n, h⟩, rfl⟩
  clear h i
  revert j
  decide +kernel

/-- A load of 512 columns of a key block, as `ldK`; of 512 rows of a value block, as `ldV`. -/
theorem readK (v : View sig .tc .vmem S1x128x4096 .bf16) (X : v.ty.Contents (Elt F)) (off : Fin 3 → ℕ) (j : ℕ)
    (hj : j < 8) (ho : off = ![0, 0, 512 * j]) (h) :
    View.readAt (Elt F) v (Rect.unit (s := S1x128x4096) off S1x128x512.size h).toLoadRect X = ldK (View.read (Elt F) v X) j := by
  subst ho
  funext y
  rw [View.readAt_apply]
  unfold ldK
  congr 1
  funext a
  apply Fin.ext
  have h2 : (y 2).val < 512 := (y 2).isLt
  fin_cases a
  · exact (Rect.idx_unit_val _ _ _ y 0).trans (Nat.zero_add _)
  · exact (Rect.idx_unit_val _ _ _ y 1).trans (Nat.zero_add _)
  · refine (Rect.idx_unit_val _ _ _ y 2).trans ?_
    show 512 * j + (y 2).val = (512 * j + (y 2).val) % 4096
    omega
theorem readV (v : View sig .tc .vmem S1x4096x128 .bf16) (X : v.ty.Contents (Elt F)) (off : Fin 3 → ℕ) (j : ℕ)
    (hj : j < 8) (ho : off = ![0, 512 * j, 0]) (h) :
    View.readAt (Elt F) v (Rect.unit (s := S1x4096x128) off S1x512x128.size h).toLoadRect X = ldV (View.read (Elt F) v X) j := by
  subst ho
  funext y
  rw [View.readAt_apply]
  unfold ldV
  congr 1
  funext a
  apply Fin.ext
  have h2 : (y 1).val < 512 := (y 1).isLt
  fin_cases a
  · exact (Rect.idx_unit_val _ _ _ y 0).trans (Nat.zero_add _)
  · refine (Rect.idx_unit_val _ _ _ y 1).trans ?_
    show 512 * j + (y 1).val = (512 * j + (y 1).val) % 4096
    omega
  · exact (Rect.idx_unit_val _ _ _ y 2).trans (Nat.zero_add _)

/-- One block folded in, by the loads as the run reads them. -/
theorem stepAt_read (q : FVec F S1024x256 .bf16) (v5 v6 : View sig .tc .vmem S1x128x4096 .bf16) (v7 v8 : View sig .tc .vmem S1x4096x128 .bf16)
    (X5 : v5.ty.Contents (Elt F)) (X6 : v6.ty.Contents (Elt F)) (X7 : v7.ty.Contents (Elt F)) (X8 : v8.ty.Contents (Elt F))
    (oK oV : Fin 3 → ℕ) (j : ℕ) (hj : j < 8) (hK : oK = ![0, 0, 512 * j]) (hV : oV = ![0, 512 * j, 0]) (h1 h2) (c : Carry F) :
    stepAt q (View.read (Elt F) v5 X5) (View.read (Elt F) v6 X6) (View.read (Elt F) v7 X7) (View.read (Elt F) v8 X8) j c
      = step q (View.readAt (Elt F) v5 (Rect.unit (s := S1x128x4096) oK S1x128x512.size h1).toLoadRect X5)
          (View.readAt (Elt F) v6 (Rect.unit (s := S1x128x4096) oK S1x128x512.size h1).toLoadRect X6)
          (View.readAt (Elt F) v7 (Rect.unit (s := S1x4096x128) oV S1x512x128.size h2).toLoadRect X7)
          (View.readAt (Elt F) v8 (Rect.unit (s := S1x4096x128) oV S1x512x128.size h2).toLoadRect X8) c := by
  rw [readK v5 X5 oK j hj hK, readK v6 X6 oK j hj hK, readV v7 X7 oV j hj hV, readV v8 X8 oV j hj hV]; rfl

/-! ## The loop over the blocks before the diagonal, four to a trip -/

section Loop
variable (𝒱 : Variants) (c : Dev nD) (bd : Option 𝒱.V) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x512x128 .bf16) (harg9 : arg9.IsWhole)
  (arg2 : BitVec 32) (v0 : IVec S512x128 32) (v6 : FVec F S512x128 .f32) (v26 : FVec F S512x256 .bf16) (v28 : BitVec 32) (v35 : FVec F S512x128 .f32) (v36 : IVec S512x128 32)
  (X5 : BufTy.Contents (Elt F) arg5.view.ty) (X6 : BufTy.Contents (Elt F) arg6.view.ty) (X7 : BufTy.Contents (Elt F) arg7.view.ty) (X8 : BufTy.Contents (Elt F) arg8.view.ty)

theorem trip_eq (k : Fin (k0_t1_loop i).trips) (acc : Carry F) :
    tripR_k0_t1 (F := F) 𝒱 c bd i arg3 harg3 arg4 harg4 arg5 harg5 arg6 harg6 arg7 harg7 arg8 harg8 arg9 harg9 arg2 v0 v6 v26 v28 v35 v36 X5 X6 X7 X8 k acc
      = (let q := k0_pay109 v0 v6 v26 v28 v35 v36
         let s := stepAt q (View.read (Elt F) arg5.view X5) (View.read (Elt F) arg6.view X6) (View.read (Elt F) arg7.view X7) (View.read (Elt F) arg8.view X8)
         s (4 * k.val + 3) (s (4 * k.val + 2) (s (4 * k.val + 1) (s (4 * k.val) acc)))) := by
  have hk : k.val < 2 := by
    have h1 := k.isLt; have h2 := trips1 i; have h3 : (i 2).val < 8 := (i 2).isLt; omega
  have e0 := off1 i k 0
  have e1 := off1 i k 1
  have e2 := off1 i k 2
  have e3 := off1 i k 3
  dsimp only
  rw [stepAt_read _ _ _ _ _ _ _ _ _ (k0_off1 i k 3#32) (k0_off2 i k 3#32) (4 * k.val + 3) (by omega) e3.1 e3.2 (k0_off1_inb i k 3) (k0_off2_inb i k 3),
    stepAt_read _ _ _ _ _ _ _ _ _ (k0_off1 i k 2#32) (k0_off2 i k 2#32) (4 * k.val + 2) (by omega) e2.1 e2.2 (k0_off1_inb i k 2) (k0_off2_inb i k 2),
    stepAt_read _ _ _ _ _ _ _ _ _ (k0_off1 i k 1#32) (k0_off2 i k 1#32) (4 * k.val + 1) (by omega) e1.1 e1.2 (k0_off1_inb i k 1) (k0_off2_inb i k 1),
    stepAt_read _ _ _ _ _ _ _ _ _ (k0_off1 i k 0#32) (k0_off2 i k 0#32) (4 * k.val) (by omega) e0.1 e0.2 (k0_off1_inb i k 0) (k0_off2_inb i k 0)]
  unfold tripR_k0_t1 trip_k0_t1
  rfl

/-- After the loop the carry is that before block `4 (qi / 4)`. -/
theorem st_eq (h : v0 = v0) (n : ℕ) (hn : n ≤ (k0_t1_loop i).trips) :
    st_k0_t1 (F := F) 𝒱 c bd i arg3 harg3 arg4 harg4 arg5 harg5 arg6 harg6 arg7 harg7 arg8 harg8 arg9 harg9 arg2 v0 v6 v26 v28 v35 v36 X5 X6 X7 X8
        (k0_pay110, k0_pay111, k0_pay112, k0_pay113) n
      = accN (k0_pay109 v0 v6 v26 v28 v35 v36) (View.read (Elt F) arg5.view X5) (View.read (Elt F) arg6.view X6) (View.read (Elt F) arg7.view X7) (View.read (Elt F) arg8.view X8) (4 * n) := by
  induction n with
  | zero => rfl
  | succ n ih =>
    refine (st_k0_t1_succ (F := F) 𝒱 c bd i arg3 harg3 arg4 harg4 arg5 harg5 arg6 harg6 arg7 harg7 arg8 harg8 arg9 harg9 arg2 v0 v6 v26 v28 v35 v36 X5 X6 X7 X8 _ ⟨n, hn⟩).trans ?_
    rw [trip_eq, ih (Nat.le_of_succ_le hn)]
    rfl

/-- What both loops leave, the second having no trip. -/
theorem loops_eq :
    st_k0_t2 (F := F) 𝒱 c bd i arg3 harg3 arg4 harg4 arg5 harg5 arg6 harg6 arg7 harg7 arg8 harg8 arg9 harg9 arg2 v0 v6 v26 v28 v35 v36 (k0_t1_loop i).ub X5 X6 X7 X8
        ((st_k0_t1 (F := F) 𝒱 c bd i arg3 harg3 arg4 harg4 arg5 harg5 arg6 harg6 arg7 harg7 arg8 harg8 arg9 harg9 arg2 v0 v6 v26 v28 v35 v36 X5 X6 X7 X8 (k0_pay110, k0_pay111, k0_pay112, k0_pay113) (k0_t1_loop i).trips).1, (st_k0_t1 (F := F) 𝒱 c bd i arg3 harg3 arg4 harg4 arg5 harg5 arg6 harg6 arg7 harg7 arg8 harg8 arg9 harg9 arg2 v0 v6 v26 v28 v35 v36 X5 X6 X7 X8 (k0_pay110, k0_pay111, k0_pay112, k0_pay113) (k0_t1_loop i).trips).2.1,
          (st_k0_t1 (F := F) 𝒱 c bd i arg3 harg3 arg4 harg4 arg5 harg5 arg6 harg6 arg7 harg7 arg8 harg8 arg9 harg9 arg2 v0 v6 v26 v28 v35 v36 X5 X6 X7 X8 (k0_pay110, k0_pay111, k0_pay112, k0_pay113) (k0_t1_loop i).trips).2.2.1, (st_k0_t1 (F := F) 𝒱 c bd i arg3 harg3 arg4 harg4 arg5 harg5 arg6 harg6 arg7 harg7 arg8 harg8 arg9 harg9 arg2 v0 v6 v26 v28 v35 v36 X5 X6 X7 X8 (k0_pay110, k0_pay111, k0_pay112, k0_pay113) (k0_t1_loop i).trips).2.2.2) (k0_t2_loop i).trips
      = accN (k0_pay109 v0 v6 v26 v28 v35 v36) (View.read (Elt F) arg5.view X5) (View.read (Elt F) arg6.view X6) (View.read (Elt F) arg7.view X7) (View.read (Elt F) arg8.view X8) (4 * ((i 2).val / 4)) := by
  rw [trips2, ← trips1]
  exact st_eq 𝒱 c bd i arg3 harg3 arg4 harg4 arg5 harg5 arg6 harg6 arg7 harg7 arg8 harg8 arg9 harg9 arg2 v0 v6 v26 v28 v35 v36 X5 X6 X7 X8 rfl _ le_rfl
end Loop

/-- The diagonal block folded in, by the loads as the run reads them. -/
theorem stepC_read (q : FVec F S1024x256 .bf16) (v5 v6 : View sig .tc .vmem S1x128x4096 .bf16) (v7 v8 : View sig .tc .vmem S1x4096x128 .bf16)
    (X5 : v5.ty.Contents (Elt F)) (X6 : v6.ty.Contents (Elt F)) (X7 : v7.ty.Contents (Elt F)) (X8 : v8.ty.Contents (Elt F))
    (oK oV : Fin 3 → ℕ) (j : ℕ) (hj : j < 8) (hK : oK = ![0, 0, 512 * j]) (hV : oV = ![0, 512 * j, 0]) (h1 h2) (c : Carry F) :
    stepC q (ldK (View.read (Elt F) v5 X5) j) (ldK (View.read (Elt F) v6 X6) j) (ldV (View.read (Elt F) v7 X7) j) (ldV (View.read (Elt F) v8 X8) j) c
      = stepC q (View.readAt (Elt F) v5 (Rect.unit (s := S1x128x4096) oK S1x128x512.size h1).toLoadRect X5)
          (View.readAt (Elt F) v6 (Rect.unit (s := S1x128x4096) oK S1x128x512.size h1).toLoadRect X6)
          (View.readAt (Elt F) v7 (Rect.unit (s := S1x4096x128) oV S1x512x128.size h2).toLoadRect X7)
          (View.readAt (Elt F) v8 (Rect.unit (s := S1x4096x128) oV S1x512x128.size h2).toLoadRect X8) c := by
  rw [readK v5 X5 oK j hj hK, readK v6 X6 oK j hj hK, readV v7 X7 oV j hj hV, readV v8 X8 oV j hj hV]

/-! ## The body, run once -/

attribute [local irreducible] st_k0_t1 st_k0_t2 accN stepAt

/-- The staged blocks as the body finds them, and as it leaves them. -/
def runPre (c : Dev nD) (i : grid0.Coords) (arg3 arg4 : Memref sig .tc .vmem S1x512x128 .bf16) (arg5 arg6 : Memref sig .tc .vmem S1x128x4096 .bf16) (arg7 arg8 : Memref sig .tc .vmem S1x4096x128 .bf16) (arg9 : Memref sig .tc .vmem S1x512x128 .bf16)
    (x3 x4 : Vec F S1x512x128 .bf16) (x5 x6 : Vec F S1x128x4096 .bf16) (x7 x8 : Vec F S1x4096x128 .bf16) (W : Waits sig Unit) (K : PUnit → sProp 𝕄) : sProp 𝕄 :=
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ (∃ d, owns (c : Thread nD τ) arg9 fullShare d) ∗ owes (c : Thread nD τ) 0 W
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare (outBlk i x3 x4 x5 x6 x7 x8) ∗ ∃ W', owes (c : Thread nD τ) 0 W') -∗ K ⟨⟩))

/-- The body at a point with two blocks left after the loop and then one. -/
theorem kernelRun_pp (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x512x128 .bf16) (harg9 : arg9.IsWhole)
  (x3 x4 : Vec F S1x512x128 .bf16) (x5 x6 : Vec F S1x128x4096 .bf16) (x7 x8 : Vec F S1x4096x128 .bf16) (W : Waits sig Unit) (K : PUnit → sProp 𝕄) (h1 : k0_cond1 i = 1#1) (h2 : k0_cond2 i = 1#1) :
    runPre c i arg3 arg4 arg5 arg6 arg7 arg8 arg9 x3 x4 x5 x6 x7 x8 W K
      ⊢ wp frame (wpE (defs₀ (F := F)) Variants.none c none) Set.univ
          (cc0_fox i arg3 harg3 arg4 harg4 arg5 harg5 arg6 harg6 arg7 harg7 arg8 harg8 arg9 harg9) K := by
  simp only [cc0_fox_eq_skeleton]; unfold cc0_fox_skel
  unfold runPre owns
  iintro ⟨⟨%f3, %e3, H3⟩, ⟨%f4, %e4, H4⟩, ⟨%f5, %e5, H5⟩, ⟨%f6, %e6, H6⟩, ⟨%f7, %e7, H7⟩, ⟨%f8, %e8, H8⟩, ⟨%d9, %f9, %e9, H9⟩, HO, Hk⟩
  subst e3 e4 e5 e6 e7 e8
  sl_exec (disch := first | sl_exact h1 | sl_exact h2)
  sl_step
  iapply Hk
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr; swap; · iexact H9
    ipureintro
    refine (View.read_writes_full _ _ _ _ _).trans ?_
    have c1 : 2 ≤ (i 2).val % 4 := (cond1 i).1 h1
    have c2 : (i 2).val % 2 = 1 := (cond2 i).1 h2
    have h8 : (i 2).val < 8 := (i 2).isLt
    have hn : (i 2).val = 4 * ((i 2).val / 4) + 1 + 1 + 1 := by omega
    have hC := off11 i
    unfold outBlk
    dsimp only
    rw [stepC_read _ _ _ _ _ _ _ _ _ (k0_off11 i) (k0_off12 i) (i 2).val h8 hC.1 hC.2.1 (k0_off11_inb i h2) (k0_off12_inb i h2)]
    rw [congrArg (accN _ _ _ _ _) hn]
    simp only [accN.eq_2]
    rw [stepAt_read _ _ _ _ _ _ _ _ _ (k0_off9 i) (k0_off10 i) (4 * ((i 2).val / 4) + 1 + 1) (by omega) (by rw [(off9 i (by omega)).1]; congr 4; omega) (by rw [(off9 i (by omega)).2]; congr 3; omega) (k0_off9_inb i h2) (k0_off10_inb i h2)]
    rw [stepAt_read _ _ _ _ _ _ _ _ _ (k0_off7 i) (k0_off8 i) (4 * ((i 2).val / 4) + 1) (by omega) (off5 i).2.2.1 (off5 i).2.2.2 (k0_off7_inb i h1) (k0_off8_inb i h1)]
    rw [stepAt_read _ _ _ _ _ _ _ _ _ (k0_off5 i) (k0_off6 i) (4 * ((i 2).val / 4)) (by omega) (off5 i).1 (off5 i).2.1 (k0_off5_inb i h1) (k0_off6_inb i h1)]
    unfold qAll
    rw [← loops_eq Variants.none c none i arg3 harg3 arg4 harg4 arg5 harg5 arg6 harg6 arg7 harg7 arg8 harg8 arg9 harg9 (BitVec.ofNat 32 (i 2).val),
      ← View.readAt_full arg3.view f3 inb_S1x512x128_S1x512x128_0_0_0, ← View.readAt_full arg4.view f4 inb_S1x512x128_S1x512x128_0_0_0]
    rfl
  iexists _; iexact HO

/-- The body at a point with two blocks left after the loop. -/
theorem kernelRun_pn (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x512x128 .bf16) (harg9 : arg9.IsWhole)
  (x3 x4 : Vec F S1x512x128 .bf16) (x5 x6 : Vec F S1x128x4096 .bf16) (x7 x8 : Vec F S1x4096x128 .bf16) (W : Waits sig Unit) (K : PUnit → sProp 𝕄) (h1 : k0_cond1 i = 1#1) (h2 : ¬k0_cond2 i = 1#1) :
    runPre c i arg3 arg4 arg5 arg6 arg7 arg8 arg9 x3 x4 x5 x6 x7 x8 W K
      ⊢ wp frame (wpE (defs₀ (F := F)) Variants.none c none) Set.univ
          (cc0_fox i arg3 harg3 arg4 harg4 arg5 harg5 arg6 harg6 arg7 harg7 arg8 harg8 arg9 harg9) K := by
  simp only [cc0_fox_eq_skeleton]; unfold cc0_fox_skel
  unfold runPre owns
  iintro ⟨⟨%f3, %e3, H3⟩, ⟨%f4, %e4, H4⟩, ⟨%f5, %e5, H5⟩, ⟨%f6, %e6, H6⟩, ⟨%f7, %e7, H7⟩, ⟨%f8, %e8, H8⟩, ⟨%d9, %f9, %e9, H9⟩, HO, Hk⟩
  subst e3 e4 e5 e6 e7 e8
  sl_exec (disch := first | sl_exact h1 | sl_exact h2)
  sl_step
  iapply Hk
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr; swap; · iexact H9
    ipureintro
    refine (View.read_writes_full _ _ _ _ _).trans ?_
    have c1 : 2 ≤ (i 2).val % 4 := (cond1 i).1 h1
    have c2 : ¬(i 2).val % 2 = 1 := fun hh => h2 ((cond2 i).2 hh)
    have h8 : (i 2).val < 8 := (i 2).isLt
    have hn : (i 2).val = 4 * ((i 2).val / 4) + 1 + 1 := by omega
    have hC := off11 i
    unfold outBlk
    dsimp only
    rw [stepC_read _ _ _ _ _ _ _ _ _ (k0_off13 i) (k0_off14 i) (i 2).val h8 hC.2.2.1 hC.2.2.2 (k0_off13_inb i h2) (k0_off14_inb i h2)]
    rw [congrArg (accN _ _ _ _ _) hn]
    simp only [accN.eq_2]
    rw [stepAt_read _ _ _ _ _ _ _ _ _ (k0_off7 i) (k0_off8 i) (4 * ((i 2).val / 4) + 1) (by omega) (off5 i).2.2.1 (off5 i).2.2.2 (k0_off7_inb i h1) (k0_off8_inb i h1)]
    rw [stepAt_read _ _ _ _ _ _ _ _ _ (k0_off5 i) (k0_off6 i) (4 * ((i 2).val / 4)) (by omega) (off5 i).1 (off5 i).2.1 (k0_off5_inb i h1) (k0_off6_inb i h1)]
    unfold qAll
    rw [← loops_eq Variants.none c none i arg3 harg3 arg4 harg4 arg5 harg5 arg6 harg6 arg7 harg7 arg8 harg8 arg9 harg9 (BitVec.ofNat 32 (i 2).val),
      ← View.readAt_full arg3.view f3 inb_S1x512x128_S1x512x128_0_0_0, ← View.readAt_full arg4.view f4 inb_S1x512x128_S1x512x128_0_0_0]
    rfl
  iexists _; iexact HO

/-- The body at a point with one block left after the loop. -/
theorem kernelRun_np (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x512x128 .bf16) (harg9 : arg9.IsWhole)
  (x3 x4 : Vec F S1x512x128 .bf16) (x5 x6 : Vec F S1x128x4096 .bf16) (x7 x8 : Vec F S1x4096x128 .bf16) (W : Waits sig Unit) (K : PUnit → sProp 𝕄) (h1 : ¬k0_cond1 i = 1#1) (h2 : k0_cond2 i = 1#1) :
    runPre c i arg3 arg4 arg5 arg6 arg7 arg8 arg9 x3 x4 x5 x6 x7 x8 W K
      ⊢ wp frame (wpE (defs₀ (F := F)) Variants.none c none) Set.univ
          (cc0_fox i arg3 harg3 arg4 harg4 arg5 harg5 arg6 harg6 arg7 harg7 arg8 harg8 arg9 harg9) K := by
  simp only [cc0_fox_eq_skeleton]; unfold cc0_fox_skel
  unfold runPre owns
  iintro ⟨⟨%f3, %e3, H3⟩, ⟨%f4, %e4, H4⟩, ⟨%f5, %e5, H5⟩, ⟨%f6, %e6, H6⟩, ⟨%f7, %e7, H7⟩, ⟨%f8, %e8, H8⟩, ⟨%d9, %f9, %e9, H9⟩, HO, Hk⟩
  subst e3 e4 e5 e6 e7 e8
  sl_exec (disch := first | sl_exact h1 | sl_exact h2)
  sl_step
  iapply Hk
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr; swap; · iexact H9
    ipureintro
    refine (View.read_writes_full _ _ _ _ _).trans ?_
    have c1 : ¬2 ≤ (i 2).val % 4 := fun hh => h1 ((cond1 i).2 hh)
    have c2 : (i 2).val % 2 = 1 := (cond2 i).1 h2
    have h8 : (i 2).val < 8 := (i 2).isLt
    have hn : (i 2).val = 4 * ((i 2).val / 4) + 1 := by omega
    have hC := off11 i
    unfold outBlk
    dsimp only
    rw [stepC_read _ _ _ _ _ _ _ _ _ (k0_off11 i) (k0_off12 i) (i 2).val h8 hC.1 hC.2.1 (k0_off11_inb i h2) (k0_off12_inb i h2)]
    rw [congrArg (accN _ _ _ _ _) hn]
    simp only [accN.eq_2]
    rw [stepAt_read _ _ _ _ _ _ _ _ _ (k0_off9 i) (k0_off10 i) (4 * ((i 2).val / 4)) (by omega) (by rw [(off9 i (by omega)).1]; congr 4; omega) (by rw [(off9 i (by omega)).2]; congr 3; omega) (k0_off9_inb i h2) (k0_off10_inb i h2)]
    unfold qAll
    rw [← loops_eq Variants.none c none i arg3 harg3 arg4 harg4 arg5 harg5 arg6 harg6 arg7 harg7 arg8 harg8 arg9 harg9 (BitVec.ofNat 32 (i 2).val),
      ← View.readAt_full arg3.view f3 inb_S1x512x128_S1x512x128_0_0_0, ← View.readAt_full arg4.view f4 inb_S1x512x128_S1x512x128_0_0_0]
    rfl
  iexists _; iexact HO

/-- The body at a point with none left after the loop. -/
theorem kernelRun_nn (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x512x128 .bf16) (harg9 : arg9.IsWhole)
  (x3 x4 : Vec F S1x512x128 .bf16) (x5 x6 : Vec F S1x128x4096 .bf16) (x7 x8 : Vec F S1x4096x128 .bf16) (W : Waits sig Unit) (K : PUnit → sProp 𝕄) (h1 : ¬k0_cond1 i = 1#1) (h2 : ¬k0_cond2 i = 1#1) :
    runPre c i arg3 arg4 arg5 arg6 arg7 arg8 arg9 x3 x4 x5 x6 x7 x8 W K
      ⊢ wp frame (wpE (defs₀ (F := F)) Variants.none c none) Set.univ
          (cc0_fox i arg3 harg3 arg4 harg4 arg5 harg5 arg6 harg6 arg7 harg7 arg8 harg8 arg9 harg9) K := by
  simp only [cc0_fox_eq_skeleton]; unfold cc0_fox_skel
  unfold runPre owns
  iintro ⟨⟨%f3, %e3, H3⟩, ⟨%f4, %e4, H4⟩, ⟨%f5, %e5, H5⟩, ⟨%f6, %e6, H6⟩, ⟨%f7, %e7, H7⟩, ⟨%f8, %e8, H8⟩, ⟨%d9, %f9, %e9, H9⟩, HO, Hk⟩
  subst e3 e4 e5 e6 e7 e8
  sl_exec (disch := first | sl_exact h1 | sl_exact h2)
  sl_step
  iapply Hk
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr; swap; · iexact H9
    ipureintro
    refine (View.read_writes_full _ _ _ _ _).trans ?_
    have c1 : ¬2 ≤ (i 2).val % 4 := fun hh => h1 ((cond1 i).2 hh)
    have c2 : ¬(i 2).val % 2 = 1 := fun hh => h2 ((cond2 i).2 hh)
    have h8 : (i 2).val < 8 := (i 2).isLt
    have hn : (i 2).val = 4 * ((i 2).val / 4) := by omega
    have hC := off11 i
    unfold outBlk
    dsimp only
    rw [stepC_read _ _ _ _ _ _ _ _ _ (k0_off13 i) (k0_off14 i) (i 2).val h8 hC.2.2.1 hC.2.2.2 (k0_off13_inb i h2) (k0_off14_inb i h2)]
    rw [congrArg (accN _ _ _ _ _) hn]
    simp only [accN.eq_2]

    unfold qAll
    rw [← loops_eq Variants.none c none i arg3 harg3 arg4 harg4 arg5 harg5 arg6 harg6 arg7 harg7 arg8 harg8 arg9 harg9 (BitVec.ofNat 32 (i 2).val),
      ← View.readAt_full arg3.view f3 inb_S1x512x128_S1x512x128_0_0_0, ← View.readAt_full arg4.view f4 inb_S1x512x128_S1x512x128_0_0_0]
    rfl
  iexists _; iexact HO

/-- The body at any point. -/
theorem kernelRun (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x512x128 .bf16) (harg9 : arg9.IsWhole)
  (x3 x4 : Vec F S1x512x128 .bf16) (x5 x6 : Vec F S1x128x4096 .bf16) (x7 x8 : Vec F S1x4096x128 .bf16) (W : Waits sig Unit) (K : PUnit → sProp 𝕄) :
    runPre c i arg3 arg4 arg5 arg6 arg7 arg8 arg9 x3 x4 x5 x6 x7 x8 W K
      ⊢ wp frame (wpE (defs₀ (F := F)) Variants.none c none) Set.univ
          (cc0_fox i arg3 harg3 arg4 harg4 arg5 harg5 arg6 harg6 arg7 harg7 arg8 harg8 arg9 harg9) K := by
  by_cases h1 : k0_cond1 i = 1#1 <;> by_cases h2 : k0_cond2 i = 1#1
  · exact kernelRun_pp c i arg3 harg3 arg4 harg4 arg5 harg5 arg6 harg6 arg7 harg7 arg8 harg8 arg9 harg9 x3 x4 x5 x6 x7 x8 W K h1 h2
  · exact kernelRun_pn c i arg3 harg3 arg4 harg4 arg5 harg5 arg6 harg6 arg7 harg7 arg8 harg8 arg9 harg9 x3 x4 x5 x6 x7 x8 W K h1 h2
  · exact kernelRun_np c i arg3 harg3 arg4 harg4 arg5 harg5 arg6 harg6 arg7 harg7 arg8 harg8 arg9 harg9 x3 x4 x5 x6 x7 x8 W K h1 h2
  · exact kernelRun_nn c i arg3 harg3 arg4 harg4 arg5 harg5 arg6 harg6 arg7 harg7 arg8 harg8 arg9 harg9 x3 x4 x5 x6 x7 x8 W K h1 h2

end Cert.FoxIdeal.Hand

end
-- ==== Proof.Fox.Frame.lean ====
/-
  The forgetting attention's run, over any value instance: every fair execution of the program ends with the output
  array as the grid's write-backs leave it, the arguments as launched and the counters at zero.
-/
module

public import proofs.«01_k».proof.Proof.Fox.Body

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block stored at grid point `t`, of the blocks of the arrays as the region finds them. -/
def outAt (c : Dev nD) (t : Fin cfg0.N) : Vec F S1x512x128 .bf16 :=
  outBlk (grid0.coords t) (iblk m c 0 t) (iblk m c 1 t) (iblk m c 2 t) (iblk m c 3 t) (iblk m c 4 t) (iblk m c 5 t)

/-- The proof data on core `c`: the arrays as the region finds them, each input block left as it was, the output block `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t :=
  before0_0_of m (dats m 0 c) (A_eq m c 0) (fun _ => rfl) t d
theorem before1 (c : Dev nD) (t : Fin cfg0.N) (d) : (dats m 0 c).before 1 t d = iblk m c 1 t :=
  before0_1_of m (dats m 0 c) (A_eq m c 1) (fun _ => rfl) t d
theorem before2 (c : Dev nD) (t : Fin cfg0.N) (d) : (dats m 0 c).before 2 t d = iblk m c 2 t :=
  before0_2_of m (dats m 0 c) (A_eq m c 2) (fun _ => rfl) t d
theorem before3 (c : Dev nD) (t : Fin cfg0.N) (d) : (dats m 0 c).before 3 t d = iblk m c 3 t :=
  before0_3_of m (dats m 0 c) (A_eq m c 3) (fun _ => rfl) t d
theorem before4 (c : Dev nD) (t : Fin cfg0.N) (d) : (dats m 0 c).before 4 t d = iblk m c 4 t :=
  before0_4_of m (dats m 0 c) (A_eq m c 4) (fun _ => rfl) t d
theorem before5 (c : Dev nD) (t : Fin cfg0.N) (d) : (dats m 0 c).before 5 t d = iblk m c 5 t :=
  before0_5_of m (dats m 0 c) (A_eq m c 5) (fun _ => rfl) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (outAt m c t))

set_option maxHeartbeats 2000000 in
/-- The body at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  unfold Dat.owesAt Pipeline.owesWithin
  rw [show (dats m 0 c).owed t.castSucc = 0 from rfl]
  simp only [before0, before1, before2, before3, before4, before5]
  iintro ⟨HΦ, ⟨%W, %hW, HO⟩, ⟨%d0, H0⟩, ⟨%d1, H1⟩, ⟨%d2, H2⟩, ⟨%d3, H3⟩, ⟨%d4, H4⟩, ⟨%d5, H5⟩, ⟨%d6, H6⟩⟩
  iapply (kernelRun c (grid0.coords t) _ _ _ _ _ _ _ _ _ _ _ _ _ _ (iblk m c 0 t) (iblk m c 1 t) (iblk m c 2 t) (iblk m c 3 t) (iblk m c 4 t) (iblk m c 5 t) W _)
  unfold runPre
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HO]; · iexact HO
  iintro ⟨H0, H1, H2, H3, H4, H5, H6, ⟨%W', HO⟩⟩
  isplitl [HΦ]; · iexact HΦ
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  iexact H6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 2000000 in
/-- The body obligation of the pipeline. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every weakly fair execution ends, the output array as the write-backs leave it, every other array as the host
    prelude left it, the counters at zero. -/
theorem run_main :
    θ_run defs (onTc (τ := τ) (main (F := F))) (s₀ m ρ)
      (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)
    (hQ' := fun _ h => h)

end Cert.FoxIdeal.Hand

end
-- ==== Proof.Fox.Points.lean ====
/-
  The grid of the forgetting attention: a point is a batch, a pair of heads and a block of 512 queries, and each window's
  block index at a point is given by those three.
-/
module

public import proofs.«01_k».proof.Proof.Fox.Frame

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.ShloMosaic.Pipeline (Dat)

/-- A grid point's batch, pair of heads and block of queries. -/
abbrev pb (t : Fin cfg0.N) : ℕ := (grid0.coords t 0).val
abbrev pp (t : Fin cfg0.N) : ℕ := (grid0.coords t 1).val
abbrev pn (t : Fin cfg0.N) : ℕ := (grid0.coords t 2).val

theorem pb_lt (t : Fin cfg0.N) : pb t < 16 := (grid0.coords t 0).isLt
theorem pp_lt (t : Fin cfg0.N) : pp t < 4 := (grid0.coords t 1).isLt
theorem pn_lt (t : Fin cfg0.N) : pn t < 8 := (grid0.coords t 2).isLt

/-- The block indices of the windows at a point. -/
theorem idx0 : ∀ t : Fin cfg0.N, win0_0.index t (0 : Fin 3) = pb t ∧ win0_0.index t (1 : Fin 3) = pn t ∧ win0_0.index t (2 : Fin 3) = pp t :=
  (by decide +kernel : ∀ t : Fin grid0.N, _)
theorem idx1 : ∀ t : Fin cfg0.N, win0_1.index t (0 : Fin 3) = pb t ∧ win0_1.index t (1 : Fin 3) = pn t ∧ win0_1.index t (2 : Fin 3) = 0 :=
  (by decide +kernel : ∀ t : Fin grid0.N, _)
theorem idx2 : ∀ t : Fin cfg0.N, win0_2.index t (0 : Fin 3) = pb t ∧ win0_2.index t (1 : Fin 3) = pp t ∧ win0_2.index t (2 : Fin 3) = 0 :=
  (by decide +kernel : ∀ t : Fin grid0.N, _)
theorem idx3 : ∀ t : Fin cfg0.N, win0_3.index t (0 : Fin 3) = pb t ∧ win0_3.index t (1 : Fin 3) = 0 ∧ win0_3.index t (2 : Fin 3) = 0 :=
  (by decide +kernel : ∀ t : Fin grid0.N, _)
theorem idx4 : ∀ t : Fin cfg0.N, win0_4.index t (0 : Fin 3) = pb t ∧ win0_4.index t (1 : Fin 3) = 0 ∧ win0_4.index t (2 : Fin 3) = 2 * pp t :=
  (by decide +kernel : ∀ t : Fin grid0.N, _)
theorem idx5 : ∀ t : Fin cfg0.N, win0_5.index t (0 : Fin 3) = pb t ∧ win0_5.index t (1 : Fin 3) = 0 ∧ win0_5.index t (2 : Fin 3) = 2 * pp t + 1 :=
  (by decide +kernel : ∀ t : Fin grid0.N, _)
theorem idx6 : ∀ t : Fin cfg0.N, win0_6.index t (0 : Fin 3) = pb t ∧ win0_6.index t (1 : Fin 3) = pn t ∧ win0_6.index t (2 : Fin 3) = pp t :=
  (by decide +kernel : ∀ t : Fin grid0.N, _)

/-- Every batch, pair of heads and block of queries is some point's. -/
theorem point : ∀ (b : Fin 16) (p : Fin 4) (n : Fin 8), ∃ t : Fin cfg0.N, pb t = b.val ∧ pp t = p.val ∧ pn t = n.val :=
  fun b p n => ⟨⟨32 * b.val + 8 * p.val + n.val, by rw [show cfg0.N = 512 from N_0]; omega⟩,
    (by decide +kernel : ∀ (b : Fin 16) (p : Fin 4) (n : Fin 8) (h : 32 * b.val + 8 * p.val + n.val < grid0.N),
      (grid0.coords ⟨32 * b.val + 8 * p.val + n.val, h⟩ 0).val = b.val ∧ (grid0.coords ⟨32 * b.val + 8 * p.val + n.val, h⟩ 1).val = p.val
        ∧ (grid0.coords ⟨32 * b.val + 8 * p.val + n.val, h⟩ 2).val = n.val) b p n _⟩

end Cert.FoxIdeal.Hand
end
-- ==== Proof.Fox.Host.lean ====
/-
  What the host lays out before the forgetting attention's call, read at an index: the scaled queries, the transposed
  keys, the values with their lanes of ones, and the bias lanes of queries and keys. The biases are cast in three parts
  (a value, what the cast lost of it, and what the cast of that lost); of a finite bias the last two are zero.
-/
module

public import proofs.«01_k».proof.Proof.Gen.FoxIdeal.Frame
public import Idealize.ShloMosaic.Lib.Pointwise
public import Idealize.ShloMosaic.Lib.StableHlo.Run

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic

variable (m : (ℓ : Loc nD τ sig) → Buf (Elt Ideal) ℓ)

/-- The arguments as arrays of extended reals: queries, keys, values and biases. -/
abbrev argQ (c : Dev nD) : S16x4096x512.Idx → EReal := m ((c.tc : Thread nD τ).loc main_arg0)
abbrev argK (c : Dev nD) : S16x4096x512.Idx → EReal := m ((c.tc : Thread nD τ).loc main_arg1)
abbrev argV (c : Dev nD) : S16x4096x512.Idx → EReal := m ((c.tc : Thread nD τ).loc main_arg2)
abbrev argC (c : Dev nD) : S16x4096x8.Idx → EReal := m ((c.tc : Thread nD τ).loc main_arg3)

/-- The host's scaled queries. -/
theorem V_q (c : Dev nD) (b : Fin 16) (t : Fin 4096) (j : Fin 512) :
    V m c main_v2 (ix3 b t j) = argQ m c (ix3 b t j) * Ideal.ofBits .f32 0x3E000000#32 := by
  simp only [V, hostOps0]
  after_results
  pointwise []

/-- The host's keys, transposed. -/
theorem V_k (c : Dev nD) (b : Fin 16) (s : Fin 4096) (j : Fin 512) :
    V m c main_v4 (ix3 b j s) = argK m c (ix3 b s j) := by
  simp only [V, hostOps0]
  after_results
  pointwise []

/-- The host's values: in each block of 128 lanes, a head's 64 lanes and 64 ones. -/
theorem V_v (c : Dev nD) (b : Fin 16) (s : Fin 4096) (j : Fin 1024) :
    V m c main_v9 (ix3 b s j)
      = if h : j.val % 128 < 64 then argV m c (ix3 b s ⟨j.val / 128 * 64 + j.val % 128, by omega⟩) else (1 : EReal) := by
  simp only [V, hostOps0]
  after_results
  pointwise []

/-- The query side's bias lanes: the bias, two parts that are zero, three lanes of ones, padding. -/
theorem V_bq (c : Dev nD) (hc : ∀ i, argC m c i - argC m c i = 0) (b : Fin 16) (t : Fin 4096) (l : Fin 128) :
    V m c main_v24 (ix3 b t l)
      = if h : l.val < 8 then argC m c (ix3 b t ⟨l.val, h⟩) else if l.val < 32 then (0 : EReal) else if l.val < 56 then 1 else 0 := by
  simp only [V, hostOps0]
  after_results_simp
  dsimp only [Matrix.cons_val]
  simp only [↓ StableHlo.readResult, ↓ StableHlo.readPieces, -eq_self]
  pointwise []
  simp only [hc, sub_zero]
  split_ifs <;> first | rfl | omega

/-- The key side's bias lanes as the host lays them out, eight at a time. -/
theorem V_bk' (c : Dev nD) (hc : ∀ i, argC m c i - argC m c i = 0) (b : Fin 16) (s : Fin 4096) (l : Fin 128) :
    V m c main_v30 (ix3 b l s)
      = if _ : l.val < 8 then (1 : EReal) else if _ : l.val - 8 < 8 then 1 else if _ : l.val - 8 - 8 < 8 then 1
        else if _ : l.val - 8 - 8 - 8 < 8 then 0
        else if h : l.val - 8 - 8 - 8 - 8 < 8 then - argC m c (ix3 b s ⟨l.val - 8 - 8 - 8 - 8, h⟩)
        else if _ : l.val - 8 - 8 - 8 - 8 - 8 < 8 then 0 else if _ : l.val - 8 - 8 - 8 - 8 - 8 - 8 < 8 then 0 else 0 := by
  simp only [V, hostOps0]
  after_results_simp
  dsimp only [Matrix.cons_val]
  simp only [↓ StableHlo.readResult, ↓ StableHlo.readPieces, -eq_self]
  pointwise []
  simp only [hc, sub_zero, neg_zero]

/-- The key side's bias lanes: three lanes of ones, padding, the bias negated, two parts that are zero, padding. -/
theorem V_bk (c : Dev nD) (hc : ∀ i, argC m c i - argC m c i = 0) (b : Fin 16) (s : Fin 4096) (l : Fin 128) :
    V m c main_v30 (ix3 b l s)
      = if l.val < 24 then (1 : EReal) else if h : 32 ≤ l.val ∧ l.val < 40 then - argC m c (ix3 b s ⟨l.val - 32, by omega⟩) else 0 := by
  rw [V_bk' m c hc b s l]
  by_cases h8 : l.val < 8
  · rw [dif_pos h8, if_pos (by omega)]
  rw [dif_neg h8]
  by_cases h16 : l.val - 8 < 8
  · rw [dif_pos h16, if_pos (by omega)]
  rw [dif_neg h16]
  by_cases h24 : l.val - 8 - 8 < 8
  · rw [dif_pos h24, if_pos (by omega)]
  rw [dif_neg h24, if_neg (by omega)]
  by_cases h32 : l.val - 8 - 8 - 8 < 8
  · rw [dif_pos h32, dif_neg (show ¬ (32 ≤ l.val ∧ l.val < 40) by omega)]
  rw [dif_neg h32]
  by_cases h40 : l.val - 8 - 8 - 8 - 8 < 8
  · rw [dif_pos h40, dif_pos (by omega)]
    exact congrArg (fun i : Fin 8 => - argC m c (ix3 b s i)) (Fin.ext (by dsimp only; omega))
  rw [dif_neg h40, dif_neg (show ¬ (32 ≤ l.val ∧ l.val < 40) by omega)]
  split_ifs <;> rfl

end Cert.FoxIdeal.Hand
end
-- ==== Proof.Fox.Emb.lean ====
/-
  The blocks of the forgetting attention's windows, read at an index of their arrays: the grid's point `t` is a batch, a
  pair of heads and a block of 512 queries, and each window's block starts where those say.
-/
module

public import proofs.«01_k».proof.Proof.Fox.Frame
public import proofs.«01_k».proof.Proof.Fox.Points
public import proofs.«01_k».proof.Proof.Fox.Host

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.ShloMosaic.Pipeline (Dat)

variable (m : (ℓ : Loc nD τ sig) → Buf (Elt Ideal) ℓ)

/-- Each window's block index, as an index of its array. -/
theorem emb0 (t : Fin cfg0.N) (r : Fin 512) (l : Fin 128) : ((cfg0.win 0).blk t).view.emb (ix3 (0 : Fin 1) r l : S1x512x128.Idx)
    = ix3 (⟨pb t, pb_lt t⟩ : Fin 16) (⟨512 * pn t + r.val, by have := pn_lt t; omega⟩ : Fin 4096) (⟨128 * pp t + l.val, by have := pp_lt t; omega⟩ : Fin 512) := by
  obtain ⟨e0, e1, e2⟩ := idx0 t
  funext x; apply Fin.ext
  match x with
  | ⟨0, _⟩ => show win0_0.index t (0 : Fin 3) * 1 + 1 * (0 : Fin 1).val = pb t; omega
  | ⟨1, _⟩ => show win0_0.index t (1 : Fin 3) * 512 + 1 * r.val = 512 * pn t + r.val; omega
  | ⟨2, _⟩ => show win0_0.index t (2 : Fin 3) * 128 + 1 * l.val = 128 * pp t + l.val; omega

theorem emb1 (t : Fin cfg0.N) (r : Fin 512) (l : Fin 128) : ((cfg0.win 1).blk t).view.emb (ix3 (0 : Fin 1) r l : S1x512x128.Idx)
    = ix3 (⟨pb t, pb_lt t⟩ : Fin 16) (⟨512 * pn t + r.val, by have := pn_lt t; omega⟩ : Fin 4096) l := by
  obtain ⟨e0, e1, e2⟩ := idx1 t
  funext x; apply Fin.ext
  match x with
  | ⟨0, _⟩ => show win0_1.index t (0 : Fin 3) * 1 + 1 * (0 : Fin 1).val = pb t; omega
  | ⟨1, _⟩ => show win0_1.index t (1 : Fin 3) * 512 + 1 * r.val = 512 * pn t + r.val; omega
  | ⟨2, _⟩ => show win0_1.index t (2 : Fin 3) * 128 + 1 * l.val = l.val; omega

theorem emb2 (t : Fin cfg0.N) (l : Fin 128) (s : Fin 4096) : ((cfg0.win 2).blk t).view.emb (ix3 (0 : Fin 1) l s : S1x128x4096.Idx)
    = ix3 (⟨pb t, pb_lt t⟩ : Fin 16) (⟨128 * pp t + l.val, by have := pp_lt t; omega⟩ : Fin 512) s := by
  obtain ⟨e0, e1, e2⟩ := idx2 t
  funext x; apply Fin.ext
  match x with
  | ⟨0, _⟩ => show win0_2.index t (0 : Fin 3) * 1 + 1 * (0 : Fin 1).val = pb t; omega
  | ⟨1, _⟩ => show win0_2.index t (1 : Fin 3) * 128 + 1 * l.val = 128 * pp t + l.val; omega
  | ⟨2, _⟩ => show win0_2.index t (2 : Fin 3) * 4096 + 1 * s.val = s.val; omega

theorem emb3 (t : Fin cfg0.N) (l : Fin 128) (s : Fin 4096) : ((cfg0.win 3).blk t).view.emb (ix3 (0 : Fin 1) l s : S1x128x4096.Idx)
    = ix3 (⟨pb t, pb_lt t⟩ : Fin 16) l s := by
  obtain ⟨e0, e1, e2⟩ := idx3 t
  funext x; apply Fin.ext
  match x with
  | ⟨0, _⟩ => show win0_3.index t (0 : Fin 3) * 1 + 1 * (0 : Fin 1).val = pb t; omega
  | ⟨1, _⟩ => show win0_3.index t (1 : Fin 3) * 128 + 1 * l.val = l.val; omega
  | ⟨2, _⟩ => show win0_3.index t (2 : Fin 3) * 4096 + 1 * s.val = s.val; omega

theorem emb4 (t : Fin cfg0.N) (s : Fin 4096) (l : Fin 128) : ((cfg0.win 4).blk t).view.emb (ix3 (0 : Fin 1) s l : S1x4096x128.Idx)
    = ix3 (⟨pb t, pb_lt t⟩ : Fin 16) s (⟨128 * (2 * pp t) + l.val, by have := pp_lt t; omega⟩ : Fin 1024) := by
  obtain ⟨e0, e1, e2⟩ := idx4 t
  funext x; apply Fin.ext
  match x with
  | ⟨0, _⟩ => show win0_4.index t (0 : Fin 3) * 1 + 1 * (0 : Fin 1).val = pb t; omega
  | ⟨1, _⟩ => show win0_4.index t (1 : Fin 3) * 4096 + 1 * s.val = s.val; omega
  | ⟨2, _⟩ => show win0_4.index t (2 : Fin 3) * 128 + 1 * l.val = 128 * (2 * pp t) + l.val; omega

theorem emb5 (t : Fin cfg0.N) (s : Fin 4096) (l : Fin 128) : ((cfg0.win 5).blk t).view.emb (ix3 (0 : Fin 1) s l : S1x4096x128.Idx)
    = ix3 (⟨pb t, pb_lt t⟩ : Fin 16) s (⟨128 * (2 * pp t + 1) + l.val, by have := pp_lt t; omega⟩ : Fin 1024) := by
  obtain ⟨e0, e1, e2⟩ := idx5 t
  funext x; apply Fin.ext
  match x with
  | ⟨0, _⟩ => show win0_5.index t (0 : Fin 3) * 1 + 1 * (0 : Fin 1).val = pb t; omega
  | ⟨1, _⟩ => show win0_5.index t (1 : Fin 3) * 4096 + 1 * s.val = s.val; omega
  | ⟨2, _⟩ => show win0_5.index t (2 : Fin 3) * 128 + 1 * l.val = 128 * (2 * pp t + 1) + l.val; omega

theorem emb6 (t : Fin cfg0.N) (r : Fin 512) (l : Fin 128) : ((cfg0.win 6).blk t).view.emb (ix3 (0 : Fin 1) r l : S1x512x128.Idx)
    = ix3 (⟨pb t, pb_lt t⟩ : Fin 16) (⟨512 * pn t + r.val, by have := pn_lt t; omega⟩ : Fin 4096) (⟨128 * pp t + l.val, by have := pp_lt t; omega⟩ : Fin 512) := by
  obtain ⟨e0, e1, e2⟩ := idx6 t
  funext x; apply Fin.ext
  match x with
  | ⟨0, _⟩ => show win0_6.index t (0 : Fin 3) * 1 + 1 * (0 : Fin 1).val = pb t; omega
  | ⟨1, _⟩ => show win0_6.index t (1 : Fin 3) * 512 + 1 * r.val = 512 * pn t + r.val; omega
  | ⟨2, _⟩ => show win0_6.index t (2 : Fin 3) * 128 + 1 * l.val = 128 * pp t + l.val; omega

end Cert.FoxIdeal.Hand
end
-- ==== Proof.Fox.Blocks.lean ====
/-
  The blocks of the forgetting attention's windows, read at an index of their arrays: the grid's point `t` is a batch, a
  pair of heads and a block of 512 queries, and each window's block starts where those say.
-/
module

public import proofs.«01_k».proof.Proof.Fox.Frame
public import proofs.«01_k».proof.Proof.Fox.Emb
public import proofs.«01_k».proof.Proof.Fox.Host

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.ShloMosaic.Pipeline (Dat)

variable (m : (ℓ : Loc nD τ sig) → Buf (Elt Ideal) ℓ)

/-- Every index of the result array is in some point's block. -/
theorem covered (i : S16x4096x512.Idx) : ∃ t : Fin cfg0.N, (cfg0.win 6).flush t = true ∧ i ∈ ((cfg0.win 6).blk t).view.set := by
  have h1 : (i 1).val < 4096 := (i 1).isLt
  have h2 : (i 2).val < 512 := (i 2).isLt
  obtain ⟨t, eb, ep, en⟩ := point (i 0) ⟨(i 2).val / 128, by omega⟩ ⟨(i 1).val / 512, by omega⟩
  dsimp only at ep en
  refine ⟨t, flush0_6 t, ?_⟩
  have h := ((cfg0.win 6).blk t).view.emb_mem_set
    (ix3 (0 : Fin 1) (⟨(i 1).val % 512, by omega⟩ : Fin 512) (⟨(i 2).val % 128, by omega⟩ : Fin 128) : S1x512x128.Idx)
  rw [emb6] at h
  refine (congrArg (· ∈ ((cfg0.win 6).blk t).view.set) (funext fun a => Fin.ext ?_)).mp h
  match a with
  | ⟨0, _⟩ => exact eb
  | ⟨1, _⟩ => show 512 * pn t + (i 1).val % 512 = (i 1).val; omega
  | ⟨2, _⟩ => show 128 * pp t + (i 2).val % 128 = (i 2).val; omega

/-- So the result array ends at any array of which every point writes back its own block. -/
theorem final_of (c : Dev nD) (G : S16x4096x512.Idx → EReal)
    (hG : ∀ (t : Fin cfg0.N) (r : Fin 512) (l : Fin 128), outAt m c t (ix3 0 r l)
      = G (ix3 (⟨pb t, pb_lt t⟩ : Fin 16) (⟨512 * pn t + r.val, by have := pn_lt t; omega⟩ : Fin 4096)
          (⟨128 * pp t + l.val, by have := pp_lt t; omega⟩ : Fin 512))) :
    (dats m 0 c).arrAt 6 cfg0.N = G := by
  refine (dats m 0 c).arrAt_eq_of_cover 6 G (fun t _ => ?_) covered
  funext j
  show outAt m c t j = G (((cfg0.win 6).blk t).view.emb j)
  have hj : j = ix3 (0 : Fin 1) (⟨(j 1).val, (j 1).isLt⟩ : Fin 512) (⟨(j 2).val, (j 2).isLt⟩ : Fin 128) := by
    funext a
    match a with
    | ⟨0, _⟩ => exact Fin.ext (by have : (j 0).val < 1 := (j 0).isLt; show (j 0).val = 0; omega)
    | ⟨1, _⟩ => rfl
    | ⟨2, _⟩ => rfl
  rw [hj, emb6]
  exact hG t _ _

end Cert.FoxIdeal.Hand
end
-- ==== Proof.Fox.Inputs.lean ====
/-
  The blocks of the forgetting attention's windows, read at an index of their arrays: the grid's point `t` is a batch, a
  pair of heads and a block of 512 queries, and each window's block starts where those say.
-/
module

public import proofs.«01_k».proof.Proof.Fox.Frame
public import proofs.«01_k».proof.Proof.Fox.Emb
public import proofs.«01_k».proof.Proof.Fox.Host

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.ShloMosaic.Pipeline (Dat)

variable (m : (ℓ : Loc nD τ sig) → Buf (Elt Ideal) ℓ)

/-- The input blocks at an index. -/
theorem read0 (t : Fin cfg0.N) (r : Fin 512) (l : Fin 128) (X : main_v2.ty.Contents (Elt Ideal)) :
    ((cfg0.win 0).blk t).view.read (Elt Ideal) X (ix3 (0 : Fin 1) r l : S1x512x128.Idx) = X (ix3 (⟨pb t, pb_lt t⟩ : Fin 16) (⟨512 * pn t + r.val, by have := pn_lt t; omega⟩ : Fin 4096) (⟨128 * pp t + l.val, by have := pp_lt t; omega⟩ : Fin 512)) := by
  rw [View.read_apply, emb0]; rfl

theorem iblk0_at (c : Dev nD) (t : Fin cfg0.N) (r : Fin 512) (l : Fin 128) :
    iblk m c 0 t (ix3 (0 : Fin 1) r l : S1x512x128.Idx) = V m c main_v2 (ix3 (⟨pb t, pb_lt t⟩ : Fin 16) (⟨512 * pn t + r.val, by have := pn_lt t; omega⟩ : Fin 4096) (⟨128 * pp t + l.val, by have := pp_lt t; omega⟩ : Fin 512)) := by
  unfold iblk
  exact read0 t r l (V m c main_v2)

theorem read1 (t : Fin cfg0.N) (r : Fin 512) (l : Fin 128) (X : main_v24.ty.Contents (Elt Ideal)) :
    ((cfg0.win 1).blk t).view.read (Elt Ideal) X (ix3 (0 : Fin 1) r l : S1x512x128.Idx) = X (ix3 (⟨pb t, pb_lt t⟩ : Fin 16) (⟨512 * pn t + r.val, by have := pn_lt t; omega⟩ : Fin 4096) l) := by
  rw [View.read_apply, emb1]; rfl

theorem iblk1_at (c : Dev nD) (t : Fin cfg0.N) (r : Fin 512) (l : Fin 128) :
    iblk m c 1 t (ix3 (0 : Fin 1) r l : S1x512x128.Idx) = V m c main_v24 (ix3 (⟨pb t, pb_lt t⟩ : Fin 16) (⟨512 * pn t + r.val, by have := pn_lt t; omega⟩ : Fin 4096) l) := by
  unfold iblk
  exact read1 t r l (V m c main_v24)

theorem read2 (t : Fin cfg0.N) (l : Fin 128) (s : Fin 4096) (X : main_v4.ty.Contents (Elt Ideal)) :
    ((cfg0.win 2).blk t).view.read (Elt Ideal) X (ix3 (0 : Fin 1) l s : S1x128x4096.Idx) = X (ix3 (⟨pb t, pb_lt t⟩ : Fin 16) (⟨128 * pp t + l.val, by have := pp_lt t; omega⟩ : Fin 512) s) := by
  rw [View.read_apply, emb2]; rfl

theorem iblk2_at (c : Dev nD) (t : Fin cfg0.N) (l : Fin 128) (s : Fin 4096) :
    iblk m c 2 t (ix3 (0 : Fin 1) l s : S1x128x4096.Idx) = V m c main_v4 (ix3 (⟨pb t, pb_lt t⟩ : Fin 16) (⟨128 * pp t + l.val, by have := pp_lt t; omega⟩ : Fin 512) s) := by
  unfold iblk
  exact read2 t l s (V m c main_v4)

theorem read3 (t : Fin cfg0.N) (l : Fin 128) (s : Fin 4096) (X : main_v30.ty.Contents (Elt Ideal)) :
    ((cfg0.win 3).blk t).view.read (Elt Ideal) X (ix3 (0 : Fin 1) l s : S1x128x4096.Idx) = X (ix3 (⟨pb t, pb_lt t⟩ : Fin 16) l s) := by
  rw [View.read_apply, emb3]; rfl

theorem iblk3_at (c : Dev nD) (t : Fin cfg0.N) (l : Fin 128) (s : Fin 4096) :
    iblk m c 3 t (ix3 (0 : Fin 1) l s : S1x128x4096.Idx) = V m c main_v30 (ix3 (⟨pb t, pb_lt t⟩ : Fin 16) l s) := by
  unfold iblk
  exact read3 t l s (V m c main_v30)

theorem read4 (t : Fin cfg0.N) (s : Fin 4096) (l : Fin 128) (X : main_v9.ty.Contents (Elt Ideal)) :
    ((cfg0.win 4).blk t).view.read (Elt Ideal) X (ix3 (0 : Fin 1) s l : S1x4096x128.Idx) = X (ix3 (⟨pb t, pb_lt t⟩ : Fin 16) s (⟨128 * (2 * pp t) + l.val, by have := pp_lt t; omega⟩ : Fin 1024)) := by
  rw [View.read_apply, emb4]; rfl

theorem iblk4_at (c : Dev nD) (t : Fin cfg0.N) (s : Fin 4096) (l : Fin 128) :
    iblk m c 4 t (ix3 (0 : Fin 1) s l : S1x4096x128.Idx) = V m c main_v9 (ix3 (⟨pb t, pb_lt t⟩ : Fin 16) s (⟨128 * (2 * pp t) + l.val, by have := pp_lt t; omega⟩ : Fin 1024)) := by
  unfold iblk
  exact read4 t s l (V m c main_v9)

theorem read5 (t : Fin cfg0.N) (s : Fin 4096) (l : Fin 128) (X : main_v9.ty.Contents (Elt Ideal)) :
    ((cfg0.win 5).blk t).view.read (Elt Ideal) X (ix3 (0 : Fin 1) s l : S1x4096x128.Idx) = X (ix3 (⟨pb t, pb_lt t⟩ : Fin 16) s (⟨128 * (2 * pp t + 1) + l.val, by have := pp_lt t; omega⟩ : Fin 1024)) := by
  rw [View.read_apply, emb5]; rfl

theorem iblk5_at (c : Dev nD) (t : Fin cfg0.N) (s : Fin 4096) (l : Fin 128) :
    iblk m c 5 t (ix3 (0 : Fin 1) s l : S1x4096x128.Idx) = V m c main_v9 (ix3 (⟨pb t, pb_lt t⟩ : Fin 16) s (⟨128 * (2 * pp t + 1) + l.val, by have := pp_lt t; omega⟩ : Fin 1024)) := by
  unfold iblk
  exact read5 t s l (V m c main_v9)

end Cert.FoxIdeal.Hand
end
-- ==== Proof.Fox.Ref.lean ====
/-
  The reference's forgetting attention, read at an index: a sum of weights times values over all the keys, the weights the
  exponentials of the logits less the row's maximum over their sum, the logit of a key after its query minus infinity.
-/
module

public import proofs.«01_k».proof.Proof.Gen.FoxRefIdeal.Read
public import proofs.«01_k».proof.Proof.Softmax.Online
public import Idealize.ShloMosaic.Lib.Pointwise

@[expose] public section

set_option maxRecDepth 16384

noncomputable section

namespace Cert.Fox

open Idealize.ShloMosaic Idealize.ShloMosaic.TcCoe Idealize.ShloMosaic.Tactic
open Cert.FoxRefIdeal (S16x4096x512 S16x4096x8)
open Cert.Softmax

variable (Q K V : S16x4096x512.Idx → EReal) (C : S16x4096x8.Idx → EReal)

/-- The logit of query `t` and key `s` of batch `b` and head `h`: the scaled product and the difference of the biases. -/
def lg (b : Fin 16) (h : Fin 8) (t s : Fin 4096) : EReal :=
  (∑ d : Fin 64, Q (ix3 b t (⟨64 * h.val + d.val, by omega⟩ : Fin 512)) * K (ix3 b s (⟨64 * h.val + d.val, by omega⟩ : Fin 512)))
    * Ideal.ofBits .f32 0x3E000000#32 + (C (ix3 b t h) - C (ix3 b s h))

/-- The same over the keys' numbers, a key after its query (or past the end) at minus infinity. -/
def row (b : Fin 16) (h : Fin 8) (t : Fin 4096) (s : ℕ) : EReal :=
  if hs : s ≤ t.val then lg Q K C b h t ⟨s, by omega⟩ else ⊥

/-- The row's maximum. -/
def top (b : Fin 16) (h : Fin 8) (t : Fin 4096) : EReal := Finset.univ.fold max ⊥ fun s : Fin 4096 => row Q K C b h t s.val

open Cert.FoxRefIdeal Cert.FoxRefIdeal.Read

theorem negInf : Ideal.ofBits .f32 4286578688#32 = ⊥ := by
  simp [Ideal.ofBits, Ideal.ieee]

/-- A signed comparison of the numbers of two positions. -/
theorem le_pos (s t : Fin 4096) : IntOp.cmpi .sle (BitVec.ofNat 32 s.val) (BitVec.ofNat 32 t.val) = if s.val ≤ t.val then 1#1 else 0#1 := by
  have hs := s.isLt; have ht := t.isLt
  have e1 : (BitVec.ofNat 32 s.val).toInt = s.val := by
    rw [BitVec.toInt_eq_toNat_of_lt (by rw [BitVec.toNat_ofNat]; omega), BitVec.toNat_ofNat]
    exact congrArg Nat.cast (Nat.mod_eq_of_lt (by omega))
  have e2 : (BitVec.ofNat 32 t.val).toInt = t.val := by
    rw [BitVec.toInt_eq_toNat_of_lt (by rw [BitVec.toNat_ofNat]; omega), BitVec.toNat_ofNat]
    exact congrArg Nat.cast (Nat.mod_eq_of_lt (by omega))
  by_cases h : s.val ≤ t.val
  · simp [IntOp.cmpi, BitVec.sle, e1, e2, h]
  · simp [IntOp.cmpi, BitVec.sle, e1, e2, h]

/-- The masked logits the reference computes. -/
theorem ref_logit (b : Fin 16) (h : Fin 8) (t s : Fin 4096) :
    val_main_v22 (F := Ideal) Q K C (ix4 b h t s) = row Q K C b h t s.val := by
  unfold row lg
  rw [val_main_v22_apply, val_main_v16_apply, val_main_v10_apply, val_main_v8_apply, val_main_v15_apply]
  pointwise [val_main_v0, val_main_v1, val_main_v2, val_main_v3, val_main_cst, val_main_v9, val_main_v13, val_main_v14, val_main_v11, val_main_v12, val_main_v6, val_main_call0_v0, val_main_call0_v1, val_main_call0_v2, val_main_cst_0, val_main_v21, val_main_v20, val_main_v19, val_main_v18, val_main_v17, val_main_v7]
  simp only [id, Nat.mul_comm _ 64]
  rw [le_pos]
  by_cases hst : s.val ≤ t.val
  · rw [if_pos hst, dif_pos hst]; rfl
  · rw [if_neg hst, dif_neg hst]; exact negInf

/-- The row's maximum the reference computes. -/
theorem ref_top (b : Fin 16) (h : Fin 8) (t : Fin 4096) :
    val_main_v25 (F := Ideal) Q K C (ix3 b h t) = top Q K C b h t := by
  rw [val_main_v25_apply]
  unfold val_main_v23 top
  pointwise [val_main_v24, val_main_cst_1, val_main_cst_2]
  simp only [ref_logit, negInf]
  exact max_eq_right bot_le

/-- The weights' numerators and their sums. -/
theorem ref_exp (b : Fin 16) (h : Fin 8) (t s : Fin 4096) :
    val_main_v29 (F := Ideal) Q K C (ix4 b h t s) = Ideal.exp (row Q K C b h t s.val - top Q K C b h t) := by
  rw [val_main_v29_apply, val_main_v28_apply, ref_logit]
  have e : val_main_v27 (F := Ideal) Q K C (ix4 b h t s) = top Q K C b h t := by
    rw [← ref_top, val_main_v27_apply, val_main_v26_apply]
    exact congrArg (val_main_v25 (F := Ideal) Q K C) (funext fun a => match a with
      | ⟨0, _⟩ => rfl
      | ⟨1, _⟩ => rfl
      | ⟨2, _⟩ => rfl)
  rw [e]; rfl

theorem ref_sum (b : Fin 16) (h : Fin 8) (t s : Fin 4096) :
    val_main_v32 (F := Ideal) Q K C (ix4 b h t s) = ∑ j : Fin 4096, Ideal.exp (row Q K C b h t j.val - top Q K C b h t) := by
  rw [val_main_v32_apply, val_main_v31_apply, val_main_v30_apply]
  have z : val_main_cst_3 (F := Ideal) (Shape.Idx.first Cert.FoxRefIdeal.Gen.h_S_) = (0 : EReal) := by
    rw [val_main_cst_3_apply]; exact Ideal.ofBits_zero_f32
  rw [z, zero_add]
  refine Finset.sum_congr rfl fun k _ => ?_
  rw [← ref_exp]
  exact congrArg (val_main_v29 (F := Ideal) Q K C) (funext fun a => match a with
    | ⟨0, _⟩ => rfl
    | ⟨1, _⟩ => rfl
    | ⟨2, _⟩ => rfl
    | ⟨3, _⟩ => rfl)

/-- The reference computes the attention. -/
theorem ref_eq (b : Fin 16) (t : Fin 4096) (j : Fin 512) : val_main_v37 (F := Ideal) Q K V C (ix3 b t j)
    = ∑ k : Fin 4096, Ideal.div (Ideal.exp (row Q K C b (⟨j.val / 64, by omega⟩ : Fin 8) t k.val - top Q K C b (⟨j.val / 64, by omega⟩ : Fin 8) t))
        (∑ i : Fin 4096, Ideal.exp (row Q K C b (⟨j.val / 64, by omega⟩ : Fin 8) t i.val - top Q K C b (⟨j.val / 64, by omega⟩ : Fin 8) t))
      * V (ix3 b k j) := by
  rw [val_main_v37_apply, val_main_v36_apply, val_main_v35_apply]
  have e : idx_main_v35 (idx_main_v36 (ix3 b t j)) = ix4 b (⟨j.val / 64, by omega⟩ : Fin 8) t (⟨j.val % 64, by omega⟩ : Fin 64) := by
    funext a; apply Fin.ext
    match a with
    | ⟨0, _⟩ => show ((b.val * 4096 + t.val) * 512 + j.val) / 2097152 = b.val; omega
    | ⟨1, _⟩ => show ((b.val * 4096 + t.val) * 512 + j.val) / 64 % 8 = j.val / 64; omega
    | ⟨2, _⟩ => show ((b.val * 4096 + t.val) * 512 + j.val) / 512 % 4096 = t.val; omega
    | ⟨3, _⟩ => show ((b.val * 4096 + t.val) * 512 + j.val) % 64 = j.val % 64; omega
  rw [e]
  show val_main_v34 (F := Ideal) Q K V C _ = _
  rw [val_main_v34_apply]
  refine Finset.sum_congr rfl fun k _ => ?_
  have el : lidx_main_v34 (ix4 b (⟨j.val / 64, by omega⟩ : Fin 8) t (⟨j.val % 64, by omega⟩ : Fin 64)) k = ix4 b (⟨j.val / 64, by omega⟩ : Fin 8) t k :=
    funext fun a => match a with
    | ⟨0, _⟩ => rfl
    | ⟨1, _⟩ => rfl
    | ⟨2, _⟩ => rfl
    | ⟨3, _⟩ => rfl
  have er : ridx_main_v34 (ix4 b (⟨j.val / 64, by omega⟩ : Fin 8) t (⟨j.val % 64, by omega⟩ : Fin 64)) k = ix4 b (⟨j.val / 64, by omega⟩ : Fin 8) k (⟨j.val % 64, by omega⟩ : Fin 64) :=
    funext fun a => match a with
    | ⟨0, _⟩ => rfl
    | ⟨1, _⟩ => rfl
    | ⟨2, _⟩ => rfl
    | ⟨3, _⟩ => rfl
  rw [el, er, val_main_v33_apply, ref_exp, ref_sum]
  refine congrArg (HMul.hMul (_ : EReal)) ?_
  pointwise [val_main_v5, val_main_v4]

end Cert.Fox
end
-- ==== Proof.Fox.Logit.lean ====
/-
  The kernel's score of a query and a key is the logit: the selected lanes of the scaled query against the key's give the
  head's product, the selected bias lanes the difference of the biases.
-/
module

public import proofs.«01_k».proof.Proof.Fox.Ref

@[expose] public section

set_option maxRecDepth 16384

noncomputable section

namespace Cert.Fox

open Idealize.ShloMosaic Idealize.ShloMosaic.TcCoe
open Cert.FoxRefIdeal (S16x4096x512 S16x4096x8)
open Cert.Softmax

/-- The scale is a real and not negative. -/
theorem scale_real : ∃ κ : ℝ, 0 ≤ κ ∧ Ideal.ofBits .f32 0x3E000000#32 = (κ : EReal) := by
  refine ⟨1 / 8, by norm_num, ?_⟩
  simp [Ideal.ofBits, Ideal.ieee]
  norm_cast
  norm_num

/-- Of 128 lanes, those of head `e` of the pair give the head's product. -/
theorem lanes_sum (q k : ℕ → EReal) (p e : ℕ) (he : e < 2) :
    (∑ x : Fin 128, (if x.val / 64 = e then q (128 * p + x.val) * Ideal.ofBits .f32 0x3E000000#32 else 0) * k (128 * p + x.val))
      = (∑ d : Fin 64, q (64 * (2 * p + e) + d.val) * k (64 * (2 * p + e) + d.val)) * Ideal.ofBits .f32 0x3E000000#32 := by
  obtain ⟨κ, hκ, eκ⟩ := scale_real
  rw [eκ, mul_comm _ (κ : EReal), mul_sum _ hκ]
  have hs := Fin.sum_univ_add (a := 64) (b := 64) (fun x : Fin (64 + 64) => (if x.val / 64 = e then q (128 * p + x.val) * (κ : EReal) else 0) * k (128 * p + x.val))
  refine hs.trans ?_
  simp only [Fin.val_castAdd, Fin.val_natAdd]
  have d0 : ∀ d : Fin 64, d.val / 64 = 0 := fun d => by omega
  have d1 : ∀ d : Fin 64, (64 + d.val) / 64 = 1 := fun d => by omega
  simp only [d0, d1]
  rcases (by omega : e = 0 ∨ e = 1) with rfl | rfl
  · simp only [if_true, if_neg (show ¬ (1 : ℕ) = 0 by decide), zero_mul, Finset.sum_const_zero, add_zero]
    refine Finset.sum_congr rfl fun d _ => ?_
    rw [show 64 * (2 * p) + d.val = 128 * p + d.val by omega, mul_comm (κ : EReal), mul_right_comm]
  · simp only [if_true, if_neg (show ¬ (0 : ℕ) = 1 by decide), zero_mul, Finset.sum_const_zero, zero_add]
    refine Finset.sum_congr rfl fun d _ => ?_
    rw [show 64 * (2 * p + 1) + d.val = 128 * p + (64 + d.val) by omega, mul_comm (κ : EReal), mul_right_comm]

/-- Of the bias lanes, those of a head give its query's bias less its key's. -/
theorem bias_sum (ct cs : Fin 8 → EReal) (h : Fin 8) (bq bk : Fin 128 → EReal)
    (hq : ∀ l : Fin 128, bq l = if h : l.val < 8 then ct ⟨l.val, h⟩ else if l.val < 32 then (0 : EReal) else if l.val < 56 then 1 else 0)
    (hk : ∀ l : Fin 128, bk l = if l.val < 24 then (1 : EReal) else if h : 32 ≤ l.val ∧ l.val < 40 then - cs ⟨l.val - 32, by omega⟩ else 0) :
    (∑ x : Fin 128, (if x.val % 8 = h.val ∧ x.val < 56 then bq x else 0) * bk x) = ct h - cs h := by
  have key : ∀ x : Fin 128, (if x.val % 8 = h.val ∧ x.val < 56 then bq x else 0) * bk x
      = (if x = (⟨h.val, by omega⟩ : Fin 128) then ct h else 0) + (if x = (⟨32 + h.val, by omega⟩ : Fin 128) then - cs h else 0) := by
    intro x
    by_cases h1 : x.val = h.val
    · rw [if_pos ⟨by omega, by omega⟩, if_pos (Fin.ext h1), if_neg (fun e => by have := congrArg Fin.val e; dsimp only at this; omega),
        hq, hk, dif_pos (by omega), if_pos (by omega), mul_one, add_zero]
      exact congrArg ct (Fin.ext h1)
    by_cases h2 : x.val = 32 + h.val
    · rw [if_pos ⟨by omega, by omega⟩, if_neg (fun e => h1 (congrArg Fin.val e)), if_pos (Fin.ext h2), hq, hk, dif_neg (by omega),
        if_neg (by omega), if_pos (by omega), if_neg (by omega), dif_pos (by omega), one_mul, zero_add]
      exact congrArg (fun i => - cs i) (Fin.ext (by dsimp only; omega))
    rw [if_neg (c := x = _) (fun e => h1 (congrArg Fin.val e)), if_neg (c := x = _) (fun e => h2 (congrArg Fin.val e)), add_zero]
    split
    · rename_i hx
      by_cases h3 : x.val < 32
      · rw [hq, dif_neg (by omega), if_pos h3, zero_mul]
      · rw [hk, if_neg (by omega), dif_neg (by omega), mul_zero]
    · exact zero_mul _
  rw [Finset.sum_congr rfl fun x _ => key x, Finset.sum_add_distrib, Finset.sum_ite_eq' Finset.univ, Finset.sum_ite_eq' Finset.univ,
    if_pos (Finset.mem_univ _), if_pos (Finset.mem_univ _)]
  rfl

variable {Q K : S16x4096x512.Idx → EReal} {C : S16x4096x8.Idx → EReal}

/-- Of finite arguments the logit is a real. -/
theorem lg_real (hQ : ∀ i, ∃ r : ℝ, Q i = (r : EReal)) (hK : ∀ i, ∃ r : ℝ, K i = (r : EReal)) (hC : ∀ i, ∃ r : ℝ, C i = (r : EReal))
    (b : Fin 16) (h : Fin 8) (t s : Fin 4096) : ∃ r : ℝ, lg Q K C b h t s = (r : EReal) := by
  choose q hq using hQ
  choose k hk using hK
  choose c hc using hC
  obtain ⟨κ, -, eκ⟩ := scale_real
  unfold lg
  simp only [hq, hk, hc, eκ]
  simp only [← EReal.coe_mul, ← coe_sum, ← EReal.coe_sub, ← EReal.coe_add]
  exact ⟨_, rfl⟩

theorem row_ne_top (hQ : ∀ i, ∃ r : ℝ, Q i = (r : EReal)) (hK : ∀ i, ∃ r : ℝ, K i = (r : EReal)) (hC : ∀ i, ∃ r : ℝ, C i = (r : EReal))
    (b : Fin 16) (h : Fin 8) (t : Fin 4096) (s : ℕ) : row Q K C b h t s ≠ ⊤ := by
  unfold row
  split
  · obtain ⟨r, hr⟩ := lg_real hQ hK hC b h t ⟨s, by omega⟩
    rw [hr]; exact EReal.coe_ne_top r
  · exact bot_ne_top

theorem row_self (hQ : ∀ i, ∃ r : ℝ, Q i = (r : EReal)) (hK : ∀ i, ∃ r : ℝ, K i = (r : EReal)) (hC : ∀ i, ∃ r : ℝ, C i = (r : EReal))
    (b : Fin 16) (h : Fin 8) (t : Fin 4096) : row Q K C b h t t.val ≠ ⊥ := by
  unfold row
  rw [dif_pos le_rfl]
  obtain ⟨r, hr⟩ := lg_real hQ hK hC b h t t
  exact fun e => EReal.coe_ne_bot r (hr.symm.trans e)

theorem row_after (b : Fin 16) (h : Fin 8) (t : Fin 4096) {s : ℕ} (hs : t.val < s) : row Q K C b h t s = ⊥ := by
  unfold row
  exact dif_neg (by omega)

theorem top_real (hQ : ∀ i, ∃ r : ℝ, Q i = (r : EReal)) (hK : ∀ i, ∃ r : ℝ, K i = (r : EReal)) (hC : ∀ i, ∃ r : ℝ, C i = (r : EReal))
    (b : Fin 16) (h : Fin 8) (t : Fin 4096) : ∃ ν : ℝ, top Q K C b h t = (ν : EReal) :=
  max_real' _ (fun s => row_ne_top hQ hK hC b h t s.val) t (row_self hQ hK hC b h t)

end Cert.Fox
end
-- ==== Proof.Fox.Value.lean ====
/-
  The forgetting attention's result: of finite arguments, what the run leaves in the result array is what the reference
  computes.
-/
module

public import proofs.«01_k».proof.Proof.Fox.Row
public import proofs.«01_k».proof.Proof.Fox.Blocks
public import proofs.«01_k».proof.Proof.Fox.Inputs
public import proofs.«01_k».proof.Proof.Fox.Logit

@[expose] public section

set_option maxRecDepth 16384

noncomputable section

namespace Cert.FoxIdeal.Hand

open Cert.FoxIdeal Cert.FoxIdeal.Gen Cert.Fox
open Idealize.ShloMosaic Idealize.ShloMosaic.TcCoe Idealize.ShloMosaic.Tactic
open Idealize.ShloMosaic.Pipeline (Dat)

variable (m : (ℓ : Loc nD τ sig) → Buf (Elt Ideal) ℓ)

/-- A point's query row and a head of its pair. -/
abbrev qr (t : Fin cfg0.N) (r : Fin 512) : Fin 4096 := ⟨512 * pn t + r.val, by have := pn_lt t; omega⟩
abbrev hd (t : Fin cfg0.N) (e : ℕ) : Fin 8 := ⟨(2 * pp t + e) % 8, Nat.mod_lt _ (by omega)⟩
abbrev bt (t : Fin cfg0.N) : Fin 16 := ⟨pb t, pb_lt t⟩

/-- The kernel's score of a query and a key that it may see is their logit. -/
theorem score_eq (c : Dev nD) (hC : ∀ i, ∃ r : ℝ, argC m c i = (r : EReal)) (t : Fin cfg0.N) (r : Fin 512) (e : ℕ) (he : e < 2) (s : Fin 4096)
    (hs : s.val ≤ 512 * pn t + r.val) :
    BL (grid0.coords t 1).val (iblk m c 0 t) (iblk m c 1 t) (iblk m c 2 t) (iblk m c 3 t) e r s
      = row (argQ m c) (argK m c) (argC m c) (bt t) (hd t e) (qr t r) s.val := by
  have hp := pp_lt t
  have hsub : ∀ i, argC m c i - argC m c i = 0 := fun i => by
    obtain ⟨x, hx⟩ := hC i
    rw [hx, ← EReal.coe_sub, sub_self]; rfl
  have hh : (hd t e).val = 2 * pp t + e := Nat.mod_eq_of_lt (by omega)
  unfold BL row lg
  rw [dif_pos hs]
  refine congrArg₂ (· + ·) ?_ ?_
  · have k := lanes_sum (fun j => if h : j < 512 then argQ m c (ix3 (bt t) (qr t r) ⟨j, h⟩) else 0) (fun j => if h : j < 512 then argK m c (ix3 (bt t) s ⟨j, h⟩) else 0) (pp t) e he
    refine Eq.trans (Finset.sum_congr rfl fun x _ => ?_) (k.trans (congrArg (· * _) (Finset.sum_congr rfl fun d _ => ?_)))
    · rw [iblk0_at, iblk2_at, V_q, V_k, dif_pos (show 128 * pp t + x.val < 512 by omega), dif_pos (show 128 * pp t + x.val < 512 by omega)]
    · rw [dif_pos (show 64 * (2 * pp t + e) + d.val < 512 by omega), dif_pos (show 64 * (2 * pp t + e) + d.val < 512 by omega)]
      exact congrArg₂ (· * ·) (congrArg (fun i : Fin 512 => argQ m c (ix3 (bt t) (qr t r) i)) (Fin.ext (by dsimp only; omega)))
        (congrArg (fun i : Fin 512 => argK m c (ix3 (bt t) s i)) (Fin.ext (by dsimp only; omega)))
  · refine Eq.trans ?_ (bias_sum (fun h => argC m c (ix3 (bt t) (qr t r) h)) (fun h => argC m c (ix3 (bt t) s h)) (hd t e)
      (fun l => iblk m c 1 t (ix3 (0 : Fin 1) r l : S1x512x128.Idx)) (fun l => iblk m c 3 t (ix3 (0 : Fin 1) l s : S1x128x4096.Idx))
      (fun l => by rw [iblk1_at, V_bq m c hsub]) (fun l => by rw [iblk3_at, V_bk m c hsub]))
    refine Finset.sum_congr rfl fun x _ => ?_
    rw [hh]

/-- THE RESULT ARRAY: of finite queries, keys and biases it ends at the reference's forgetting attention. -/
theorem result (c : Dev nD) (hQ : ∀ i, ∃ r : ℝ, argQ m c i = (r : EReal)) (hK : ∀ i, ∃ r : ℝ, argK m c i = (r : EReal))
    (hC : ∀ i, ∃ r : ℝ, argC m c i = (r : EReal)) :
    (dats m 0 c).arrAt 6 cfg0.N = Cert.FoxRefIdeal.Read.val_main_v37 (F := Ideal) (argQ m c) (argK m c) (argV m c) (argC m c) := by
  refine final_of m c _ fun t r l => ?_
  rw [ref_eq]
  have hp := pp_lt t
  have hl := l.isLt
  have eh : (⟨(128 * pp t + l.val) / 64, by omega⟩ : Fin 8) = hd t (l.val / 64) := Fin.ext (by dsimp only; omega)
  rw [eh]
  obtain ⟨ν, hν⟩ := top_real hQ hK hC (bt t) (hd t (l.val / 64)) (qr t r)
  rw [hν]
  unfold outAt
  refine (outBlk_read (grid0.coords t) _ _ _ _ _ _ (fun e s => row (argQ m c) (argK m c) (argC m c) (bt t) (hd t e) (qr t r) s)
    (fun e s => row_ne_top hQ hK hC _ _ _ s)
    (fun e s d => if h : s < 4096 ∧ 64 * (2 * pp t + e) + d < 512 then argV m c (ix3 (bt t) (⟨s, h.1⟩ : Fin 4096) (⟨64 * (2 * pp t + e) + d, h.2⟩ : Fin 512)) else 0)
    r (fun e he s hs => score_eq m c hC t r e he s hs) (fun e s hs => row_after _ _ _ hs) (fun e => row_self hQ hK hC _ _ (qr t r)) (fun s d => ?_) (fun s d => ?_) l 0 ν).trans ?_
  · have hd' := d.isLt
    rw [iblk4_at, V_v]
    dsimp only
    by_cases h : d.val < 64
    · rw [dif_pos (by omega), if_pos h, dif_pos ⟨s.isLt, by omega⟩]
      exact congrArg (fun i : Fin 512 => argV m c (ix3 (bt t) s i)) (Fin.ext (by dsimp only; omega))
    · rw [dif_neg (by omega), if_neg h]
  · have hd' := d.isLt
    rw [iblk5_at, V_v]
    dsimp only
    by_cases h : d.val < 64
    · rw [dif_pos (by omega), if_pos h, dif_pos ⟨s.isLt, by omega⟩]
      exact congrArg (fun i : Fin 512 => argV m c (ix3 (bt t) s i)) (Fin.ext (by dsimp only; omega))
    · rw [dif_neg (by omega), if_neg h]
  · refine Finset.sum_congr rfl fun k _ => congrArg (HMul.hMul (_ : EReal)) ?_
    rw [dif_pos ⟨k.isLt, by omega⟩]
    exact congrArg (fun i : Fin 512 => argV m c (ix3 (bt t) k i)) (Fin.ext (by dsimp only; omega))

end Cert.FoxIdeal.Hand
end
-- ==== Proof.Fox.Finite.lean ====
/-
  What the precondition says of the arguments: every query, key and bias is a real number.
-/
module

public import proofs.«01_k».proof.Defs
public import proofs.«01_k».proof.Proof.Gen.Pre_finite
public import proofs.«01_k».proof.Proof.Fox.Host
public import Idealize.ShloMosaic.Lib.ReduceAll
public import Idealize.ShloMosaic.Lib.Pointwise

@[expose] public section

set_option maxRecDepth 16384

noncomputable section

namespace Cert.Fox

open Idealize.ShloMosaic Idealize.ShloMosaic.TcCoe Idealize.ShloMosaic.Tactic
open Cert.Pre_finite

/-- A value below plus infinity in size is a real. -/
theorem real_of_abs_lt (x : EReal) (h : BitVec.ofBool (decide (max x (-x) < Ideal.ofBits .f32 0x7F800000#32)) = 1#1) : ∃ r : ℝ, x = (r : EReal) := by
  have e : Ideal.ofBits .f32 0x7F800000#32 = (⊤ : EReal) := by simp [Ideal.ofBits, Ideal.ieee]
  rw [e] at h
  have h' : max x (-x) < ⊤ := by
    by_contra hn
    rw [decide_eq_false hn] at h
    exact absurd h (by decide)
  rw [max_lt_iff] at h'
  refine ⟨x.toReal, (EReal.coe_toReal h'.1.ne fun hb => ?_).symm⟩
  rw [hb] at h'
  exact absurd h'.2 (by simp)

theorem finite_args [Facts] (q k v : FVec Ideal S16x4096x512 .f32) (c : FVec Ideal S16x4096x8 .f32) (h : fn (F := Ideal) q k v c = fun _ => 1#1) :
    (∀ i, ∃ r : ℝ, q i = (r : EReal)) ∧ (∀ i, ∃ r : ℝ, k i = (r : EReal)) ∧ (∀ i, ∃ r : ℝ, c i = (r : EReal)) := by
  have h0 := congrFun h ix0
  unfold fn at h0
  have hand : ∀ a b : BitVec 1, IntOp.andi a b = 1#1 → a = 1#1 ∧ b = 1#1 := by decide
  haveI : Subsingleton S_.Idx := ⟨fun a b => funext fun x => x.elim0⟩
  obtain ⟨h12, h3⟩ := hand _ _ h0
  obtain ⟨h1, h2⟩ := hand _ _ h12
  refine ⟨fun i => real_of_abs_lt _ ?_, fun i => real_of_abs_lt _ ?_, fun i => real_of_abs_lt _ ?_⟩
  · exact Host.reduce_andi_all _ _ _ _ _ h1 i
  · exact Host.reduce_andi_all _ _ _ _ _ h2 i
  · exact Host.reduce_andi_all _ _ _ _ _ h3 i

end Cert.Fox
end
-- ==== Proof.Fox.Same.lean ====
/- The kernel program and its ideal form have one body table, label by label. -/
module

public import proofs.«01_k».proof.Defs
public import proofs.«01_k».proof.Proof.Gen.Fox
public import proofs.«01_k».proof.Proof.Gen.FoxIdeal

@[expose] public section

noncomputable section

namespace Cert.Fox.Same

open Idealize.ShloMosaic Idealize.ShloMosaic.TcCoe Idealize.SL.Sem

/-- At the one label the two tables run the same body. -/
theorem body_eq (t s) : Cert.Fox.defs₀ (F := Bits) .tc (0 : Fin 1) (t, s)
    = Cert.FoxIdeal.defs₀ (F := Bits) .tc (0 : Fin 1) (t, s) := by
  show Cert.Fox.cc0_fox .. = Cert.FoxIdeal.cc0_fox ..
  rfl

/-- The two kernels' body tables are one. -/
theorem kernels_eq : Cert.Fox.defs₀ (F := Bits) = Cert.FoxIdeal.defs₀ (F := Bits) := by
  funext p ℓ a
  cases p with
  | tc =>
    match ℓ, a with
    | ⟨0, _⟩, (t, s) => exact body_eq t s
  | scScalar _ => rfl
  | scVector _ _ => rfl

/-- So are the tables with the pipeline's own labels. -/
theorem defs_eq : Cert.Fox.defs (F := Bits) = Cert.FoxIdeal.defs (F := Bits) :=
  congrArg (Pipeline.defs (Cert.FoxIdeal.pcfgs (F := Bits))) kernels_eq

/-- The two host programs are one. -/
theorem main_eq : Cert.Fox.main (F := Bits) = Cert.FoxIdeal.main (F := Bits) := rfl

end Cert.Fox.Same

end
-- ==== Proof.Diff.Steps.lean ====
/-
  The differential attention's kernel as a function of the eight blocks that one grid point reads: both halves' queries
  with their position lanes, one block of 512 keys folded into the running maximum and accumulator of both halves
  (`step`), the blocks before the diagonal one (`accN`), the diagonal block with its correction and mask (`stepC`), and
  the normalized difference that is stored (`outBlk`). Stated over any value instance, with the operations of the
  printed kernel.
-/
module

public import proofs.«01_k».proof.Proof.Gen.DiffIdeal.Frame
public import proofs.«01_k».proof.Proof.Gen.DiffIdeal.Loops

@[expose] public section

set_option maxRecDepth 16384

noncomputable section

namespace Cert.DiffIdeal.Hand

open Cert.DiffIdeal Cert.DiffIdeal.Gen
open Idealize.ShloMosaic Idealize.ShloMosaic.TcCoe

variable {F : FTy → Type} [FloatOps F]

/-- The scores of both halves against one block of keys. -/
def scores (q : FVec F S1024x256 .bf16) (kt : Vec F S1x128x512 .bf16) (pk : Vec F S128x512 .bf16) : FVec F S1024x512 .f32 :=
  matmul dot_S1024x256_S256x512_S1024x512_1_0_0_1_n_n none q
    (concatenate S256x512 0 [⟨S128x512, shapeCast S128x512 kt shapeCasts_S1x128x512_S128x512⟩,
      ⟨S128x512, shapeCast S128x512 pk shapeCasts_S128x512_S128x512⟩] concatenates_S128x512_S128x512_S256x512_d0)
    (constant S1024x512 .f32 0x00000000#32)

/-- The first half's scores, and the second half's. -/
def scores0 (q : FVec F S1024x256 .bf16) (kt : Vec F S1x128x512 .bf16) (pk : Vec F S128x512 .bf16) : FVec F S512x512 .f32 :=
  extractStridedSlice S512x512 ![0, 0] (scores q kt pk) slices_S1024x512_o0_0_S512x512
def scores1 (q : FVec F S1024x256 .bf16) (kt : Vec F S1x128x512 .bf16) (pk : Vec F S128x512 .bf16) : FVec F S512x512 .f32 :=
  extractStridedSlice S512x512 ![512, 0] (scores q kt pk) slices_S1024x512_o512_0_S512x512

/-- What the diagonal block adds to a score: the correction of a key after its query, minus infinity past its chunk. -/
def fixT (sl : Vec F S1x1x1 .f32) : FVec F S512x512 .f32 :=
  k0_pay41 (iota .tc S512x512 32 [0] iota_S512x512_d0_w32) (iota .tc S512x512 32 [1] iota_S512x512_d1_w32) k0_pay38 64#32 k0_pay39 k0_pay40 sl

/-- A block of values, and as many lanes of ones. -/
def vOnes (v : Vec F S1x512x128 .bf16) : FVec F S512x256 .bf16 :=
  concatenate S512x256 1 [⟨S512x128, shapeCast S512x128 v shapeCasts_S1x512x128_S512x128⟩, ⟨S512x128, k0_pay47 (F := F)⟩]
    concatenates_S512x128_S512x128_S512x256_d1

/-- The running maximum after a block of scores. -/
def newM (s : FVec F S512x512 .f32) (m : FVec F S512x1 .f32) : FVec F S512x1 .f32 :=
  maximumf m (shapeCast S512x1 (multiReduction .maximumf [1] S512 s 0xFF800000#32 reduces_S512x512_S512 (.inl rfl) rfl) shapeCasts_S512_S512x1)

/-- The accumulator after a block of scores and values. -/
def newA (s : FVec F S512x512 .f32) (m : FVec F S512x1 .f32) (a : FVec F S512x256 .f32) (v : Vec F S1x512x128 .bf16) : FVec F S512x256 .f32 :=
  addf (mulf (broadcastTo S512x256 (exp (subf m (newM s m))) broadcasts_S512x1_S512x256) a)
    (matmul dot_S512x512_S512x256_S512x256_1_0_0_1_n_n none
      (truncf .bf16 (exp (subf s (broadcastTo S512x512 (newM s m) broadcasts_S512x1_S512x512))) bitsLt_bf16_f32)
      (vOnes v) (constant S512x256 .f32 0x00000000#32))

/-- What both halves carry from block to block: each its running maximum and its accumulator. -/
abbrev Carry (F : FTy → Type) : Type := FVec F S512x1 .f32 × FVec F S512x256 .f32 × FVec F S512x1 .f32 × FVec F S512x256 .f32

/-- One block of keys and values, no mask. -/
def step (q : FVec F S1024x256 .bf16) (kt : Vec F S1x128x512 .bf16) (pk : Vec F S128x512 .bf16) (v : Vec F S1x512x128 .bf16) (c : Carry F) : Carry F :=
  (newM (scores0 q kt pk) c.1, newA (scores0 q kt pk) c.1 c.2.1 v,
    newM (scores1 q kt pk) c.2.2.1, newA (scores1 q kt pk) c.2.2.1 c.2.2.2 v)

/-- The diagonal block: both halves' accumulators after it. -/
def stepC (q : FVec F S1024x256 .bf16) (kt : Vec F S1x128x512 .bf16) (pk : Vec F S128x512 .bf16) (v : Vec F S1x512x128 .bf16) (sl : Vec F S1x1x1 .f32)
    (c : Carry F) : FVec F S512x256 .f32 × FVec F S512x256 .f32 :=
  (newA (addf (scores0 q kt pk) (fixT sl)) c.1 c.2.1 v, newA (addf (scores1 q kt pk) (fixT sl)) c.2.2.1 c.2.2.2 v)

/-- Columns `512 j …` of the transposed keys and of the positions' lanes, rows `512 j …` of the values, and the slope. -/
def ldK (x : Vec F S1x128x4096 .bf16) (j : ℕ) : Vec F S1x128x512 .bf16 :=
  fun y => x (fun a => match a with
    | ⟨0, _⟩ => ⟨(y 0).val, (y 0).isLt⟩
    | ⟨1, _⟩ => ⟨(y 1).val, (y 1).isLt⟩
    | ⟨2, _⟩ => ⟨(512 * j + (y 2).val) % 4096, Nat.mod_lt _ (by decide)⟩)
def ldP (x : Vec F S128x4096 .bf16) (j : ℕ) : Vec F S128x512 .bf16 :=
  fun y => x (fun a => match a with
    | ⟨0, _⟩ => ⟨(y 0).val, (y 0).isLt⟩
    | ⟨1, _⟩ => ⟨(512 * j + (y 1).val) % 4096, Nat.mod_lt _ (by decide)⟩)
def ldV (x : Vec F S1x4096x128 .bf16) (j : ℕ) : Vec F S1x512x128 .bf16 :=
  fun y => x (fun a => match a with
    | ⟨0, _⟩ => ⟨(y 0).val, (y 0).isLt⟩
    | ⟨1, _⟩ => ⟨(512 * j + (y 1).val) % 4096, Nat.mod_lt _ (by decide)⟩
    | ⟨2, _⟩ => ⟨(y 2).val, (y 2).isLt⟩)
def ldS (x : Vec F S1x8x128 .f32) : Vec F S1x1x1 .f32 :=
  fun y => x (fun a => match a with
    | ⟨0, _⟩ => ⟨(y 0).val, (y 0).isLt⟩
    | ⟨1, _⟩ => ⟨(y 1).val, Nat.lt_of_lt_of_le (y 1).isLt (show 1 ≤ 8 by decide)⟩
    | ⟨2, _⟩ => ⟨(y 2).val, Nat.lt_of_lt_of_le (y 2).isLt (show 1 ≤ 128 by decide)⟩)

/-- Block `j` of the keys and values folded in. -/
def stepAt (q : FVec F S1024x256 .bf16) (x5 : Vec F S1x128x4096 .bf16) (x6 : Vec F S128x4096 .bf16) (x7 : Vec F S1x4096x128 .bf16) (j : ℕ) (c : Carry F) : Carry F :=
  step q (ldK x5 j) (ldP x6 j) (ldV x7 j) c

/-- The carry before block `n`. -/
def accN (q : FVec F S1024x256 .bf16) (x5 : Vec F S1x128x4096 .bf16) (x6 : Vec F S128x4096 .bf16) (x7 : Vec F S1x4096x128 .bf16) : ℕ → Carry F
  | 0 => (k0_pay48, k0_pay49, k0_pay50, k0_pay51)
  | n + 1 => stepAt q x5 x6 x7 n (accN q x5 x6 x7 n)

/-- The block the kernel stores at a grid point. -/
def outBlk (i : grid0.Coords) (x3 x4 : Vec F S1x512x128 .bf16) (x5 : Vec F S1x128x4096 .bf16) (x6 : Vec F S128x4096 .bf16) (x7 : Vec F S1x4096x128 .bf16)
    (x8 : Vec F S1x8x128 .f32) (x9 : Vec F S4x128 .f32) (x10 : Vec F S1x128 .f32) : Vec F S1x512x128 .bf16 :=
  let q := k0_pay46 x3 x4
  let n := (i 2).val
  let r := stepC q (ldK x5 n) (ldP x6 n) (ldV x7 n) (ldS x8) (accN q x5 x6 x7 n)
  k0_pay1 r.1 r.2 (k0_pay71 x9) (k0_pay72 (F := F)) x10

end Cert.DiffIdeal.Hand

end
-- ==== Proof.Diff.Host.lean ====
/-
  What the host lays out before the differential attention's call, read at an index.
-/
module

public import proofs.«01_k».proof.Proof.Gen.DiffIdeal.Frame
public import Idealize.ShloMosaic.Lib.Pointwise
public import Idealize.ShloMosaic.Lib.StableHlo.Run
public import Idealize.ShloMosaic.Lib.Routing.OpsOne

@[expose] public section

set_option maxRecDepth 16384

noncomputable section

namespace Cert.DiffIdeal.Hand

open Cert.DiffIdeal Cert.DiffIdeal.Gen
open Idealize.ShloMosaic Idealize.ShloMosaic.TcCoe Idealize.ShloMosaic.Tactic Idealize.ShloMosaic.Routing

variable (m : (ℓ : Loc nD τ sig) → Buf (Elt Ideal) ℓ)

/-- The arguments as arrays of extended reals: queries, keys, values, the four lambda vectors and the gain. -/
abbrev argQ (c : Dev nD) : S16x4096x512.Idx → EReal := m ((c.tc : Thread nD τ).loc main_arg0)
abbrev argK (c : Dev nD) : S16x4096x512.Idx → EReal := m ((c.tc : Thread nD τ).loc main_arg1)
abbrev argV (c : Dev nD) : S16x4096x512.Idx → EReal := m ((c.tc : Thread nD τ).loc main_arg2)
abbrev argL (c : Dev nD) : Fin 4 → S1x64.Idx → EReal := fun r => match r with
  | 0 => m ((c.tc : Thread nD τ).loc main_arg3)
  | 1 => m ((c.tc : Thread nD τ).loc main_arg4)
  | 2 => m ((c.tc : Thread nD τ).loc main_arg5)
  | 3 => m ((c.tc : Thread nD τ).loc main_arg6)
abbrev argG (c : Dev nD) : S1x128.Idx → EReal := m ((c.tc : Thread nD τ).loc main_arg7)

/-- A select on a word that says `P`. -/
theorem sel_ite {α : Type} {P : Prop} [Decidable P] {b : BitVec 1} (h : b = if P then 1#1 else 0#1) (x y : α) :
    Scalar.select b x y = if P then x else y := by
  subst h; by_cases h : P <;> simp [h, Scalar.select]

/-- The slope of a head: a quarter, a sixteenth, a 64th, a 256th. -/
def slope (h : Fin 4) : ℝ := (1 / 4) ^ (h.val + 1)

theorem slope_bits (h : Fin 4) : Ideal.ofBits FTy.f32 (lit0 h) = (slope h : EReal) := by
  fin_cases h <;> simp [lit0, slope, Ideal.ofBits, Ideal.ieee] <;> norm_cast <;> norm_num

theorem slope_pos (h : Fin 4) : 0 < slope h := by unfold slope; positivity

/-- A small number's word, cast to a float, is that number. -/
theorem word_nat (n : ℕ) (hn : n < 4096) : (FloatOps.sitofp FTy.f32 (BitVec.ofNat 32 n) : Ideal FTy.f32) = ((n : ℝ) : EReal) := by
  have e1 : (BitVec.ofNat 32 n).toInt = n := by
    rw [BitVec.toInt_eq_toNat_of_lt (by rw [BitVec.toNat_ofNat]; omega), BitVec.toNat_ofNat]
    exact congrArg Nat.cast (Nat.mod_eq_of_lt (by omega))
  show (((BitVec.ofNat 32 n).toInt : ℝ) : EReal) = _
  rw [e1]; rfl

/-- The words of a position's quotient and remainder by 64, as the host divides. -/
def hiW (t : Fin 4096) : BitVec 32 := Scalar.select
    (IntOp.andi
      (IntOp.cmpi CmpIPredicate.ne
        (if BitVec.ofNat 32 t.val = 0 then (0 : BitVec 32) else if (BitVec.ofNat 32 t.val).msb = true then -1 else 1)
        (if 64#32 = 0 then 0 else if (64#32).msb = true then -1 else 1))
      (IntOp.cmpi CmpIPredicate.ne (IntOp.remsi ArithUnit.host (BitVec.ofNat 32 t.val) 64#32) 0#32))
    (IntOp.subi (IntOp.divsi ArithUnit.host (BitVec.ofNat 32 t.val) 64#32) 1#32)
    (IntOp.divsi ArithUnit.host (BitVec.ofNat 32 t.val) 64#32)
def loW (t : Fin 4096) : BitVec 32 := Scalar.select
    (IntOp.andi
      (IntOp.cmpi CmpIPredicate.ne
        (IntOp.cmpi CmpIPredicate.slt
          (IntOp.remsi ArithUnit.host (BitVec.ofNat 32 t.val) (Scalar.select (IntOp.cmpi CmpIPredicate.eq 64#32 0#32) 1#32 64#32)) 0#32)
        (IntOp.cmpi CmpIPredicate.slt (Scalar.select (IntOp.cmpi CmpIPredicate.eq 64#32 0#32) 1#32 64#32) 0#32))
      (IntOp.cmpi CmpIPredicate.ne
        (IntOp.remsi ArithUnit.host (BitVec.ofNat 32 t.val) (Scalar.select (IntOp.cmpi CmpIPredicate.eq 64#32 0#32) 1#32 64#32)) 0#32))
    (IntOp.addi
      (IntOp.remsi ArithUnit.host (BitVec.ofNat 32 t.val) (Scalar.select (IntOp.cmpi CmpIPredicate.eq 64#32 0#32) 1#32 64#32))
      (Scalar.select (IntOp.cmpi CmpIPredicate.eq 64#32 0#32) 1#32 64#32))
    (IntOp.remsi ArithUnit.host (BitVec.ofNat 32 t.val) (Scalar.select (IntOp.cmpi CmpIPredicate.eq 64#32 0#32) 1#32 64#32))

theorem hi_word : ∀ t : Fin 4096, hiW t = BitVec.ofNat 32 (t.val / 64) := by decide +kernel
theorem lo_word : ∀ t : Fin 4096, loW t = BitVec.ofNat 32 (t.val % 64) := by decide +kernel
theorem hi_val (t : Fin 4096) : (FloatOps.sitofp FTy.f32 (hiW t) : Ideal FTy.f32) = (((t.val / 64 : ℕ) : ℝ) : EReal) := by
  rw [hi_word, word_nat _ (by omega)]
theorem lo_val (t : Fin 4096) : (FloatOps.sitofp FTy.f32 (loW t) : Ideal FTy.f32) = (((t.val % 64 : ℕ) : ℝ) : EReal) := by
  rw [lo_word, word_nat _ (by omega)]

theorem ite_coe {P : Prop} [Decidable P] {a b : EReal} {c d : ℝ} (h : a = (c : EReal)) (h' : b = (d : EReal)) :
    (if P then a else b) = ((if P then c else d : ℝ) : EReal) := by
  split_ifs <;> assumption

theorem lane_eq0 : ∀ x : Fin 128, IntOp.cmpi CmpIPredicate.eq (BitVec.ofNat 32 x.val) 0#32 = if x.val = 0 then 1#1 else 0#1 := by decide +kernel
theorem lane_eq1 : ∀ x : Fin 128, IntOp.cmpi CmpIPredicate.eq (BitVec.ofNat 32 x.val) 1#32 = if x.val = 1 then 1#1 else 0#1 := by decide +kernel
theorem lane_eq2 : ∀ x : Fin 128, IntOp.cmpi CmpIPredicate.eq (BitVec.ofNat 32 x.val) 2#32 = if x.val = 2 then 1#1 else 0#1 := by decide +kernel
theorem lane_eq3 : ∀ x : Fin 128, IntOp.cmpi CmpIPredicate.eq (BitVec.ofNat 32 x.val) 3#32 = if x.val = 3 then 1#1 else 0#1 := by decide +kernel

theorem sixtyfour : Ideal.ofBits FTy.f32 1115684864#32 = ((64 : ℝ) : EReal) := by
  simp [Ideal.ofBits, Ideal.ieee]; norm_cast; norm_num

/-- The position lanes of a query: with `t = 64 a + b`, the lanes `-64 σ a`, `-σ b`, `64 σ`, `σ`, then zeros. -/
def posq (σ : ℝ) (t x : ℕ) : ℝ :=
  if x = 3 then σ else if x = 2 then σ * 64 else if x = 1 then -σ * (t % 64 : ℕ) else if x = 0 then -σ * 64 * (t / 64 : ℕ) else 0
/-- The position lanes of a key: with `s = 64 a + b`, the lanes `1`, `1`, `a`, `b`, then zeros. -/
def posk (s x : ℕ) : ℝ :=
  if x = 3 then (s % 64 : ℕ) else if x = 2 then (s / 64 : ℕ) else if x = 1 then 1 else if x = 0 then 1 else 0

/-- Their product over the lanes is the slope times the key's position less the query's. -/
theorem pos_sum (σ : ℝ) (t s : ℕ) : ∑ x : Fin 128, posq σ t x.val * posk s x.val = σ * ((s : ℝ) - t) := by
  have e : ∀ x : Fin 128, posq σ t x.val * posk s x.val
      = (if x = 3 then σ * (s % 64 : ℕ) else 0) + (if x = 2 then σ * 64 * (s / 64 : ℕ) else 0)
        + (if x = 1 then -σ * (t % 64 : ℕ) else 0) + (if x = 0 then -σ * 64 * (t / 64 : ℕ) else 0) := by
    intro x
    simp only [posq, posk, Fin.ext_iff, show ((3 : Fin 128).val) = 3 from rfl, show ((2 : Fin 128).val) = 2 from rfl,
      show ((1 : Fin 128).val) = 1 from rfl, show ((0 : Fin 128).val) = 0 from rfl]
    by_cases h3 : x.val = 3
    · simp [h3]
    by_cases h2 : x.val = 2
    · simp [h2]
    by_cases h1 : x.val = 1
    · simp [h1]
    by_cases h0 : x.val = 0
    · simp [h0]
    simp [h3, h2, h1, h0]
  rw [Finset.sum_congr rfl fun x _ => e x, Finset.sum_add_distrib, Finset.sum_add_distrib, Finset.sum_add_distrib]
  simp only [Finset.sum_ite_eq', Finset.mem_univ, if_true]
  have hs : (s : ℝ) = 64 * (s / 64 : ℕ) + (s % 64 : ℕ) := by exact_mod_cast (Nat.div_add_mod s 64).symm
  have ht : (t : ℝ) = 64 * (t / 64 : ℕ) + (t % 64 : ℕ) := by exact_mod_cast (Nat.div_add_mod t 64).symm
  rw [hs, ht]
  push_cast
  ring

set_option maxHeartbeats 4000000 in
/-- The host's scaled queries. -/
theorem V_q (c : Dev nD) (b : Fin 16) (t : Fin 4096) (j : Fin 512) :
    V m c main_v61 (ix3 b t j) = argQ m c (ix3 b t j) * Ideal.ofBits .f32 0x3E000000#32 := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, List.flatten_cons, List.flatten_nil,
    List.cons_append, List.nil_append, List.append_nil]
  after_results
  pointwise []

set_option maxHeartbeats 4000000 in
/-- The host's keys, transposed. -/
theorem V_k (c : Dev nD) (b : Fin 16) (s : Fin 4096) (j : Fin 512) :
    V m c main_v63 (ix3 b j s) = argK m c (ix3 b s j) := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, List.flatten_cons, List.flatten_nil,
    List.cons_append, List.nil_append, List.append_nil]
  after_results
  pointwise []

set_option maxHeartbeats 4000000 in
/-- The host's values. -/
theorem V_v (c : Dev nD) (b : Fin 16) (s : Fin 4096) (j : Fin 512) :
    V m c main_v64 (ix3 b s j) = argV m c (ix3 b s j) := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, List.flatten_cons, List.flatten_nil,
    List.cons_append, List.nil_append, List.append_nil]
  after_results
  pointwise []

set_option maxHeartbeats 4000000 in
/-- The gain. -/
theorem V_g (c : Dev nD) (x : Fin 128) :
    V m c main_v87 (ix2 0 x) = argG m c (ix2 0 x) := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, List.flatten_cons, List.flatten_nil,
    List.cons_append, List.nil_append, List.append_nil]
  after_results_simp
  pointwise []

/-- The table of slopes at an index is the slope of that head. -/
theorem slope_tab (h : Fin 4) : Ideal.ofBits FTy.f32 (lit0 (S4.rowMajor (ix1 h))) = (slope h : EReal) := by
  rw [← slope_bits h]
  exact congrArg (fun i : Fin 4 => Ideal.ofBits FTy.f32 (lit0 i)) (Fin.ext (Shape.rowMajor_val_one (d := ![4]) (ix1 h)))

set_option maxHeartbeats 4000000 in
/-- The slopes' table. -/
theorem V_sl (c : Dev nD) (h : Fin 4) (a : Fin 8) (x : Fin 128) :
    V m c main_v56 (ix3 h a x) = (slope h : EReal) := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, List.flatten_cons, List.flatten_nil,
    List.cons_append, List.nil_append, List.append_nil]
  after_results_simp
  pointwise []
  exact slope_tab h

set_option maxHeartbeats 4000000 in
/-- The queries' position lanes. -/
theorem V_pq (c : Dev nD) (h : Fin 4) (t : Fin 4096) (x : Fin 128) :
    V m c main_v57 (ix3 h t x) = (posq (slope h) t.val x.val : EReal) := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, List.flatten_cons, List.flatten_nil,
    List.cons_append, List.nil_append, List.append_nil]
  after_results_simp
  simp only [StableHlo.TRef.toBuf, StableHlo.TRef.ofBuf, cast_eq, id]
  pointwise []
  rw [sel_ite (lane_eq3 x), sel_ite (lane_eq2 x), sel_ite (lane_eq1 x), sel_ite (lane_eq0 x)]
  exact ite_coe (slope_tab h) (ite_coe ((congrArg₂ (· * ·) (slope_tab h) sixtyfour).trans (EReal.coe_mul _ _).symm)
    (ite_coe ((congrArg₂ (· * ·) (congrArg Neg.neg (slope_tab h)) (lo_val t)).trans (EReal.coe_mul _ _).symm)
      (ite_coe ((congrArg₂ (· * ·) (congrArg₂ (· * ·) (congrArg Neg.neg (slope_tab h)) sixtyfour) (hi_val t)).trans
        ((congrArg (· * _) (EReal.coe_mul _ _).symm).trans (EReal.coe_mul _ _).symm)) EReal.coe_zero.symm)))

set_option maxHeartbeats 4000000 in
/-- The keys' position lanes. -/
theorem V_pk (c : Dev nD) (x : Fin 128) (s : Fin 4096) :
    V m c main_v58 (ix2 x s) = (posk s.val x.val : EReal) := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, List.flatten_cons, List.flatten_nil,
    List.cons_append, List.nil_append, List.append_nil]
  after_results_simp
  simp only [StableHlo.TRef.toBuf, StableHlo.TRef.ofBuf, cast_eq, id]
  pointwise []
  rw [sel_ite (lane_eq3 x), sel_ite (lane_eq2 x), sel_ite (lane_eq1 x), sel_ite (lane_eq0 x)]
  exact ite_coe (lo_val s) (ite_coe (hi_val s) (ite_coe EReal.coe_one.symm (ite_coe EReal.coe_one.symm EReal.coe_zero.symm)))

/-- Update `k` of a row of 64 written into the table of four rows lands at `(r, x)` exactly when the first index word is
    `r` and the second plus `k` is `x`. -/
theorem lands_row (idx : IVec S2 32) (k : Fin 64) (r : Fin 4) (x : Fin 128) :
    scatter_S4x128_S2_S64_0_0_01_0.resultIdx? (ix1 k) idx = some (ix2 r x)
      ↔ (idx (ix1 (0 : Fin 2))).toInt = r.val ∧ (idx (ix1 (1 : Fin 2))).toInt + (k.val : Int) = x.val := by
  have hwin0 : scatter_S4x128_S2_S64_0_0_01_0.window (ix1 k) 0 = 0 := rfl
  have hwin1 : scatter_S4x128_S2_S64_0_0_01_0.window (ix1 k) 1 = k.val := rfl
  refine (resultIdx?_ix2 scatter_S4x128_S2_S64_0_0_01_0 (ix1 k) idx r x).trans ?_
  have e0 : scatter_S4x128_S2_S64_0_0_01_0.start (ix1 k) idx 0 = (idx (ix1 (0 : Fin 2))).toInt := start_pair _ rfl rfl ..
  have e1 : scatter_S4x128_S2_S64_0_0_01_0.start (ix1 k) idx 1 = (idx (ix1 (1 : Fin 2))).toInt := start_pair _ rfl rfl ..
  rw [hwin0, hwin1, e0, e1]
  omega

/-- A row of 64 written at the start of row `a`, read at an index. -/
theorem scatter_row (x0 : S4x128.Idx → EReal) (idx : IVec S2 32) (upd : S64.Idx → EReal) (a : ℕ)
    (h0 : (idx (ix1 (0 : Fin 2))).toInt = a) (h1 : (idx (ix1 (1 : Fin 2))).toInt = 0) (r : Fin 4) (x : Fin 128) :
    Host.scatter scatter_S4x128_S2_S64_0_0_01_0 (fun _ b => b) x0 idx upd (ix2 r x)
      = if h : r.val = a ∧ x.val < 64 then upd (ix1 ⟨x.val, h.2⟩) else x0 (ix2 r x) := by
  have lands : ∀ k : S64.Idx, scatter_S4x128_S2_S64_0_0_01_0.resultIdx? k idx = some (ix2 r x) → a = r.val ∧ (k 0).val = x.val := fun k hk => by
    have q := (lands_row idx (k 0) r x).1 ((congrArg (fun t => scatter_S4x128_S2_S64_0_0_01_0.resultIdx? t idx) (eq_ix1 k).symm).trans hk)
    rw [h0, h1] at q
    omega
  by_cases h : r.val = a ∧ x.val < 64
  · rw [dif_pos h]
    refine scatter_set_hit _ x0 idx upd _ _ (fun k hk => ?_) (ix1 ⟨x.val, h.2⟩) ((lands_row idx _ r x).2 ⟨?_, ?_⟩)
    · rw [eq_ix1 k]
      exact congrArg (fun e : Fin 64 => upd (ix1 e)) (Fin.ext (lands k hk).2)
    · rw [h0, h.1]
    · rw [h1]; exact Int.zero_add _
  · rw [dif_neg h]
    refine scatter_set_miss _ x0 idx upd _ fun k hk => h ?_
    obtain ⟨q0, q1⟩ := lands k hk
    have hlt : (k 0).val < 64 := (k 0).isLt
    omega

set_option maxHeartbeats 4000000 in
/-- The lambda vectors, each in 64 lanes of a row of zeros. -/
theorem V_lam (c : Dev nD) (a : Fin 4) (x : Fin 128) :
    V m c main_v85 (ix2 a x) = if h : x.val < 64 then argL m c a (ix2 0 ⟨x.val, h⟩) else (0 : EReal) := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, List.flatten_cons, List.flatten_nil,
    List.cons_append, List.nil_append, List.append_nil]
  after_results_simp
  simp only [↓ StableHlo.readResult, ↓ StableHlo.readPieces, -eq_self]
  rw [scatter_row _ _ _ 3 rfl rfl, scatter_row _ _ _ 2 rfl rfl, scatter_row _ _ _ 1 rfl rfl, scatter_row _ _ _ 0 rfl rfl]
  have hup : ∀ (f : S1x64.Idx → EReal) (y : Fin 64), shapeCast S64 f shapeCasts_S1x64_S64 (ix1 y) = f (ix2 0 y) := fun f y => by
    pointwise []
  have hz : broadcastInDim S4x128 ![] bcast_S_S4x128 (constant (F := Ideal) S_ FTy.f32 0#32) (ix2 a x) = (0 : EReal) := by
    pointwise []
  have ha := a.isLt
  by_cases hx : x.val < 64
  · rw [dif_pos hx]
    match a, ha with
    | ⟨3, _⟩, _ => exact (dif_pos ⟨rfl, hx⟩).trans (hup _ _)
    | ⟨2, _⟩, _ => exact (dif_neg (show ¬ (2 = 3 ∧ x.val < 64) by omega)).trans ((dif_pos ⟨rfl, hx⟩).trans (hup _ _))
    | ⟨1, _⟩, _ => exact (dif_neg (show ¬ (1 = 3 ∧ x.val < 64) by omega)).trans ((dif_neg (show ¬ (1 = 2 ∧ x.val < 64) by omega)).trans
        ((dif_pos ⟨rfl, hx⟩).trans (hup _ _)))
    | ⟨0, _⟩, _ => exact (dif_neg (show ¬ (0 = 3 ∧ x.val < 64) by omega)).trans ((dif_neg (show ¬ (0 = 2 ∧ x.val < 64) by omega)).trans
        ((dif_neg (show ¬ (0 = 1 ∧ x.val < 64) by omega)).trans ((dif_pos ⟨rfl, hx⟩).trans (hup _ _))))
  · rw [dif_neg hx]
    rw [dif_neg (fun h => hx h.2), dif_neg (fun h => hx h.2), dif_neg (fun h => hx h.2), dif_neg (fun h => hx h.2)]
    exact hz

end Cert.DiffIdeal.Hand
end
-- ==== Proof.Diff.Norm.lean ====
/-
  What both sides of the differential attention end with: the difference of two weighted sums, and its normalization.
-/
module

public import proofs.«01_k».proof.Proof.Softmax.Online

@[expose] public section

noncomputable section

namespace Cert.Diff

open Idealize.ShloMosaic Cert.Softmax

/-- A row of 128 over the root of its mean square, times a gain, times the constant 0.8. -/
def normed (O : Fin 128 → EReal) (g : EReal) (d : Fin 128) : EReal :=
  O d * Ideal.rsqrt (Ideal.div (∑ x : Fin 128, O x * O x) (Ideal.ofBits .f32 0x43000000#32) + Ideal.ofBits .f32 0x358637BD#32) * g
    * Ideal.ofBits .f32 0x3F4CCCCD#32

/-- The softmax weight of key `k` against a maximum. -/
def weight (l : ℕ → EReal) (ν : EReal) (k : Fin 4096) : EReal :=
  Ideal.div (Ideal.exp (l k.val - ν)) (∑ j : Fin 4096, Ideal.exp (l j.val - ν))

/-- Of logits not infinite upwards, one of them real, a weight is a real. -/
theorem weight_real {l : ℕ → EReal} (hl : ∀ s, l s ≠ ⊤) (ν : ℝ) {s₀ : ℕ} (hs : s₀ < 4096) (h₀ : l s₀ ≠ ⊥) (k : Fin 4096) :
    ∃ w : ℝ, weight l ν k = (w : EReal) := by
  have e1 : (∑ j : Fin 4096, Ideal.exp (l j.val - (ν : EReal))) = (tot l ν 4096 : EReal) := by
    rw [← acc_one hl, acc, Finset.sum_range]
    exact Finset.sum_congr rfl fun s _ => (mul_one _).symm
  have p := tot_pos hl ν hs h₀
  unfold weight
  rw [e1, Ideal.div_coe p.ne']
  change ∃ w : ℝ, wt (l k.val) ν * _ = _
  rw [wt_eq (hl _), ← EReal.coe_mul]
  exact ⟨_, rfl⟩

/-- Of real weights and values, the difference of the sums is the sum against the difference. -/
theorem diff_sum {p q v : Fin 4096 → EReal} {L : EReal} (hp : ∀ k, ∃ w : ℝ, p k = (w : EReal)) (hq : ∀ k, ∃ w : ℝ, q k = (w : EReal))
    (hv : ∀ k, ∃ w : ℝ, v k = (w : EReal)) (hL : ∃ w : ℝ, L = (w : EReal)) :
    (∑ k, p k * v k) - L * ∑ k, q k * v k = ∑ k, (p k - L * q k) * v k := by
  choose p' hp using hp
  choose q' hq using hq
  choose v' hv using hv
  obtain ⟨L', rfl⟩ := hL
  simp only [hp, hq, hv]
  simp only [← EReal.coe_mul, ← coe_sum, ← EReal.coe_sub]
  congr 1
  rw [Finset.mul_sum, ← Finset.sum_sub_distrib]
  exact Finset.sum_congr rfl fun k _ => by ring

/-- Logits that a softmax is defined of: none is plus infinity, and not all are minus infinity. -/
def Good (l : ℕ → EReal) : Prop := (∀ s, l s ≠ ⊤) ∧ ∃ s, l s ≠ ⊥

/-- The largest logit. -/
def best (l : ℕ → EReal) : EReal := Finset.univ.fold max ⊥ fun s : Fin 4096 => l s.val

theorem good_lt {l : ℕ → EReal} (hz : ∀ s, 4096 ≤ s → l s = ⊥) (h : Good l) : ∃ s, s < 4096 ∧ l s ≠ ⊥ := by
  obtain ⟨s, hs⟩ := h.2
  exact ⟨s, by by_contra hc; exact hs (hz s (by omega)), hs⟩

theorem best_good {l : ℕ → EReal} (hz : ∀ s, 4096 ≤ s → l s = ⊥) (h : Good l) : ∃ ν : ℝ, best l = (ν : EReal) := by
  obtain ⟨s, hs, h0⟩ := good_lt hz h
  exact max_real' _ (fun k => h.1 k.val) (⟨s, hs⟩ : Fin 4096) h0

theorem exp_sub_top (x : EReal) : Ideal.exp (x - ⊤) = 0 := by
  rw [sub_eq_add_neg, EReal.neg_top, EReal.add_bot]; rfl

theorem zero_div_zero : Ideal.div 0 0 = ⊥ := by
  unfold Ideal.div
  rw [if_pos rfl, if_neg (lt_irrefl _)]

/-- Of other logits every weight is the quotient of zero by zero. -/
theorem weight_bad {l : ℕ → EReal} (hz : ∀ s, 4096 ≤ s → l s = ⊥) (h : ¬ Good l) (k : Fin 4096) : weight l (best l) k = ⊥ := by
  have h0 : ∀ j : Fin 4096, Ideal.exp (l j.val - best l) = 0 := by
    by_cases ht : ∃ s, l s = ⊤
    · obtain ⟨s, hs⟩ := ht
      have hs4 : s < 4096 := by
        by_contra hc
        rw [hz s (by omega)] at hs
        exact bot_ne_top hs
      have e : best l = ⊤ := top_le_iff.1 ((Finset.le_fold_max _).2 (Or.inr ⟨(⟨s, hs4⟩ : Fin 4096), Finset.mem_univ _, hs.ge⟩))
      intro j
      rw [e, exp_sub_top]
    · intro j
      have hb : l j.val = ⊥ := by
        by_contra hc
        exact h ⟨fun s hs => ht ⟨s, hs⟩, j.val, hc⟩
      rw [hb, EReal.bot_sub]; rfl
  unfold weight
  simp only [h0, Finset.sum_const_zero, zero_div_zero]

/-- What a half of the kernel leaves of a row: the weighted sums, or the quotients of zero by zero. -/
def Half (l : ℕ → EReal) (v : ℕ → ℕ → EReal) (y : Fin 128 → EReal) : Prop :=
  (Good l → ∀ (ν : ℝ) x, y x = ∑ k : Fin 4096, weight l ν k * v k.val x.val) ∧ (¬ Good l → ∀ x, y x = ⊥)

/-- A row with an infinite entry is normalized to zero, and so is the zero row. -/
theorem normed_zero {O : Fin 128 → EReal} (h : (∃ x, O x = ⊤ ∨ O x = ⊥) ∨ ∀ x, O x = 0) (g : EReal) (d : Fin 128) : normed O g d = 0 := by
  rcases h with ⟨x, hx⟩ | h
  · have h1 : O x * O x = ⊤ := by rcases hx with h | h <;> rw [h] <;> rfl
    have h2 : (∑ x : Fin 128, O x * O x) = ⊤ := top_le_iff.1 (h1 ▸ Finset.single_le_sum (f := fun x => O x * O x) (fun i _ => by
      induction hO : O i with
      | bot => exact (show (⊥ : EReal) * ⊥ = ⊤ from rfl) ▸ le_top
      | coe r => rw [← EReal.coe_mul]; exact_mod_cast mul_self_nonneg r
      | top => exact (show (⊤ : EReal) * ⊤ = ⊤ from rfl) ▸ le_top) (Finset.mem_univ x))
    have e1 : ∃ κ : ℝ, 0 < κ ∧ Ideal.ofBits .f32 0x43000000#32 = (κ : EReal) := ⟨128, by norm_num, by simp [Ideal.ofBits, Ideal.ieee]; norm_cast; norm_num⟩
    have e2 : ∃ κ : ℝ, Ideal.ofBits .f32 0x358637BD#32 = (κ : EReal) := ⟨_, by simp [Ideal.ofBits, Ideal.ieee]; norm_cast⟩
    obtain ⟨κ, hκ, e1⟩ := e1
    obtain ⟨ε, e2⟩ := e2
    unfold normed
    rw [h2, e1, e2, Ideal.div_coe hκ.ne', EReal.top_mul_coe_of_pos (one_div_pos.2 hκ), EReal.top_add_coe]
    have e3 : Ideal.rsqrt ⊤ = 0 := rfl
    rw [e3, mul_zero, zero_mul, zero_mul]
  · unfold normed
    rw [h d, zero_mul, zero_mul, zero_mul]

/-- A sum with an infinite term is infinite. -/
theorem sum_infinite {ι : Type} (t : Finset ι) (f : ι → EReal) (i : ι) (hi : i ∈ t) (h : f i = ⊤ ∨ f i = ⊥) : (∑ j ∈ t, f j) = ⊤ ∨ (∑ j ∈ t, f j) = ⊥ := by
  classical
  rw [← Finset.add_sum_erase t f hi]
  generalize (∑ j ∈ t.erase i, f j) = S
  rcases h with h | h <;> rw [h]
  · induction S with
    | bot => exact Or.inr rfl
    | coe r => exact Or.inl (EReal.top_add_coe r)
    | top => exact Or.inl rfl
  · exact Or.inr (EReal.bot_add S)

/-- Real values weighed by infinities of any signs are normalized to zero. -/
theorem normed_infinite {c : Fin 4096 → EReal} (hc : ∀ k, c k = ⊤ ∨ c k = ⊥) {v : Fin 4096 → Fin 128 → EReal} (hv : ∀ k x, ∃ r : ℝ, v k x = (r : EReal))
    (g : EReal) (d : Fin 128) : normed (fun x => ∑ k, c k * v k x) g d = 0 := by
  refine normed_zero ?_ g d
  by_cases h : ∀ k x, v k x = 0
  · exact Or.inr fun x => Finset.sum_eq_zero fun k _ => by rw [h, mul_zero]
  · push Not at h
    obtain ⟨k, x, h⟩ := h
    refine Or.inl ⟨x, sum_infinite _ _ k (Finset.mem_univ k) ?_⟩
    obtain ⟨r, hr⟩ := hv k x
    rw [hr] at h ⊢
    have hr0 : r ≠ 0 := fun e => h (by rw [e]; rfl)
    rcases lt_or_gt_of_ne hr0 with hn | hp <;> rcases hc k with e | e <;> rw [e]
    · exact Or.inr (EReal.top_mul_coe_of_neg hn)
    · exact Or.inl (EReal.bot_mul_coe_of_neg hn)
    · exact Or.inl (EReal.top_mul_coe_of_pos hp)
    · exact Or.inr (EReal.bot_mul_coe_of_pos hp)

/-- Of real values and a real lambda the normalized difference of the halves is the normalized sum against the difference
    of the weights, at any logits. -/
theorem normed_eq {l l' : ℕ → EReal} (hz : ∀ s, 4096 ≤ s → l s = ⊥) (hz' : ∀ s, 4096 ≤ s → l' s = ⊥) {v : ℕ → ℕ → EReal}
    (hv : ∀ (k : Fin 4096) (x : Fin 128), ∃ r : ℝ, v k.val x.val = (r : EReal)) {L : EReal} (hL : ∃ r : ℝ, L = (r : EReal))
    {y y' : Fin 128 → EReal} (hy : Half l v y) (hy' : Half l' v y') (g : EReal) (d : Fin 128) :
    normed (fun x => y x - L * y' x) g d
      = normed (fun x => ∑ k : Fin 4096, (weight l (best l) k - L * weight l' (best l') k) * v k.val x.val) g d := by
  by_cases h : Good l
  · obtain ⟨ν, hν⟩ := best_good hz h
    obtain ⟨s, hs, h0⟩ := good_lt hz h
    have hw := weight_real h.1 ν hs h0
    rw [hν]
    by_cases h' : Good l'
    · obtain ⟨ν', hν'⟩ := best_good hz' h'
      obtain ⟨s', hs', h0'⟩ := good_lt hz' h'
      rw [hν']
      refine congrArg (fun O => normed O g d) (funext fun x => ?_)
      rw [hy.1 h ν x, hy'.1 h' ν' x]
      exact diff_sum hw (weight_real h'.1 ν' hs' h0') (fun k => hv k x) hL
    · simp only [weight_bad hz' h', hy'.2 h']
      by_cases hL0 : L = 0
      · refine congrArg (fun O => normed O g d) (funext fun x => ?_)
        simp only [hL0, zero_mul, sub_zero]
        exact hy.1 h ν x
      · obtain ⟨r, rfl⟩ := hL
        have hr : r ≠ 0 := fun e => hL0 (by rw [e]; rfl)
        have hi : ∀ w : ℝ, (w : EReal) - (r : EReal) * ⊥ = ⊤ ∨ (w : EReal) - (r : EReal) * ⊥ = ⊥ := fun w => by
          rcases lt_or_gt_of_ne hr with hn | hp
          · rw [EReal.coe_mul_bot_of_neg hn]; exact Or.inr (EReal.sub_top (w : EReal))
          · rw [EReal.coe_mul_bot_of_pos hp]; exact Or.inl (EReal.coe_sub_bot w)
        rw [normed_infinite (fun k => by obtain ⟨w, hw⟩ := hw k; rw [hw]; exact hi w) hv]
        refine normed_zero (Or.inl ⟨0, ?_⟩) g d
        have hy0 : ∃ w : ℝ, y 0 = (w : EReal) := by
          rw [hy.1 h ν 0]
          choose p hp using hw
          choose q hq using hv
          simp only [hp, hq, ← EReal.coe_mul, ← coe_sum]
          exact ⟨_, rfl⟩
        obtain ⟨w, e⟩ := hy0
        rw [e]; exact hi w
  · simp only [weight_bad hz h, hy.2 h, EReal.bot_sub]
    rw [normed_infinite (fun _ => Or.inr rfl) hv]
    exact normed_zero (Or.inl ⟨0, Or.inr rfl⟩) g d

end Cert.Diff
end
-- ==== Proof.Diff.Row.lean ====
/-
  The differential attention's block at the ideal, one query row at a time. The scores of a row against a key are two
  sums of products, over the half's lanes and over the position lanes (`BL`); when they are a row of logits of which none
  is infinite upwards, the carry after `n` blocks is a real maximum with the accumulator against it (`accN_inv`), the
  diagonal block adds its correction (`fixT_read`), and the stored lane is the normalized difference of the two halves'
  quotients (`outBlk_read`).
-/
module

public import proofs.«01_k».proof.Proof.Diff.Steps
public import proofs.«01_k».proof.Proof.Diff.Host
public import proofs.«01_k».proof.Proof.Diff.Norm
public import Idealize.ShloMosaic.Lib.Pointwise

@[expose] public section

set_option maxRecDepth 16384

noncomputable section

namespace Cert.DiffIdeal.Hand

open Cert.DiffIdeal Cert.DiffIdeal.Gen Cert.Softmax Cert.Diff
open Idealize.ShloMosaic Idealize.ShloMosaic.TcCoe

/-- The score of query row `r` of half `e` against key `s`, before the diagonal's correction. -/
def BL (x3 x4 : Vec Ideal S1x512x128 .bf16) (x5 : Vec Ideal S1x128x4096 .bf16) (x6 : Vec Ideal S128x4096 .bf16) (e : ℕ) (r : Fin 512) (s : Fin 4096) : EReal :=
  (∑ x : Fin 128, (if x.val / 64 = e then (x3 (ix3 0 r x) : EReal) else 0) * x5 (ix3 0 x s))
    + ∑ x : Fin 128, (x4 (ix3 0 r x) : EReal) * x6 (ix2 x s)

theorem half0 : ∀ x : Fin 128, IntOp.cmpi CmpIPredicate.slt (BitVec.ofNat 32 x.val) 64#32 = if x.val / 64 = 0 then 1#1 else 0#1 := by decide +kernel
theorem half1 : ∀ x : Fin 128, IntOp.cmpi CmpIPredicate.sge (BitVec.ofNat 32 x.val) 64#32 = if x.val / 64 = 1 then 1#1 else 0#1 := by decide +kernel

theorem ldK_read (x : Vec Ideal S1x128x4096 .bf16) (j : ℕ) (a : Fin 128) (c : Fin 512) :
    ldK x j (ix3 0 a c) = x (ix3 0 a ⟨(512 * j + c.val) % 4096, Nat.mod_lt _ (by decide)⟩) := by
  refine congrArg x (funext fun d => ?_)
  match d with
  | ⟨0, _⟩ => rfl
  | ⟨1, _⟩ => rfl
  | ⟨2, _⟩ => rfl

theorem ldP_read (x : Vec Ideal S128x4096 .bf16) (j : ℕ) (a : Fin 128) (c : Fin 512) :
    ldP x j (ix2 a c) = x (ix2 a ⟨(512 * j + c.val) % 4096, Nat.mod_lt _ (by decide)⟩) := by
  refine congrArg x (funext fun d => ?_)
  match d with
  | ⟨0, _⟩ => rfl
  | ⟨1, _⟩ => rfl

theorem scores0_read (x3 x4 : Vec Ideal S1x512x128 .bf16) (x5 : Vec Ideal S1x128x4096 .bf16) (x6 : Vec Ideal S128x4096 .bf16) (j : ℕ) (r c : Fin 512) :
    scores0 (k0_pay46 x3 x4) (ldK x5 j) (ldP x6 j) (ix2 r c)
      = BL x3 x4 x5 x6 0 r ⟨(512 * j + c.val) % 4096, Nat.mod_lt _ (by decide)⟩ := by
  pointwise [scores0, scores]
  rw [BL]
  refine congrArg₂ (· + ·) (Finset.sum_congr rfl fun x _ => congrArg₂ (· * ·) ?_ ?_)
    (Finset.sum_congr rfl fun x _ => congrArg₂ (· * ·) ?_ ?_)
  · pointwise [k0_pay46]
    exact sel_ite (half0 x) _ _
  · exact ldK_read x5 j x c
  · pointwise [k0_pay46]
  · exact ldP_read x6 j x c

theorem scores1_read (x3 x4 : Vec Ideal S1x512x128 .bf16) (x5 : Vec Ideal S1x128x4096 .bf16) (x6 : Vec Ideal S128x4096 .bf16) (j : ℕ) (r c : Fin 512) :
    scores1 (k0_pay46 x3 x4) (ldK x5 j) (ldP x6 j) (ix2 r c)
      = BL x3 x4 x5 x6 1 r ⟨(512 * j + c.val) % 4096, Nat.mod_lt _ (by decide)⟩ := by
  pointwise [scores1, scores]
  rw [BL]
  refine congrArg₂ (· + ·) (Finset.sum_congr rfl fun x _ => congrArg₂ (· * ·) ?_ ?_)
    (Finset.sum_congr rfl fun x _ => congrArg₂ (· * ·) ?_ ?_)
  · pointwise [k0_pay46]
    exact sel_ite (half1 x) _ _
  · exact ldK_read x5 j x c
  · pointwise [k0_pay46]
  · exact ldP_read x6 j x c

theorem negInf : Ideal.ofBits FTy.f32 4286578688#32 = ⊥ := by
  simp [Ideal.ofBits, Ideal.ieee]

theorem minusTwo : Ideal.ofBits FTy.f32 3221225472#32 = ((-2 : ℝ) : EReal) := by
  simp [Ideal.ofBits, Ideal.ieee]
  norm_cast
  norm_num

theorem toInt_small (n : ℕ) (h : n < 4096) : (BitVec.ofNat 32 n).toInt = n := by
  rw [BitVec.toInt_eq_toNat_of_lt (by rw [BitVec.toNat_ofNat]; omega), BitVec.toNat_ofNat]
  exact congrArg Nat.cast (Nat.mod_eq_of_lt (by omega))

/-- A signed comparison of two small numbers. -/
theorem le_word (a b : ℕ) (ha : a < 4096) (hb : b < 4096) :
    IntOp.cmpi CmpIPredicate.sle (BitVec.ofNat 32 a) (BitVec.ofNat 32 b) = if a ≤ b then 1#1 else 0#1 := by
  by_cases h : a ≤ b
  · simp [IntOp.cmpi, BitVec.sle, toInt_small a ha, toInt_small b hb, h]
  · simp [IntOp.cmpi, BitVec.sle, toInt_small a ha, toInt_small b hb, h]

/-- The difference of two small numbers, cut at zero. -/
theorem sub_word (a b : ℕ) (ha : a < 4096) (hb : b < 4096) :
    IntOp.maxsi (IntOp.subi (BitVec.ofNat 32 a) (BitVec.ofNat 32 b)) 0#32 = BitVec.ofNat 32 (a - b) := by
  have e : (BitVec.ofNat 32 a - BitVec.ofNat 32 b).toInt = (a : ℤ) - b := by
    rw [BitVec.toInt_sub, toInt_small a ha, toInt_small b hb, Int.bmod_def]
    omega
  apply BitVec.eq_of_toInt_eq
  rw [toInt_small (a - b) (by omega)]
  unfold IntOp.maxsi IntOp.subi
  simp only [BitVec.slt, BitVec.sle, e, BitVec.toInt_zero]
  split <;> simp_all <;> omega

/-- The chunk of a column and of a row, as the kernel divides. -/
theorem col_word (r c : Fin 512) : k0_pay38 (ix2 r c) = BitVec.ofNat 32 (c.val / 64) := by
  pointwise [k0_pay38]
  clear r
  revert c
  decide +kernel

theorem row_word : ∀ r : Fin 512, (Scalar.select
          (IntOp.andi
            (IntOp.cmpi CmpIPredicate.ne
              (IntOp.subi (BitVec.setWidth 32 (IntOp.cmpi CmpIPredicate.sgt (BitVec.ofNat 32 r.val) 0#32))
                (BitVec.setWidth 32 (IntOp.cmpi CmpIPredicate.slt (BitVec.ofNat 32 r.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 r.val) 64#32) 0#32))
          (IntOp.subi (IntOp.divsi ArithUnit.vector (BitVec.ofNat 32 r.val) 64#32) 1#32)
          (IntOp.divsi ArithUnit.vector (BitVec.ofNat 32 r.val) 64#32)) = BitVec.ofNat 32 (r.val / 64) := by decide +kernel

/-- What the diagonal block adds at row `r` and column `c`, of a slope `σ`. -/
def fixV (σ : ℝ) (r c : ℕ) : EReal := if c / 64 ≤ r / 64 then ((-2 * σ * ((c - r : ℕ) : ℝ) : ℝ) : EReal) else ⊥

theorem fixT_read (x8 : Vec Ideal S1x8x128 .f32) (σ : ℝ) (h : x8 (ix3 0 0 0) = (σ : EReal)) (r c : Fin 512) :
    fixT (F := Ideal) (ldS x8) (ix2 r c) = fixV σ r.val c.val := by
  have hl : ldS x8 (ix3 0 0 0) = (σ : EReal) := h ▸ congrArg x8 (funext fun d => match d with
    | ⟨0, _⟩ => rfl
    | ⟨1, _⟩ => rfl
    | ⟨2, _⟩ => rfl)
  pointwise [fixT, k0_pay41, k0_pay39, k0_pay40]
  rw [row_word r, col_word, sel_ite (le_word _ _ (by omega) (by omega)), sub_word _ _ (by omega) (by omega), word_nat _ (by omega), hl,
    minusTwo, negInf]
  unfold fixV
  split_ifs
  · rw [EReal.coe_mul, EReal.coe_mul]
  · rfl

theorem ldV_read (x : Vec Ideal S1x4096x128 .bf16) (n : ℕ) (c : Fin 512) (d : Fin 128) (h : 512 * n + c.val < 4096) :
    ldV x n (ix3 0 c d) = x (ix3 0 ⟨512 * n + c.val, h⟩ d) := by
  have e := Nat.mod_eq_of_lt h
  refine congrArg x (funext fun a => ?_)
  match a with
  | ⟨0, _⟩ => rfl
  | ⟨1, _⟩ => exact Fin.ext e
  | ⟨2, _⟩ => rfl

/-- A lane of the values, or one. -/
def lane (v : ℕ → ℕ → EReal) (s : ℕ) (d : Fin 256) : EReal := if d.val < 128 then v s d.val else 1

theorem vOnes_read (x : Vec Ideal S1x4096x128 .bf16) (v : ℕ → ℕ → EReal) (h7 : ∀ (s : Fin 4096) (d : Fin 128), x (ix3 0 s d) = v s.val d.val)
    (n : ℕ) (c : Fin 512) (d : Fin 256) (h : 512 * n + c.val < 4096) : vOnes (ldV x n) (ix2 c d) = lane v (512 * n + c.val) d := by
  pointwise [vOnes]
  unfold lane
  by_cases hd : d.val < 128
  · rw [dif_pos hd, if_pos hd, ldV_read _ _ _ _ h, h7]
  · rw [dif_neg hd, if_neg hd]
    pointwise [k0_pay47]

/-- One half's carry at a query row: if no logit is plus infinity it holds the running softmax over the first `n` keys; once
    one of them was, the maximum is plus infinity and the accumulator is zero. -/
def Inv (l : ℕ → EReal) (v : ℕ → ℕ → EReal) (n : ℕ) (m : FVec Ideal S512x1 .f32) (a : FVec Ideal S512x256 .f32) (r : Fin 512) : Prop :=
  ((∀ s, l s ≠ ⊤) → ∃ μ : ℝ, m (ix2 r 0) = (μ : EReal) ∧ ∀ d : Fin 256, a (ix2 r d) = acc l (fun s => lane v s d) μ n)
    ∧ ((∃ s, s < n ∧ l s = ⊤) → m (ix2 r 0) = (⊤ : EReal) ∧ ∀ d : Fin 256, a (ix2 r d) = (0 : EReal))

theorem newM_read (s : FVec Ideal S512x512 .f32) (m : FVec Ideal S512x1 .f32) (r : Fin 512) :
    newM s m (ix2 r 0) = max (m (ix2 r 0)) (Finset.univ.fold max (⊥ : EReal) fun c : Fin 512 => (s (ix2 r c) : EReal)) := by
  pointwise [newM]
  rw [negInf]

/-- A block of 512 keys, whose scores at this row are the logits `l (n + c)`, moves the invariant by 512. -/
theorem inv_block {l : ℕ → EReal} {v : ℕ → ℕ → EReal} {n : ℕ} {m : FVec Ideal S512x1 .f32} {a : FVec Ideal S512x256 .f32} {r : Fin 512}
    (h : Inv l v n m a r) (s : FVec Ideal S512x512 .f32) (w : Vec Ideal S1x512x128 .bf16)
    (hs : ∀ c : Fin 512, s (ix2 r c) = l (n + c.val)) (hw : ∀ (c : Fin 512) (d : Fin 256), vOnes w (ix2 c d) = lane v (n + c.val) d) :
    Inv l v (n + 512) (newM s m) (newA s m a w) r := by
  refine ⟨fun hl => ?_, fun ht => ?_⟩
  · obtain ⟨μ, hm, ha⟩ := h.1 hl
    obtain ⟨ν, hν⟩ := max_real μ (fun c : Fin 512 => (s (ix2 r c) : EReal)) (fun c => by rw [hs]; exact hl _)
    have hν : newM s m (ix2 r 0) = (ν : EReal) := by rw [newM_read, hm]; exact hν
    refine ⟨ν, hν, fun d => ?_⟩
    rw [← fold_block hl μ ν n 512, ← ha d]
    pointwise [newA]
    rw [hν, hm]
    refine congrArg₂ (· + ·) rfl (Finset.sum_congr rfl fun c _ => ?_)
    rw [hs, hw]
  · have hm : newM s m (ix2 r 0) = (⊤ : EReal) := by
      obtain ⟨k, hk, hk'⟩ := ht
      rw [newM_read]
      refine top_le_iff.1 (le_max_iff.2 ?_)
      by_cases hkn : k < n
      · exact Or.inl (h.2 ⟨k, hkn, hk'⟩).1.ge
      · have e : n + (k - n) = k := by omega
        exact Or.inr ((Finset.le_fold_max _).2 (Or.inr ⟨(⟨k - n, by omega⟩ : Fin 512), Finset.mem_univ _, by rw [hs, e, hk']⟩))
    refine ⟨hm, fun d => ?_⟩
    pointwise [newA]
    rw [hm]
    simp only [Cert.Diff.exp_sub_top, zero_mul, Finset.sum_const_zero, add_zero]

theorem start_real : ∃ ν : ℝ, Ideal.ofBits FTy.f32 0xF149F2CA#32 = (ν : EReal) :=
  ⟨_, by simp [Ideal.ofBits, Ideal.ieee]; norm_cast⟩

theorem inv_start0 {l : ℕ → EReal} {v : ℕ → ℕ → EReal} (r : Fin 512) : Inv l v 0 (k0_pay48 (F := Ideal)) (k0_pay49 (F := Ideal)) r := by
  obtain ⟨ν, hν⟩ := start_real
  refine ⟨fun _ => ⟨ν, hν, fun d => ?_⟩, fun ⟨s, hs, _⟩ => absurd hs (Nat.not_lt_zero s)⟩
  pointwise [k0_pay49]
  simp [acc]

theorem inv_start1 {l : ℕ → EReal} {v : ℕ → ℕ → EReal} (r : Fin 512) : Inv l v 0 (k0_pay50 (F := Ideal)) (k0_pay51 (F := Ideal)) r := by
  obtain ⟨ν, hν⟩ := start_real
  refine ⟨fun _ => ⟨ν, hν, fun d => ?_⟩, fun ⟨s, hs, _⟩ => absurd hs (Nat.not_lt_zero s)⟩
  pointwise [k0_pay51]
  simp [acc]

theorem accN_inv (x3 x4 : Vec Ideal S1x512x128 .bf16) (x5 : Vec Ideal S1x128x4096 .bf16) (x6 : Vec Ideal S128x4096 .bf16) (x7 : Vec Ideal S1x4096x128 .bf16)
    (l : ℕ → ℕ → EReal) (v : ℕ → ℕ → EReal) (r : Fin 512) (N : ℕ) (hN : N ≤ 8)
    (hs : ∀ e < 2, ∀ s : Fin 4096, s.val < 512 * N → BL x3 x4 x5 x6 e r s = l e s.val)
    (h7 : ∀ (s : Fin 4096) (d : Fin 128), x7 (ix3 0 s d) = v s.val d.val) :
    ∀ n ≤ N, Inv (l 0) v (512 * n) (accN (k0_pay46 x3 x4) x5 x6 x7 n).1 (accN (k0_pay46 x3 x4) x5 x6 x7 n).2.1 r
      ∧ Inv (l 1) v (512 * n) (accN (k0_pay46 x3 x4) x5 x6 x7 n).2.2.1 (accN (k0_pay46 x3 x4) x5 x6 x7 n).2.2.2 r := by
  intro n
  induction n with
  | zero => exact fun _ => ⟨inv_start0 r, inv_start1 r⟩
  | succ n ih =>
    intro hn
    obtain ⟨h0, h1⟩ := ih (by omega)
    have hb : ∀ c : Fin 512, (512 * n + c.val) % 4096 = 512 * n + c.val := fun c => Nat.mod_eq_of_lt (by omega)
    refine ⟨inv_block h0 _ _ (fun c => ?_) (fun c d => vOnes_read x7 v h7 n c d (by omega)),
      inv_block h1 _ _ (fun c => ?_) (fun c d => vOnes_read x7 v h7 n c d (by omega))⟩
    · rw [scores0_read, hs 0 (by omega) _ (by simp only [hb]; omega)]; simp only [hb]
    · rw [scores1_read, hs 1 (by omega) _ (by simp only [hb]; omega)]; simp only [hb]

/-- What the invariant says of the accumulator alone. -/
def Held (l : ℕ → EReal) (v : ℕ → ℕ → EReal) (n : ℕ) (a : FVec Ideal S512x256 .f32) (r : Fin 512) : Prop :=
  ((∀ s, l s ≠ ⊤) → ∃ μ : ℝ, ∀ d : Fin 256, a (ix2 r d) = acc l (fun s => lane v s d) μ n)
    ∧ ((∃ s, s < n ∧ l s = ⊤) → ∀ d : Fin 256, a (ix2 r d) = (0 : EReal))

theorem held {l : ℕ → EReal} {v : ℕ → ℕ → EReal} {n : ℕ} {m : FVec Ideal S512x1 .f32} {a : FVec Ideal S512x256 .f32} {r : Fin 512}
    (h : Inv l v n m a r) : Held l v n a r :=
  ⟨fun hl => let ⟨μ, hμ⟩ := h.1 hl; ⟨μ, hμ.2⟩, fun ht => (h.2 ht).2⟩

/-- The quotient of the two groups of an accumulator's lanes is what a half leaves of the row. -/
theorem held_half {l : ℕ → EReal} {v : ℕ → ℕ → EReal} {n : ℕ} {a : FVec Ideal S512x256 .f32} {r : Fin 512} (h : Held l v n a r)
    (hn : n ≤ 4096) (hb : ∀ s, n ≤ s → l s = ⊥) :
    Half l v fun x => Ideal.div (a (ix2 r (⟨x.val, by omega⟩ : Fin 256))) (a (ix2 r (⟨128 + x.val, by omega⟩ : Fin 256))) := by
  refine ⟨fun hg ν x => ?_, fun hg x => ?_⟩
  · obtain ⟨μ, ha⟩ := h.1 hg.1
    obtain ⟨s₀, h₀⟩ := hg.2
    have hs : s₀ < n := by
      by_contra hc
      exact h₀ (hb s₀ (by omega))
    dsimp only
    rw [ha, ha]
    unfold lane
    simp only [if_pos x.isLt, if_neg (show ¬ 128 + x.val < 128 by omega)]
    exact quotient hg.1 μ ν (T := 4096) hn (fun s hs' _ => hb s hs') hs h₀
  · have h0 : ∀ d : Fin 256, a (ix2 r d) = (0 : EReal) := by
      by_cases ht : ∃ s, l s = ⊤
      · obtain ⟨s, hs⟩ := ht
        refine h.2 ⟨s, ?_, hs⟩
        by_contra hc
        rw [hb s (by omega)] at hs
        exact bot_ne_top hs
      · have hl : ∀ s, l s ≠ ⊤ := fun s hs => ht ⟨s, hs⟩
        obtain ⟨μ, ha⟩ := h.1 hl
        intro d
        rw [ha, acc]
        refine Finset.sum_eq_zero fun s _ => ?_
        have hbot : l s = ⊥ := by
          by_contra hc
          exact hg ⟨hl, s, hc⟩
        rw [hbot, wt_bot, zero_mul]
    dsimp only
    rw [h0, h0, zero_div_zero]

/-- After the diagonal block both accumulators hold the row's softmax over the first `512 (n + 1)` keys. -/
theorem stepC_acc (x3 x4 : Vec Ideal S1x512x128 .bf16) (x5 : Vec Ideal S1x128x4096 .bf16) (x6 : Vec Ideal S128x4096 .bf16) (x7 : Vec Ideal S1x4096x128 .bf16)
    (x8 : Vec Ideal S1x8x128 .f32) (σ : ℝ) (h8 : x8 (ix3 0 0 0) = (σ : EReal))
    (l : ℕ → ℕ → EReal) (v : ℕ → ℕ → EReal) (r : Fin 512) (n : ℕ) (hn : n < 8)
    (hs : ∀ e < 2, ∀ s : Fin 4096, s.val < 512 * n → BL x3 x4 x5 x6 e r s = l e s.val)
    (hd : ∀ e < 2, ∀ (s : Fin 4096) (c : Fin 512), s.val = 512 * n + c.val → BL x3 x4 x5 x6 e r s + fixV σ r.val c.val = l e s.val)
    (h7 : ∀ (s : Fin 4096) (d : Fin 128), x7 (ix3 0 s d) = v s.val d.val) :
    Held (l 0) v (512 * n + 512) (stepC (k0_pay46 x3 x4) (ldK x5 n) (ldP x6 n) (ldV x7 n) (ldS x8) (accN (k0_pay46 x3 x4) x5 x6 x7 n)).1 r
    ∧ Held (l 1) v (512 * n + 512) (stepC (k0_pay46 x3 x4) (ldK x5 n) (ldP x6 n) (ldV x7 n) (ldS x8) (accN (k0_pay46 x3 x4) x5 x6 x7 n)).2 r := by
  obtain ⟨h0, h1⟩ := accN_inv x3 x4 x5 x6 x7 l v r n (by omega) (fun e he s h => hs e he s (by omega)) h7 n le_rfl
  have hm : ∀ c : Fin 512, (512 * n + c.val) % 4096 = 512 * n + c.val := fun c => Nat.mod_eq_of_lt (by omega)
  have k0 := inv_block h0 (addf (scores0 (k0_pay46 x3 x4) (ldK x5 n) (ldP x6 n)) (fixT (ldS x8))) (ldV x7 n) (fun c => by
      refine Eq.trans (congrArg₂ (· + ·) (scores0_read x3 x4 x5 x6 n r c) (fixT_read x8 σ h8 r c)) ?_
      exact (hd 0 (by omega) _ c (hm c)).trans (congrArg (l 0) (hm c)))
    (fun c d => vOnes_read x7 v h7 n c d (by omega))
  have k1 := inv_block h1 (addf (scores1 (k0_pay46 x3 x4) (ldK x5 n) (ldP x6 n)) (fixT (ldS x8))) (ldV x7 n) (fun c => by
      refine Eq.trans (congrArg₂ (· + ·) (scores1_read x3 x4 x5 x6 n r c) (fixT_read x8 σ h8 r c)) ?_
      exact (hd 1 (by omega) _ c (hm c)).trans (congrArg (l 1) (hm c)))
    (fun c d => vOnes_read x7 v h7 n c d (by omega))
  exact ⟨held k0, held k1⟩

/-- The kernel's lambda. -/
def lamK (x9 : Vec Ideal S4x128 .f32) : EReal :=
  Ideal.exp (∑ x : Fin 128, x9 (ix2 0 x) * x9 (ix2 1 x)) - Ideal.exp (∑ x : Fin 128, x9 (ix2 2 x) * x9 (ix2 3 x)) + Ideal.ofBits .f32 0x3E4CCCCD#32

/-- THE STORED LANE: lane `d` of a row is the normalized difference of what the halves leave of it. -/
theorem outBlk_read (i : grid0.Coords) (x3 x4 : Vec Ideal S1x512x128 .bf16) (x5 : Vec Ideal S1x128x4096 .bf16) (x6 : Vec Ideal S128x4096 .bf16) (x7 : Vec Ideal S1x4096x128 .bf16)
    (x8 : Vec Ideal S1x8x128 .f32) (x9 : Vec Ideal S4x128 .f32) (x10 : Vec Ideal S1x128 .f32) (σ : ℝ) (h8 : x8 (ix3 0 0 0) = (σ : EReal))
    (l : ℕ → ℕ → EReal) (v : ℕ → ℕ → EReal) (r : Fin 512)
    (hs : ∀ e < 2, ∀ s : Fin 4096, s.val < 512 * (i 2).val → BL x3 x4 x5 x6 e r s = l e s.val)
    (hd : ∀ e < 2, ∀ (s : Fin 4096) (c : Fin 512), s.val = 512 * (i 2).val + c.val → BL x3 x4 x5 x6 e r s + fixV σ r.val c.val = l e s.val)
    (hb : ∀ e s, 512 * (i 2).val + 512 ≤ s → l e s = ⊥)
    (h7 : ∀ (s : Fin 4096) (d : Fin 128), x7 (ix3 0 s d) = v s.val d.val) (d : Fin 128) (z : Fin 1) :
    ∃ y y' : Fin 128 → EReal, Half (l 0) v y ∧ Half (l 1) v y'
      ∧ outBlk i x3 x4 x5 x6 x7 x8 x9 x10 (ix3 z r d) = normed (fun x => y x - lamK x9 * y' x) (x10 (ix2 0 d)) d := by
  have hi : (i 2).val < 8 := (i 2).isLt
  obtain ⟨h0, h1⟩ := stepC_acc x3 x4 x5 x6 x7 x8 σ h8 l v r (i 2).val hi hs hd h7
  have hlam : k0_pay71 (F := Ideal) x9 (ix2 0 0) + k0_pay72 (F := Ideal) (ix2 0 0) = lamK x9 := by
    pointwise [k0_pay71, k0_pay72]
    rfl
  refine ⟨_, _, held_half h0 (by omega) (hb 0), held_half h1 (by omega) (hb 1), ?_⟩
  pointwise [outBlk, k0_pay1]
  rw [hlam]
  rfl

end Cert.DiffIdeal.Hand

end
-- ==== Proof.Diff.Body.lean ====
/-
  The run of the differential attention's kernel body, over any value instance: at every grid point, from staged blocks
  that read `x3 … x10`, it stores `Hand.outBlk` of them (Diff/Steps.lean).
-/
module

public import proofs.«01_k».proof.Proof.Diff.Steps
public import Idealize.ShloMosaic.Lib.Pipeline.Value
public import Idealize.ShloMosaic.Lib.Pipeline.ValueKit.Tiles
public import Idealize.ShloMosaic.Lib.VecWindow

@[expose] public section

set_option maxRecDepth 16384

noncomputable section

namespace Cert.DiffIdeal.Hand

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The offsets of the loads, the trips of the loops and the condition, in closed form -/

theorem trips1 (i : grid0.Coords) : (k0_t1_loop i).trips = (i 2).val / 2 := by
  have h : ∀ j : Fin 8, ∀ i : grid0.Coords, (i 2).val = j.val → (k0_t1_loop i).trips = j.val / 2 := by
    intro j i h; unfold k0_t1_loop; rw [h]; clear h i; revert j; decide +kernel
  exact h ⟨(i 2).val, (i 2).isLt⟩ i rfl
theorem trips2 (i : grid0.Coords) : (k0_t2_loop i).trips = 0 := by
  have h : ∀ j : Fin 8, ∀ i : grid0.Coords, (i 2).val = j.val → (k0_t2_loop i).trips = 0 := by
    intro j i h; unfold k0_t2_loop; rw [h]; clear h i; revert j; decide +kernel
  exact h ⟨(i 2).val, (i 2).isLt⟩ i rfl
theorem cond1 (i : grid0.Coords) : k0_cond1 i = 1#1 ↔ (i 2).val % 2 = 1 := by
  have h : ∀ j : Fin 8, ∀ i : grid0.Coords, (i 2).val = j.val → (k0_cond1 i = 1#1 ↔ j.val % 2 = 1) := by
    intro j i h; unfold k0_cond1; rw [h]; clear h i; revert j; decide +kernel
  exact h ⟨(i 2).val, (i 2).isLt⟩ i rfl

theorem off1 (i : grid0.Coords) (k : Fin (k0_t1_loop i).trips) :
    (k0_off1 i k = ![0, 0, 512 * (2 * k.val)] ∧ k0_off2 i k = ![0, 512 * (2 * k.val)] ∧ k0_off3 i k = ![0, 512 * (2 * k.val), 0])
    ∧ k0_off4 i k = ![0, 0, 512 * (2 * k.val + 1)] ∧ k0_off5 i k = ![0, 512 * (2 * k.val + 1)] ∧ k0_off6 i k = ![0, 512 * (2 * k.val + 1), 0] := by
  have hk : k.val < 4 := by
    have h1 := k.isLt; have h2 := trips1 i; have h3 : (i 2).val < 8 := (i 2).isLt; omega
  unfold k0_off1 k0_off2 k0_off3 k0_off4 k0_off5 k0_off6
  generalize k.val = n at *
  obtain ⟨l, rfl⟩ : ∃ l : Fin 4, n = l.val := ⟨⟨n, hk⟩, rfl⟩
  clear hk
  revert l
  decide +kernel
theorem off13 (i : grid0.Coords) (h0 : 0 < (i 2).val) : k0_off13 i = ![0, 0, 512 * ((i 2).val - 1)] ∧ k0_off14 i = ![0, 512 * ((i 2).val - 1)] ∧ k0_off15 i = ![0, 512 * ((i 2).val - 1), 0] := by
  unfold k0_off13 k0_off14 k0_off15
  have h : (i 2).val < 8 := (i 2).isLt
  generalize (i 2).val = n at *
  obtain ⟨j, rfl⟩ : ∃ j : Fin 8, n = j.val := ⟨⟨n, h⟩, rfl⟩
  clear h i
  revert j
  decide +kernel

/-- A load of 512 columns of the keys, as `ldK`; of the positions, as `ldP`; of 512 rows of the values, as `ldV`; of the slope, as `ldS`. -/
theorem readK (v : View sig .tc .vmem S1x128x4096 .bf16) (X : v.ty.Contents (Elt F)) (off : Fin 3 → ℕ) (j : ℕ)
    (hj : j < 8) (ho : off = ![0, 0, 512 * j]) (h) :
    View.readAt (Elt F) v (Rect.unit (s := S1x128x4096) off S1x128x512.size h).toLoadRect X = ldK (View.read (Elt F) v X) j := by
  subst ho
  funext y
  rw [View.readAt_apply]
  unfold ldK
  congr 1
  funext a
  apply Fin.ext
  have h2 : (y 2).val < 512 := (y 2).isLt
  fin_cases a
  · exact (Rect.idx_unit_val _ _ _ y 0).trans (Nat.zero_add _)
  · exact (Rect.idx_unit_val _ _ _ y 1).trans (Nat.zero_add _)
  · refine (Rect.idx_unit_val _ _ _ y 2).trans ?_
    show 512 * j + (y 2).val = (512 * j + (y 2).val) % 4096
    omega
theorem readV (v : View sig .tc .vmem S1x4096x128 .bf16) (X : v.ty.Contents (Elt F)) (off : Fin 3 → ℕ) (j : ℕ)
    (hj : j < 8) (ho : off = ![0, 512 * j, 0]) (h) :
    View.readAt (Elt F) v (Rect.unit (s := S1x4096x128) off S1x512x128.size h).toLoadRect X = ldV (View.read (Elt F) v X) j := by
  subst ho
  funext y
  rw [View.readAt_apply]
  unfold ldV
  congr 1
  funext a
  apply Fin.ext
  have h2 : (y 1).val < 512 := (y 1).isLt
  fin_cases a
  · exact (Rect.idx_unit_val _ _ _ y 0).trans (Nat.zero_add _)
  · refine (Rect.idx_unit_val _ _ _ y 1).trans ?_
    show 512 * j + (y 1).val = (512 * j + (y 1).val) % 4096
    omega
  · exact (Rect.idx_unit_val _ _ _ y 2).trans (Nat.zero_add _)

theorem readP (v : View sig .tc .vmem S128x4096 .bf16) (X : v.ty.Contents (Elt F)) (off : Fin 2 → ℕ) (j : ℕ)
    (hj : j < 8) (ho : off = ![0, 512 * j]) (h) :
    View.readAt (Elt F) v (Rect.unit (s := S128x4096) off S128x512.size h).toLoadRect X = ldP (View.read (Elt F) v X) j := by
  subst ho
  funext y
  rw [View.readAt_apply]
  unfold ldP
  congr 1
  funext a
  apply Fin.ext
  have h2 : (y 1).val < 512 := (y 1).isLt
  fin_cases a
  · exact (Rect.idx_unit_val _ _ _ y 0).trans (Nat.zero_add _)
  · refine (Rect.idx_unit_val _ _ _ y 1).trans ?_
    show 512 * j + (y 1).val = (512 * j + (y 1).val) % 4096
    omega
theorem readS (v : View sig .tc .vmem S1x8x128 .f32) (X : v.ty.Contents (Elt F)) (h) :
    View.readAt (Elt F) v (Rect.unit (s := S1x8x128) ![0, 0, 0] S1x1x1.size h).toLoadRect X = ldS (View.read (Elt F) v X) := by
  funext y
  rw [View.readAt_apply]
  unfold ldS
  congr 1
  funext a
  apply Fin.ext
  fin_cases a
  · exact (Rect.idx_unit_val _ _ _ y 0).trans (Nat.zero_add _)
  · exact (Rect.idx_unit_val _ _ _ y 1).trans (Nat.zero_add _)
  · exact (Rect.idx_unit_val _ _ _ y 2).trans (Nat.zero_add _)

/-- One block folded in, by the loads as the run reads them. -/
theorem stepAt_read (q : FVec F S1024x256 .bf16) (v5 : View sig .tc .vmem S1x128x4096 .bf16) (v6 : View sig .tc .vmem S128x4096 .bf16) (v7 : View sig .tc .vmem S1x4096x128 .bf16)
    (X5 : v5.ty.Contents (Elt F)) (X6 : v6.ty.Contents (Elt F)) (X7 : v7.ty.Contents (Elt F)) (oK : Fin 3 → ℕ) (oP : Fin 2 → ℕ) (oV : Fin 3 → ℕ) (j : ℕ) (hj : j < 8) (hK : oK = ![0, 0, 512 * j]) (hP : oP = ![0, 512 * j]) (hV : oV = ![0, 512 * j, 0]) (h1 h2 h3) (c : Carry F) :
    stepAt q (View.read (Elt F) v5 X5) (View.read (Elt F) v6 X6) (View.read (Elt F) v7 X7) j c
      = step q (View.readAt (Elt F) v5 (Rect.unit (s := S1x128x4096) oK S1x128x512.size h1).toLoadRect X5)
          (View.readAt (Elt F) v6 (Rect.unit (s := S128x4096) oP S128x512.size h2).toLoadRect X6)
          (View.readAt (Elt F) v7 (Rect.unit (s := S1x4096x128) oV S1x512x128.size h3).toLoadRect X7) c := by
  rw [readK v5 X5 oK j hj hK, readP v6 X6 oP j hj hP, readV v7 X7 oV j hj hV]; rfl

/-- The diagonal block folded in, by the loads as the run reads them. -/
theorem stepC_read (q : FVec F S1024x256 .bf16) (v5 : View sig .tc .vmem S1x128x4096 .bf16) (v6 : View sig .tc .vmem S128x4096 .bf16) (v7 : View sig .tc .vmem S1x4096x128 .bf16) (v8 : View sig .tc .vmem S1x8x128 .f32)
    (X5 : v5.ty.Contents (Elt F)) (X6 : v6.ty.Contents (Elt F)) (X7 : v7.ty.Contents (Elt F)) (X8 : v8.ty.Contents (Elt F)) (oK : Fin 3 → ℕ) (oP : Fin 2 → ℕ) (oV : Fin 3 → ℕ) (j : ℕ) (hj : j < 8) (hK : oK = ![0, 0, 512 * j]) (hP : oP = ![0, 512 * j]) (hV : oV = ![0, 512 * j, 0]) (h1 h2 h3) (h4) (c : Carry F) :
    stepC q (ldK (View.read (Elt F) v5 X5) j) (ldP (View.read (Elt F) v6 X6) j) (ldV (View.read (Elt F) v7 X7) j) (ldS (View.read (Elt F) v8 X8)) c
      = stepC q (View.readAt (Elt F) v5 (Rect.unit (s := S1x128x4096) oK S1x128x512.size h1).toLoadRect X5)
          (View.readAt (Elt F) v6 (Rect.unit (s := S128x4096) oP S128x512.size h2).toLoadRect X6)
          (View.readAt (Elt F) v7 (Rect.unit (s := S1x4096x128) oV S1x512x128.size h3).toLoadRect X7)
          (View.readAt (Elt F) v8 (Rect.unit (s := S1x8x128) ![0, 0, 0] S1x1x1.size h4).toLoadRect X8) c := by
  rw [readK v5 X5 oK j hj hK, readP v6 X6 oP j hj hP, readV v7 X7 oV j hj hV, readS v8 X8]

/-! ## The loop over the blocks before the diagonal, two to a trip -/

section Loop
variable (𝒱 : Variants) (c : Dev nD) (bd : Option 𝒱.V) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x128x4096 .bf16) (harg5 : arg5.IsWhole) (arg6 : Memref sig .tc .vmem S128x4096 .bf16) (harg6 : arg6.IsWhole) (arg7 : Memref sig .tc .vmem S1x4096x128 .bf16) (harg7 : arg7.IsWhole) (arg8 : Memref sig .tc .vmem S1x8x128 .f32) (harg8 : arg8.IsWhole) (arg9 : Memref sig .tc .vmem S4x128 .f32) (harg9 : arg9.IsWhole) (arg10 : Memref sig .tc .vmem S1x128 .f32) (harg10 : arg10.IsWhole) (arg11 : Memref sig .tc .vmem S1x512x128 .bf16) (harg11 : arg11.IsWhole)
  (arg2 : BitVec 32) (v18 : FVec F S1024x256 .bf16) (v20 : FVec F S512x1 .f32) (v21 : FVec F S512x256 .f32) (v22 : FVec F S512x1 .f32) (v23 : FVec F S512x256 .f32) (v24 : BitVec 32) (v35 : BitVec 1) (v36 : BitVec 32)
  (X5 : BufTy.Contents (Elt F) arg5.view.ty) (X6 : BufTy.Contents (Elt F) arg6.view.ty) (X7 : BufTy.Contents (Elt F) arg7.view.ty)

/-- One trip folds in two blocks. -/
theorem trip_eq (k : Fin (k0_t1_loop i).trips) (acc : Carry F) :
    tripR_k0_t1 (F := F) 𝒱 c bd i arg3 harg3 arg4 harg4 arg5 harg5 arg6 harg6 arg7 harg7 arg8 harg8 arg9 harg9 arg10 harg10 arg11 harg11 arg2 v18 (k0_pay47 (F := F)) v20 v21 v22 v23 v24 v35 v36 X5 X6 X7 k acc
      = (let s := stepAt v18 (View.read (Elt F) arg5.view X5) (View.read (Elt F) arg6.view X6) (View.read (Elt F) arg7.view X7)
         s (2 * k.val + 1) (s (2 * k.val) acc)) := by
  have hk : k.val < 4 := by
    have h1 := k.isLt; have h2 := trips1 i; have h3 : (i 2).val < 8 := (i 2).isLt; omega
  obtain ⟨⟨a1, a2, a3⟩, b1, b2, b3⟩ := off1 i k
  dsimp only
  rw [stepAt_read _ _ _ _ _ _ _ (k0_off4 i k) (k0_off5 i k) (k0_off6 i k) (2 * k.val + 1) (by omega) b1 b2 b3 (k0_off4_inb i k) (k0_off5_inb i k) (k0_off6_inb i k),
    stepAt_read _ _ _ _ _ _ _ (k0_off1 i k) (k0_off2 i k) (k0_off3 i k) (2 * k.val) (by omega) a1 a2 a3 (k0_off1_inb i k) (k0_off2_inb i k) (k0_off3_inb i k)]
  unfold tripR_k0_t1 trip_k0_t1
  rfl

/-- After `n` trips the carry is that before block `2 n`. -/
theorem st_eq (n : ℕ) (hn : n ≤ (k0_t1_loop i).trips) :
    st_k0_t1 (F := F) 𝒱 c bd i arg3 harg3 arg4 harg4 arg5 harg5 arg6 harg6 arg7 harg7 arg8 harg8 arg9 harg9 arg10 harg10 arg11 harg11 arg2 v18 (k0_pay47 (F := F)) v20 v21 v22 v23 v24 v35 v36 X5 X6 X7
        (k0_pay48, k0_pay49, k0_pay50, k0_pay51) n
      = accN v18 (View.read (Elt F) arg5.view X5) (View.read (Elt F) arg6.view X6) (View.read (Elt F) arg7.view X7) (2 * n) := by
  induction n with
  | zero => rfl
  | succ n ih =>
    refine (st_k0_t1_succ (F := F) 𝒱 c bd i arg3 harg3 arg4 harg4 arg5 harg5 arg6 harg6 arg7 harg7 arg8 harg8 arg9 harg9 arg10 harg10 arg11 harg11 arg2 v18 (k0_pay47 (F := F)) v20 v21 v22 v23 v24 v35 v36 X5 X6 X7 _ ⟨n, hn⟩).trans ?_
    rw [trip_eq, ih (Nat.le_of_succ_le hn)]
    rfl

/-- What both loops leave, the second having no trip. -/
theorem loops_eq :
    st_k0_t2 (F := F) 𝒱 c bd i arg3 harg3 arg4 harg4 arg5 harg5 arg6 harg6 arg7 harg7 arg8 harg8 arg9 harg9 arg10 harg10 arg11 harg11 arg2 v18 (k0_pay47 (F := F)) v20 v21 v22 v23 v24 v35 v36 (k0_t1_loop i).ub X5 X6 X7
        ((st_k0_t1 (F := F) 𝒱 c bd i arg3 harg3 arg4 harg4 arg5 harg5 arg6 harg6 arg7 harg7 arg8 harg8 arg9 harg9 arg10 harg10 arg11 harg11 arg2 v18 (k0_pay47 (F := F)) v20 v21 v22 v23 v24 v35 v36 X5 X6 X7 (k0_pay48, k0_pay49, k0_pay50, k0_pay51) (k0_t1_loop i).trips).1, (st_k0_t1 (F := F) 𝒱 c bd i arg3 harg3 arg4 harg4 arg5 harg5 arg6 harg6 arg7 harg7 arg8 harg8 arg9 harg9 arg10 harg10 arg11 harg11 arg2 v18 (k0_pay47 (F := F)) v20 v21 v22 v23 v24 v35 v36 X5 X6 X7 (k0_pay48, k0_pay49, k0_pay50, k0_pay51) (k0_t1_loop i).trips).2.1, (st_k0_t1 (F := F) 𝒱 c bd i arg3 harg3 arg4 harg4 arg5 harg5 arg6 harg6 arg7 harg7 arg8 harg8 arg9 harg9 arg10 harg10 arg11 harg11 arg2 v18 (k0_pay47 (F := F)) v20 v21 v22 v23 v24 v35 v36 X5 X6 X7 (k0_pay48, k0_pay49, k0_pay50, k0_pay51) (k0_t1_loop i).trips).2.2.1, (st_k0_t1 (F := F) 𝒱 c bd i arg3 harg3 arg4 harg4 arg5 harg5 arg6 harg6 arg7 harg7 arg8 harg8 arg9 harg9 arg10 harg10 arg11 harg11 arg2 v18 (k0_pay47 (F := F)) v20 v21 v22 v23 v24 v35 v36 X5 X6 X7 (k0_pay48, k0_pay49, k0_pay50, k0_pay51) (k0_t1_loop i).trips).2.2.2) (k0_t2_loop i).trips
      = accN v18 (View.read (Elt F) arg5.view X5) (View.read (Elt F) arg6.view X6) (View.read (Elt F) arg7.view X7) (2 * ((i 2).val / 2)) := by
  rw [trips2, ← trips1]
  exact st_eq 𝒱 c bd i arg3 harg3 arg4 harg4 arg5 harg5 arg6 harg6 arg7 harg7 arg8 harg8 arg9 harg9 arg10 harg10 arg11 harg11 arg2 v18 v20 v21 v22 v23 v24 v35 v36 X5 X6 X7 _ le_rfl
end Loop

/-! ## The body, run once -/

attribute [local irreducible] st_k0_t1 st_k0_t2 accN stepAt

/-- The staged blocks as the body finds them, and as it leaves them. -/
def runPre (c : Dev nD) (i : grid0.Coords) (arg3 : Memref sig .tc .vmem S1x512x128 .bf16) (arg4 : Memref sig .tc .vmem S1x512x128 .bf16) (arg5 : Memref sig .tc .vmem S1x128x4096 .bf16) (arg6 : Memref sig .tc .vmem S128x4096 .bf16) (arg7 : Memref sig .tc .vmem S1x4096x128 .bf16) (arg8 : Memref sig .tc .vmem S1x8x128 .f32) (arg9 : Memref sig .tc .vmem S4x128 .f32) (arg10 : Memref sig .tc .vmem S1x128 .f32) (arg11 : Memref sig .tc .vmem S1x512x128 .bf16)
    (x3 : Vec F S1x512x128 .bf16) (x4 : Vec F S1x512x128 .bf16) (x5 : Vec F S1x128x4096 .bf16) (x6 : Vec F S128x4096 .bf16) (x7 : Vec F S1x4096x128 .bf16) (x8 : Vec F S1x8x128 .f32) (x9 : Vec F S4x128 .f32) (x10 : Vec F S1x128 .f32) (W : Waits sig Unit) (K : PUnit → sProp 𝕄) : sProp 𝕄 :=
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (∃ d, owns (c : Thread nD τ) arg11 fullShare d) ∗ owes (c : Thread nD τ) 0 W
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
            ∗ owns (c : Thread nD τ) arg11 fullShare (outBlk i x3 x4 x5 x6 x7 x8 x9 x10) ∗ ∃ W', owes (c : Thread nD τ) 0 W') -∗ K ⟨⟩))

/-- The body at a point with one block left after the loop. -/
theorem kernelRun_p (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x128x4096 .bf16) (harg5 : arg5.IsWhole) (arg6 : Memref sig .tc .vmem S128x4096 .bf16) (harg6 : arg6.IsWhole) (arg7 : Memref sig .tc .vmem S1x4096x128 .bf16) (harg7 : arg7.IsWhole) (arg8 : Memref sig .tc .vmem S1x8x128 .f32) (harg8 : arg8.IsWhole) (arg9 : Memref sig .tc .vmem S4x128 .f32) (harg9 : arg9.IsWhole) (arg10 : Memref sig .tc .vmem S1x128 .f32) (harg10 : arg10.IsWhole) (arg11 : Memref sig .tc .vmem S1x512x128 .bf16) (harg11 : arg11.IsWhole)
  (x3 : Vec F S1x512x128 .bf16) (x4 : Vec F S1x512x128 .bf16) (x5 : Vec F S1x128x4096 .bf16) (x6 : Vec F S128x4096 .bf16) (x7 : Vec F S1x4096x128 .bf16) (x8 : Vec F S1x8x128 .f32) (x9 : Vec F S4x128 .f32) (x10 : Vec F S1x128 .f32) (W : Waits sig Unit) (K : PUnit → sProp 𝕄) (h1 : k0_cond1 i = 1#1) :
    runPre c i arg3 arg4 arg5 arg6 arg7 arg8 arg9 arg10 arg11 x3 x4 x5 x6 x7 x8 x9 x10 W K
      ⊢ wp frame (wpE (defs₀ (F := F)) Variants.none c none) Set.univ
          (cc0_diff i arg3 harg3 arg4 harg4 arg5 harg5 arg6 harg6 arg7 harg7 arg8 harg8 arg9 harg9 arg10 harg10 arg11 harg11) K := by
  simp only [cc0_diff_eq_skeleton]; unfold cc0_diff_skel
  unfold runPre owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, %e11, H11⟩, HO, Hk⟩
  subst e3 e4 e5 e6 e7 e8 e9 e10
  sl_exec (disch := sl_exact h1)
  sl_step
  iapply Hk
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]; · iexists _; isplitr; · ipureintro; rfl
                  iexact H9
  isplitl [H10]; · iexists _; isplitr; · ipureintro; rfl
                   iexact H10
  isplitl [H11]
  · iexists _; isplitr; swap; · iexact H11
    ipureintro
    refine (View.read_writes_full _ _ _ _ _).trans ?_
    have c1 : (i 2).val % 2 = 1 := (cond1 i).1 h1
    have h8 : (i 2).val < 8 := (i 2).isLt
    have hn : (i 2).val = 2 * ((i 2).val / 2) + 1 := by omega
    obtain ⟨a1, a2, a3⟩ := off13 i (by omega)
    have hm : (i 2).val - 1 = 2 * ((i 2).val / 2) := by omega
    rw [hm] at a1 a2 a3
    unfold outBlk
    dsimp only
    rw [stepC_read _ _ _ _ _ _ _ _ _ (k0_off16 i) (k0_off17 i) (k0_off18 i) (i 2).val h8 (k0_off16_eq i) (k0_off17_eq i) (k0_off18_eq i) (k0_off16_inb i h1) (k0_off17_inb i h1) (k0_off18_inb i h1) inb_S1x8x128_S1x1x1_0_0_0]
    rw [congrArg (accN _ _ _ _) hn]
    rw [accN.eq_2]
    rw [stepAt_read _ _ _ _ _ _ _ (k0_off13 i) (k0_off14 i) (k0_off15 i) (2 * ((i 2).val / 2)) (by omega) a1 a2 a3 (k0_off13_inb i h1) (k0_off14_inb i h1) (k0_off15_inb i h1)]
    rw [← loops_eq Variants.none c none i arg3 harg3 arg4 harg4 arg5 harg5 arg6 harg6 arg7 harg7 arg8 harg8 arg9 harg9 arg10 harg10 arg11 harg11 (BitVec.ofNat 32 (i 2).val) _ k0_pay48 k0_pay49 k0_pay50 k0_pay51 (Scalar.divsi (BitVec.ofNat 32 (i 2).val) 2#32) (Scalar.cmpi .ne (Scalar.subi (Scalar.extui (Scalar.cmpi .sgt (BitVec.ofNat 32 (i 2).val) 0#32)) (Scalar.extui (Scalar.cmpi .slt (BitVec.ofNat 32 (i 2).val) 0#32)))
        (Scalar.subi (Scalar.extui (Scalar.cmpi .sgt 2#32 0#32)) (Scalar.extui (Scalar.cmpi .slt 2#32 0#32)))) (Scalar.remsi (BitVec.ofNat 32 (i 2).val) 2#32),
      ← View.readAt_full arg3.view f3 inb_S1x512x128_S1x512x128_0_0_0, ← View.readAt_full arg4.view f4 inb_S1x512x128_S1x512x128_0_0_0,
      ← View.readAt_full arg9.view f9 inb_S4x128_S4x128_0_0, ← View.readAt_full arg10.view f10 inb_S1x128_S1x128_0_0]
    rfl
  iexists _; iexact HO

/-- The body at a point with none left after the loop. -/
theorem kernelRun_n (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x128x4096 .bf16) (harg5 : arg5.IsWhole) (arg6 : Memref sig .tc .vmem S128x4096 .bf16) (harg6 : arg6.IsWhole) (arg7 : Memref sig .tc .vmem S1x4096x128 .bf16) (harg7 : arg7.IsWhole) (arg8 : Memref sig .tc .vmem S1x8x128 .f32) (harg8 : arg8.IsWhole) (arg9 : Memref sig .tc .vmem S4x128 .f32) (harg9 : arg9.IsWhole) (arg10 : Memref sig .tc .vmem S1x128 .f32) (harg10 : arg10.IsWhole) (arg11 : Memref sig .tc .vmem S1x512x128 .bf16) (harg11 : arg11.IsWhole)
  (x3 : Vec F S1x512x128 .bf16) (x4 : Vec F S1x512x128 .bf16) (x5 : Vec F S1x128x4096 .bf16) (x6 : Vec F S128x4096 .bf16) (x7 : Vec F S1x4096x128 .bf16) (x8 : Vec F S1x8x128 .f32) (x9 : Vec F S4x128 .f32) (x10 : Vec F S1x128 .f32) (W : Waits sig Unit) (K : PUnit → sProp 𝕄) (h1 : ¬k0_cond1 i = 1#1) :
    runPre c i arg3 arg4 arg5 arg6 arg7 arg8 arg9 arg10 arg11 x3 x4 x5 x6 x7 x8 x9 x10 W K
      ⊢ wp frame (wpE (defs₀ (F := F)) Variants.none c none) Set.univ
          (cc0_diff i arg3 harg3 arg4 harg4 arg5 harg5 arg6 harg6 arg7 harg7 arg8 harg8 arg9 harg9 arg10 harg10 arg11 harg11) K := by
  simp only [cc0_diff_eq_skeleton]; unfold cc0_diff_skel
  unfold runPre owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, %e11, H11⟩, HO, Hk⟩
  subst e3 e4 e5 e6 e7 e8 e9 e10
  sl_exec (disch := sl_exact h1)
  sl_step
  iapply Hk
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]; · iexists _; isplitr; · ipureintro; rfl
                  iexact H9
  isplitl [H10]; · iexists _; isplitr; · ipureintro; rfl
                   iexact H10
  isplitl [H11]
  · iexists _; isplitr; swap; · iexact H11
    ipureintro
    refine (View.read_writes_full _ _ _ _ _).trans ?_
    have c1 : ¬(i 2).val % 2 = 1 := fun hh => h1 ((cond1 i).2 hh)
    have h8 : (i 2).val < 8 := (i 2).isLt
    have hn : (i 2).val = 2 * ((i 2).val / 2) := by omega
    unfold outBlk
    dsimp only
    rw [stepC_read _ _ _ _ _ _ _ _ _ (k0_off19 i) (k0_off20 i) (k0_off21 i) (i 2).val h8 (k0_off19_eq i) (k0_off20_eq i) (k0_off21_eq i) (k0_off19_inb i h1) (k0_off20_inb i h1) (k0_off21_inb i h1) inb_S1x8x128_S1x1x1_0_0_0]
    rw [congrArg (accN _ _ _ _) hn]
    rw [← loops_eq Variants.none c none i arg3 harg3 arg4 harg4 arg5 harg5 arg6 harg6 arg7 harg7 arg8 harg8 arg9 harg9 arg10 harg10 arg11 harg11 (BitVec.ofNat 32 (i 2).val) _ k0_pay48 k0_pay49 k0_pay50 k0_pay51 (Scalar.divsi (BitVec.ofNat 32 (i 2).val) 2#32) (Scalar.cmpi .ne (Scalar.subi (Scalar.extui (Scalar.cmpi .sgt (BitVec.ofNat 32 (i 2).val) 0#32)) (Scalar.extui (Scalar.cmpi .slt (BitVec.ofNat 32 (i 2).val) 0#32)))
        (Scalar.subi (Scalar.extui (Scalar.cmpi .sgt 2#32 0#32)) (Scalar.extui (Scalar.cmpi .slt 2#32 0#32)))) (Scalar.remsi (BitVec.ofNat 32 (i 2).val) 2#32),
      ← View.readAt_full arg3.view f3 inb_S1x512x128_S1x512x128_0_0_0, ← View.readAt_full arg4.view f4 inb_S1x512x128_S1x512x128_0_0_0,
      ← View.readAt_full arg9.view f9 inb_S4x128_S4x128_0_0, ← View.readAt_full arg10.view f10 inb_S1x128_S1x128_0_0]
    rfl
  iexists _; iexact HO

/-- The body at any point. -/
theorem kernelRun (c : Dev nD) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x128x4096 .bf16) (harg5 : arg5.IsWhole) (arg6 : Memref sig .tc .vmem S128x4096 .bf16) (harg6 : arg6.IsWhole) (arg7 : Memref sig .tc .vmem S1x4096x128 .bf16) (harg7 : arg7.IsWhole) (arg8 : Memref sig .tc .vmem S1x8x128 .f32) (harg8 : arg8.IsWhole) (arg9 : Memref sig .tc .vmem S4x128 .f32) (harg9 : arg9.IsWhole) (arg10 : Memref sig .tc .vmem S1x128 .f32) (harg10 : arg10.IsWhole) (arg11 : Memref sig .tc .vmem S1x512x128 .bf16) (harg11 : arg11.IsWhole)
  (x3 : Vec F S1x512x128 .bf16) (x4 : Vec F S1x512x128 .bf16) (x5 : Vec F S1x128x4096 .bf16) (x6 : Vec F S128x4096 .bf16) (x7 : Vec F S1x4096x128 .bf16) (x8 : Vec F S1x8x128 .f32) (x9 : Vec F S4x128 .f32) (x10 : Vec F S1x128 .f32) (W : Waits sig Unit) (K : PUnit → sProp 𝕄) :
    runPre c i arg3 arg4 arg5 arg6 arg7 arg8 arg9 arg10 arg11 x3 x4 x5 x6 x7 x8 x9 x10 W K
      ⊢ wp frame (wpE (defs₀ (F := F)) Variants.none c none) Set.univ
          (cc0_diff i arg3 harg3 arg4 harg4 arg5 harg5 arg6 harg6 arg7 harg7 arg8 harg8 arg9 harg9 arg10 harg10 arg11 harg11) K := by
  by_cases h1 : k0_cond1 i = 1#1
  · exact kernelRun_p c i arg3 harg3 arg4 harg4 arg5 harg5 arg6 harg6 arg7 harg7 arg8 harg8 arg9 harg9 arg10 harg10 arg11 harg11 x3 x4 x5 x6 x7 x8 x9 x10 W K h1
  · exact kernelRun_n c i arg3 harg3 arg4 harg4 arg5 harg5 arg6 harg6 arg7 harg7 arg8 harg8 arg9 harg9 arg10 harg10 arg11 harg11 x3 x4 x5 x6 x7 x8 x9 x10 W K h1

end Cert.DiffIdeal.Hand

end
-- ==== Proof.Diff.Frame.lean ====
/-
  The differential attention's run, over any value instance: every fair execution of the program ends with the output
  array as the grid's write-backs leave it, the arguments as launched and the counters at zero.
-/
module

public import proofs.«01_k».proof.Proof.Diff.Body

@[expose] public section

set_option maxRecDepth 16384

noncomputable section

namespace Cert.DiffIdeal.Hand

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block stored at grid point `t`, of the blocks of the arrays as the region finds them. -/
def outAt (c : Dev nD) (t : Fin cfg0.N) : Vec F S1x512x128 .bf16 :=
  outBlk (grid0.coords t) (iblk m c 0 t) (iblk m c 1 t) (iblk m c 2 t) (iblk m c 3 t) (iblk m c 4 t) (iblk m c 5 t) (iblk m c 6 t) (iblk m c 7 t)

/-- The proof data on core `c`: the arrays as the region finds them, each input block left as it was, the output block `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t :=
  before0_0_of m (dats m 0 c) (A_eq m c 0) (fun _ => rfl) t d
theorem before1 (c : Dev nD) (t : Fin cfg0.N) (d) : (dats m 0 c).before 1 t d = iblk m c 1 t :=
  before0_1_of m (dats m 0 c) (A_eq m c 1) (fun _ => rfl) t d
theorem before2 (c : Dev nD) (t : Fin cfg0.N) (d) : (dats m 0 c).before 2 t d = iblk m c 2 t :=
  before0_2_of m (dats m 0 c) (A_eq m c 2) (fun _ => rfl) t d
theorem before3 (c : Dev nD) (t : Fin cfg0.N) (d) : (dats m 0 c).before 3 t d = iblk m c 3 t :=
  before0_3_of m (dats m 0 c) (A_eq m c 3) (fun _ => rfl) t d
theorem before4 (c : Dev nD) (t : Fin cfg0.N) (d) : (dats m 0 c).before 4 t d = iblk m c 4 t :=
  before0_4_of m (dats m 0 c) (A_eq m c 4) (fun _ => rfl) t d
theorem before5 (c : Dev nD) (t : Fin cfg0.N) (d) : (dats m 0 c).before 5 t d = iblk m c 5 t :=
  before0_5_of m (dats m 0 c) (A_eq m c 5) (fun _ => rfl) t d
set_option maxHeartbeats 2000000 in
theorem before6 (c : Dev nD) (t : Fin cfg0.N) (d) : (dats m 0 c).before 6 t d = iblk m c 6 t :=
  before0_6_of m (dats m 0 c) (A_eq m c 6) (fun _ => rfl) t d
set_option maxHeartbeats 2000000 in
theorem before7 (c : Dev nD) (t : Fin cfg0.N) (d) : (dats m 0 c).before 7 t d = iblk m c 7 t :=
  before0_7_of m (dats m 0 c) (A_eq m c 7) (fun _ => rfl) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (iblk m c 7 t)
    ∗ owns (c : Thread nD τ) (win0_8.stage (cfg0.slots t 8)) fullShare (outAt m c t))

set_option maxHeartbeats 2000000 in
/-- The body at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  unfold Dat.owesAt Pipeline.owesWithin
  rw [show (dats m 0 c).owed t.castSucc = 0 from rfl]
  simp only [before0, before1, before2, before3, before4, before5, before6, before7]
  iintro ⟨HΦ, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun c (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) W _)
  unfold runPre
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HO]; · iexact HO
  iintro ⟨H0, H1, H2, H3, H4, H5, H6, H7, H8, ⟨%W', HO⟩⟩
  isplitl [HΦ]; · iexact HΦ
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 2000000 in
/-- The body obligation of the pipeline. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every weakly fair execution ends, the output array as the write-backs leave it, every other array as the host
    prelude left it, the counters at zero. -/
theorem run_main :
    θ_run defs (onTc (τ := τ) (main (F := F))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun _ h => h)

end Cert.DiffIdeal.Hand

end
-- ==== Proof.Diff.Points.lean ====
/-
  The grid of the differential attention: a point is a batch, a head and a block of 512 queries, and each window's
  block index at a point is given by those three.
-/
module

public import proofs.«01_k».proof.Proof.Diff.Frame

@[expose] public section

set_option maxRecDepth 16384

noncomputable section

namespace Cert.DiffIdeal.Hand

open Cert.DiffIdeal Cert.DiffIdeal.Gen
open Idealize.ShloMosaic Idealize.ShloMosaic.TcCoe Idealize.ShloMosaic.Tactic
open Idealize.ShloMosaic.Pipeline (Dat)

/-- A grid point's batch, head and block of queries. -/
abbrev pb (t : Fin cfg0.N) : ℕ := (grid0.coords t 0).val
abbrev pp (t : Fin cfg0.N) : ℕ := (grid0.coords t 1).val
abbrev pn (t : Fin cfg0.N) : ℕ := (grid0.coords t 2).val

theorem pb_lt (t : Fin cfg0.N) : pb t < 16 := (grid0.coords t 0).isLt
theorem pp_lt (t : Fin cfg0.N) : pp t < 4 := (grid0.coords t 1).isLt
theorem pn_lt (t : Fin cfg0.N) : pn t < 8 := (grid0.coords t 2).isLt

/-- The block indices of the windows at a point. -/
theorem idx0 : ∀ t : Fin cfg0.N, win0_0.index t (0 : Fin 3) = pb t ∧ win0_0.index t (1 : Fin 3) = pn t ∧ win0_0.index t (2 : Fin 3) = pp t :=
  (by decide +kernel : ∀ t : Fin grid0.N, _)
theorem idx1 : ∀ t : Fin cfg0.N, win0_1.index t (0 : Fin 3) = pp t ∧ win0_1.index t (1 : Fin 3) = pn t ∧ win0_1.index t (2 : Fin 3) = 0 :=
  (by decide +kernel : ∀ t : Fin grid0.N, _)
theorem idx2 : ∀ t : Fin cfg0.N, win0_2.index t (0 : Fin 3) = pb t ∧ win0_2.index t (1 : Fin 3) = pp t ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = pb t ∧ win0_4.index t (1 : Fin 3) = 0 ∧ win0_4.index t (2 : Fin 3) = pp t :=
  (by decide +kernel : ∀ t : Fin grid0.N, _)
theorem idx5 : ∀ t : Fin cfg0.N, win0_5.index t (0 : Fin 3) = pp t ∧ win0_5.index t (1 : Fin 3) = 0 ∧ win0_5.index t (2 : Fin 3) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 3) = pb t ∧ win0_8.index t (1 : Fin 3) = pn t ∧ win0_8.index t (2 : Fin 3) = pp t :=
  (by decide +kernel : ∀ t : Fin grid0.N, _)

/-- Every batch, head and block of queries is some point's. -/
theorem point : ∀ (b : Fin 16) (p : Fin 4) (n : Fin 8), ∃ t : Fin cfg0.N, pb t = b.val ∧ pp t = p.val ∧ pn t = n.val :=
  fun b p n => ⟨⟨32 * b.val + 8 * p.val + n.val, by rw [show cfg0.N = 512 from N_0]; omega⟩,
    (by decide +kernel : ∀ (b : Fin 16) (p : Fin 4) (n : Fin 8) (h : 32 * b.val + 8 * p.val + n.val < grid0.N),
      (grid0.coords ⟨32 * b.val + 8 * p.val + n.val, h⟩ 0).val = b.val ∧ (grid0.coords ⟨32 * b.val + 8 * p.val + n.val, h⟩ 1).val = p.val
        ∧ (grid0.coords ⟨32 * b.val + 8 * p.val + n.val, h⟩ 2).val = n.val) b p n _⟩

end Cert.DiffIdeal.Hand
end
-- ==== Proof.Diff.Emb.lean ====
/-
  The blocks of the differential attention's windows, read at an index of their arrays: the grid's point `t` is a batch, a
  head and a block of 512 queries, and each window's block starts where those say.
-/
module

public import proofs.«01_k».proof.Proof.Diff.Frame
public import proofs.«01_k».proof.Proof.Diff.Points
public import Idealize.ShloMosaic.Lib.Pointwise

@[expose] public section

set_option maxRecDepth 16384

noncomputable section

namespace Cert.DiffIdeal.Hand

open Cert.DiffIdeal Cert.DiffIdeal.Gen
open Idealize.ShloMosaic Idealize.ShloMosaic.TcCoe Idealize.ShloMosaic.Tactic
open Idealize.ShloMosaic.Pipeline (Dat)

variable (m : (ℓ : Loc nD τ sig) → Buf (Elt Ideal) ℓ)

/-- Each window's block index, as an index of its array. -/
theorem emb0 (t : Fin cfg0.N) (r : Fin 512) (l : Fin 128) : ((cfg0.win 0).blk t).view.emb (ix3 (0 : Fin 1) r l : S1x512x128.Idx)
    = ix3 (⟨pb t, pb_lt t⟩ : Fin 16) (⟨512 * pn t + r.val, by have := pn_lt t; omega⟩ : Fin 4096) (⟨128 * pp t + l.val, by have := pp_lt t; omega⟩ : Fin 512) := by
  obtain ⟨e0, e1, e2⟩ := idx0 t
  funext x; apply Fin.ext
  match x with
  | ⟨0, _⟩ => show win0_0.index t (0 : Fin 3) * 1 + 1 * (0 : Fin 1).val = pb t; omega
  | ⟨1, _⟩ => show win0_0.index t (1 : Fin 3) * 512 + 1 * r.val = 512 * pn t + r.val; omega
  | ⟨2, _⟩ => show win0_0.index t (2 : Fin 3) * 128 + 1 * l.val = 128 * pp t + l.val; omega

theorem emb1 (t : Fin cfg0.N) (r : Fin 512) (l : Fin 128) : ((cfg0.win 1).blk t).view.emb (ix3 (0 : Fin 1) r l : S1x512x128.Idx)
    = ix3 (⟨pp t, pp_lt t⟩ : Fin 4) (⟨512 * pn t + r.val, by have := pn_lt t; omega⟩ : Fin 4096) l := by
  obtain ⟨e0, e1, e2⟩ := idx1 t
  funext x; apply Fin.ext
  match x with
  | ⟨0, _⟩ => show win0_1.index t (0 : Fin 3) * 1 + 1 * (0 : Fin 1).val = pp t; omega
  | ⟨1, _⟩ => show win0_1.index t (1 : Fin 3) * 512 + 1 * r.val = 512 * pn t + r.val; omega
  | ⟨2, _⟩ => show win0_1.index t (2 : Fin 3) * 128 + 1 * l.val = l.val; omega

theorem emb2 (t : Fin cfg0.N) (l : Fin 128) (s : Fin 4096) : ((cfg0.win 2).blk t).view.emb (ix3 (0 : Fin 1) l s : S1x128x4096.Idx)
    = ix3 (⟨pb t, pb_lt t⟩ : Fin 16) (⟨128 * pp t + l.val, by have := pp_lt t; omega⟩ : Fin 512) s := by
  obtain ⟨e0, e1, e2⟩ := idx2 t
  funext x; apply Fin.ext
  match x with
  | ⟨0, _⟩ => show win0_2.index t (0 : Fin 3) * 1 + 1 * (0 : Fin 1).val = pb t; omega
  | ⟨1, _⟩ => show win0_2.index t (1 : Fin 3) * 128 + 1 * l.val = 128 * pp t + l.val; omega
  | ⟨2, _⟩ => show win0_2.index t (2 : Fin 3) * 4096 + 1 * s.val = s.val; omega

theorem emb3 (t : Fin cfg0.N) (l : Fin 128) (s : Fin 4096) : ((cfg0.win 3).blk t).view.emb (ix2 l s : S128x4096.Idx)
    = ix2 l s := by
  obtain ⟨e0, e1⟩ := idx3 t
  funext x; apply Fin.ext
  match x with
  | ⟨0, _⟩ => show win0_3.index t (0 : Fin 2) * 128 + 1 * l.val = l.val; omega
  | ⟨1, _⟩ => show win0_3.index t (1 : Fin 2) * 4096 + 1 * s.val = s.val; omega

theorem emb4 (t : Fin cfg0.N) (s : Fin 4096) (l : Fin 128) : ((cfg0.win 4).blk t).view.emb (ix3 (0 : Fin 1) s l : S1x4096x128.Idx)
    = ix3 (⟨pb t, pb_lt t⟩ : Fin 16) s (⟨128 * pp t + l.val, by have := pp_lt t; omega⟩ : Fin 512) := by
  obtain ⟨e0, e1, e2⟩ := idx4 t
  funext x; apply Fin.ext
  match x with
  | ⟨0, _⟩ => show win0_4.index t (0 : Fin 3) * 1 + 1 * (0 : Fin 1).val = pb t; omega
  | ⟨1, _⟩ => show win0_4.index t (1 : Fin 3) * 4096 + 1 * s.val = s.val; omega
  | ⟨2, _⟩ => show win0_4.index t (2 : Fin 3) * 128 + 1 * l.val = 128 * pp t + l.val; omega

theorem emb5 (t : Fin cfg0.N) (a : Fin 8) (l : Fin 128) : ((cfg0.win 5).blk t).view.emb (ix3 (0 : Fin 1) a l : S1x8x128.Idx)
    = ix3 (⟨pp t, pp_lt t⟩ : Fin 4) a l := by
  obtain ⟨e0, e1, e2⟩ := idx5 t
  funext x; apply Fin.ext
  match x with
  | ⟨0, _⟩ => show win0_5.index t (0 : Fin 3) * 1 + 1 * (0 : Fin 1).val = pp t; omega
  | ⟨1, _⟩ => show win0_5.index t (1 : Fin 3) * 8 + 1 * a.val = a.val; omega
  | ⟨2, _⟩ => show win0_5.index t (2 : Fin 3) * 128 + 1 * l.val = l.val; omega

theorem emb6 (t : Fin cfg0.N) (a : Fin 4) (l : Fin 128) : ((cfg0.win 6).blk t).view.emb (ix2 a l : S4x128.Idx)
    = ix2 a l := by
  obtain ⟨e0, e1⟩ := idx6 t
  funext x; apply Fin.ext
  match x with
  | ⟨0, _⟩ => show win0_6.index t (0 : Fin 2) * 4 + 1 * a.val = a.val; omega
  | ⟨1, _⟩ => show win0_6.index t (1 : Fin 2) * 128 + 1 * l.val = l.val; omega

theorem emb7 (t : Fin cfg0.N) (l : Fin 128) : ((cfg0.win 7).blk t).view.emb (ix2 (0 : Fin 1) l : S1x128.Idx)
    = ix2 (0 : Fin 1) l := by
  obtain ⟨e0, e1⟩ := idx7 t
  funext x; apply Fin.ext
  match x with
  | ⟨0, _⟩ => show win0_7.index t (0 : Fin 2) * 1 + 1 * (0 : Fin 1).val = (0 : Fin 1).val; omega
  | ⟨1, _⟩ => show win0_7.index t (1 : Fin 2) * 128 + 1 * l.val = l.val; omega

theorem emb8 (t : Fin cfg0.N) (r : Fin 512) (l : Fin 128) : ((cfg0.win 8).blk t).view.emb (ix3 (0 : Fin 1) r l : S1x512x128.Idx)
    = ix3 (⟨pb t, pb_lt t⟩ : Fin 16) (⟨512 * pn t + r.val, by have := pn_lt t; omega⟩ : Fin 4096) (⟨128 * pp t + l.val, by have := pp_lt t; omega⟩ : Fin 512) := by
  obtain ⟨e0, e1, e2⟩ := idx8 t
  funext x; apply Fin.ext
  match x with
  | ⟨0, _⟩ => show win0_8.index t (0 : Fin 3) * 1 + 1 * (0 : Fin 1).val = pb t; omega
  | ⟨1, _⟩ => show win0_8.index t (1 : Fin 3) * 512 + 1 * r.val = 512 * pn t + r.val; omega
  | ⟨2, _⟩ => show win0_8.index t (2 : Fin 3) * 128 + 1 * l.val = 128 * pp t + l.val; omega

end Cert.DiffIdeal.Hand
end
-- ==== Proof.Diff.Blocks.lean ====
/-
  The blocks of the differential attention's windows, read at an index of their arrays: the grid's point `t` is a batch, a
  head and a block of 512 queries, and each window's block starts where those say.
-/
module

public import proofs.«01_k».proof.Proof.Diff.Frame
public import proofs.«01_k».proof.Proof.Diff.Emb

@[expose] public section

set_option maxRecDepth 16384

noncomputable section

namespace Cert.DiffIdeal.Hand

open Cert.DiffIdeal Cert.DiffIdeal.Gen
open Idealize.ShloMosaic Idealize.ShloMosaic.TcCoe Idealize.ShloMosaic.Tactic
open Idealize.ShloMosaic.Pipeline (Dat)

variable (m : (ℓ : Loc nD τ sig) → Buf (Elt Ideal) ℓ)

/-- Every index of the result array is in some point's block. -/
theorem covered (i : S16x4096x512.Idx) : ∃ t : Fin cfg0.N, (cfg0.win 8).flush t = true ∧ i ∈ ((cfg0.win 8).blk t).view.set := by
  have h1 : (i 1).val < 4096 := (i 1).isLt
  have h2 : (i 2).val < 512 := (i 2).isLt
  obtain ⟨t, eb, ep, en⟩ := point (i 0) ⟨(i 2).val / 128, by omega⟩ ⟨(i 1).val / 512, by omega⟩
  dsimp only at ep en
  refine ⟨t, flush0_8 t, ?_⟩
  have h := ((cfg0.win 8).blk t).view.emb_mem_set
    (ix3 (0 : Fin 1) (⟨(i 1).val % 512, by omega⟩ : Fin 512) (⟨(i 2).val % 128, by omega⟩ : Fin 128) : S1x512x128.Idx)
  rw [emb8] at h
  refine (congrArg (· ∈ ((cfg0.win 8).blk t).view.set) (funext fun a => Fin.ext ?_)).mp h
  match a with
  | ⟨0, _⟩ => exact eb
  | ⟨1, _⟩ => show 512 * pn t + (i 1).val % 512 = (i 1).val; omega
  | ⟨2, _⟩ => show 128 * pp t + (i 2).val % 128 = (i 2).val; omega

/-- So the result array ends at any array of which every point writes back its own block. -/
theorem final_of (c : Dev nD) (G : S16x4096x512.Idx → EReal)
    (hG : ∀ (t : Fin cfg0.N) (r : Fin 512) (l : Fin 128), outAt m c t (ix3 0 r l)
      = G (ix3 (⟨pb t, pb_lt t⟩ : Fin 16) (⟨512 * pn t + r.val, by have := pn_lt t; omega⟩ : Fin 4096)
          (⟨128 * pp t + l.val, by have := pp_lt t; omega⟩ : Fin 512))) :
    (dats m 0 c).arrAt 8 cfg0.N = G := by
  refine (dats m 0 c).arrAt_eq_of_cover 8 G (fun t _ => ?_) covered
  funext j
  show outAt m c t j = G (((cfg0.win 8).blk t).view.emb j)
  have hj : j = ix3 (0 : Fin 1) (⟨(j 1).val, (j 1).isLt⟩ : Fin 512) (⟨(j 2).val, (j 2).isLt⟩ : Fin 128) := by
    funext a
    match a with
    | ⟨0, _⟩ => exact Fin.ext (by have : (j 0).val < 1 := (j 0).isLt; show (j 0).val = 0; omega)
    | ⟨1, _⟩ => rfl
    | ⟨2, _⟩ => rfl
  rw [hj, emb8]
  exact hG t _ _

end Cert.DiffIdeal.Hand
end
-- ==== Proof.Diff.Inputs.lean ====
/-
  The blocks of the differential attention's windows, read at an index of their arrays: the grid's point `t` is a batch, a
  head and a block of 512 queries, and each window's block starts where those say.
-/
module

public import proofs.«01_k».proof.Proof.Diff.Frame
public import proofs.«01_k».proof.Proof.Diff.Emb

@[expose] public section

set_option maxRecDepth 16384

noncomputable section

namespace Cert.DiffIdeal.Hand

open Cert.DiffIdeal Cert.DiffIdeal.Gen
open Idealize.ShloMosaic Idealize.ShloMosaic.TcCoe Idealize.ShloMosaic.Tactic
open Idealize.ShloMosaic.Pipeline (Dat)

variable (m : (ℓ : Loc nD τ sig) → Buf (Elt Ideal) ℓ)

/-- The input blocks at an index. -/
theorem read0 (t : Fin cfg0.N) (r : Fin 512) (l : Fin 128) (X : main_v61.ty.Contents (Elt Ideal)) :
    ((cfg0.win 0).blk t).view.read (Elt Ideal) X (ix3 (0 : Fin 1) r l : S1x512x128.Idx) = X (ix3 (⟨pb t, pb_lt t⟩ : Fin 16) (⟨512 * pn t + r.val, by have := pn_lt t; omega⟩ : Fin 4096) (⟨128 * pp t + l.val, by have := pp_lt t; omega⟩ : Fin 512)) := by
  rw [View.read_apply, emb0]; rfl

theorem iblk0_at (c : Dev nD) (t : Fin cfg0.N) (r : Fin 512) (l : Fin 128) :
    iblk m c 0 t (ix3 (0 : Fin 1) r l : S1x512x128.Idx) = V m c main_v61 (ix3 (⟨pb t, pb_lt t⟩ : Fin 16) (⟨512 * pn t + r.val, by have := pn_lt t; omega⟩ : Fin 4096) (⟨128 * pp t + l.val, by have := pp_lt t; omega⟩ : Fin 512)) := by
  unfold iblk
  exact read0 t r l (V m c main_v61)

theorem read1 (t : Fin cfg0.N) (r : Fin 512) (l : Fin 128) (X : main_v57.ty.Contents (Elt Ideal)) :
    ((cfg0.win 1).blk t).view.read (Elt Ideal) X (ix3 (0 : Fin 1) r l : S1x512x128.Idx) = X (ix3 (⟨pp t, pp_lt t⟩ : Fin 4) (⟨512 * pn t + r.val, by have := pn_lt t; omega⟩ : Fin 4096) l) := by
  rw [View.read_apply, emb1]; rfl

theorem iblk1_at (c : Dev nD) (t : Fin cfg0.N) (r : Fin 512) (l : Fin 128) :
    iblk m c 1 t (ix3 (0 : Fin 1) r l : S1x512x128.Idx) = V m c main_v57 (ix3 (⟨pp t, pp_lt t⟩ : Fin 4) (⟨512 * pn t + r.val, by have := pn_lt t; omega⟩ : Fin 4096) l) := by
  unfold iblk
  exact read1 t r l (V m c main_v57)

theorem read2 (t : Fin cfg0.N) (l : Fin 128) (s : Fin 4096) (X : main_v63.ty.Contents (Elt Ideal)) :
    ((cfg0.win 2).blk t).view.read (Elt Ideal) X (ix3 (0 : Fin 1) l s : S1x128x4096.Idx) = X (ix3 (⟨pb t, pb_lt t⟩ : Fin 16) (⟨128 * pp t + l.val, by have := pp_lt t; omega⟩ : Fin 512) s) := by
  rw [View.read_apply, emb2]; rfl

theorem iblk2_at (c : Dev nD) (t : Fin cfg0.N) (l : Fin 128) (s : Fin 4096) :
    iblk m c 2 t (ix3 (0 : Fin 1) l s : S1x128x4096.Idx) = V m c main_v63 (ix3 (⟨pb t, pb_lt t⟩ : Fin 16) (⟨128 * pp t + l.val, by have := pp_lt t; omega⟩ : Fin 512) s) := by
  unfold iblk
  exact read2 t l s (V m c main_v63)

theorem read3 (t : Fin cfg0.N) (l : Fin 128) (s : Fin 4096) (X : main_v58.ty.Contents (Elt Ideal)) :
    ((cfg0.win 3).blk t).view.read (Elt Ideal) X (ix2 l s : S128x4096.Idx) = X (ix2 l s) := by
  rw [View.read_apply, emb3]; rfl

theorem iblk3_at (c : Dev nD) (t : Fin cfg0.N) (l : Fin 128) (s : Fin 4096) :
    iblk m c 3 t (ix2 l s : S128x4096.Idx) = V m c main_v58 (ix2 l s) := by
  unfold iblk
  exact read3 t l s (V m c main_v58)

theorem read4 (t : Fin cfg0.N) (s : Fin 4096) (l : Fin 128) (X : main_v64.ty.Contents (Elt Ideal)) :
    ((cfg0.win 4).blk t).view.read (Elt Ideal) X (ix3 (0 : Fin 1) s l : S1x4096x128.Idx) = X (ix3 (⟨pb t, pb_lt t⟩ : Fin 16) s (⟨128 * pp t + l.val, by have := pp_lt t; omega⟩ : Fin 512)) := by
  rw [View.read_apply, emb4]; rfl

theorem iblk4_at (c : Dev nD) (t : Fin cfg0.N) (s : Fin 4096) (l : Fin 128) :
    iblk m c 4 t (ix3 (0 : Fin 1) s l : S1x4096x128.Idx) = V m c main_v64 (ix3 (⟨pb t, pb_lt t⟩ : Fin 16) s (⟨128 * pp t + l.val, by have := pp_lt t; omega⟩ : Fin 512)) := by
  unfold iblk
  exact read4 t s l (V m c main_v64)

theorem read5 (t : Fin cfg0.N) (a : Fin 8) (l : Fin 128) (X : main_v56.ty.Contents (Elt Ideal)) :
    ((cfg0.win 5).blk t).view.read (Elt Ideal) X (ix3 (0 : Fin 1) a l : S1x8x128.Idx) = X (ix3 (⟨pp t, pp_lt t⟩ : Fin 4) a l) := by
  rw [View.read_apply, emb5]; rfl

theorem iblk5_at (c : Dev nD) (t : Fin cfg0.N) (a : Fin 8) (l : Fin 128) :
    iblk m c 5 t (ix3 (0 : Fin 1) a l : S1x8x128.Idx) = V m c main_v56 (ix3 (⟨pp t, pp_lt t⟩ : Fin 4) a l) := by
  unfold iblk
  exact read5 t a l (V m c main_v56)

theorem read6 (t : Fin cfg0.N) (a : Fin 4) (l : Fin 128) (X : main_v85.ty.Contents (Elt Ideal)) :
    ((cfg0.win 6).blk t).view.read (Elt Ideal) X (ix2 a l : S4x128.Idx) = X (ix2 a l) := by
  rw [View.read_apply, emb6]; rfl

theorem iblk6_at (c : Dev nD) (t : Fin cfg0.N) (a : Fin 4) (l : Fin 128) :
    iblk m c 6 t (ix2 a l : S4x128.Idx) = V m c main_v85 (ix2 a l) := by
  unfold iblk
  exact read6 t a l (V m c main_v85)

theorem read7 (t : Fin cfg0.N) (l : Fin 128) (X : main_v87.ty.Contents (Elt Ideal)) :
    ((cfg0.win 7).blk t).view.read (Elt Ideal) X (ix2 (0 : Fin 1) l : S1x128.Idx) = X (ix2 (0 : Fin 1) l) := by
  rw [View.read_apply, emb7]; rfl

theorem iblk7_at (c : Dev nD) (t : Fin cfg0.N) (l : Fin 128) :
    iblk m c 7 t (ix2 (0 : Fin 1) l : S1x128.Idx) = V m c main_v87 (ix2 (0 : Fin 1) l) := by
  unfold iblk
  exact read7 t l (V m c main_v87)

end Cert.DiffIdeal.Hand
end
-- ==== Proof.Diff.Ref.lean ====
/-
  The reference's differential attention, read at an index: the normalized sum over all the keys of the values against the
  difference of the two halves' softmax weights, the logit of a key in a later chunk minus infinity.
-/
module

public import proofs.«01_k».proof.Proof.Gen.DiffRefIdeal.Read
public import proofs.«01_k».proof.Proof.Diff.Norm
public import proofs.«01_k».proof.Proof.Diff.Host
public import Idealize.ShloMosaic.Lib.Pointwise

@[expose] public section

set_option maxRecDepth 16384

noncomputable section

namespace Cert.Diff

open Idealize.ShloMosaic Idealize.ShloMosaic.TcCoe Idealize.ShloMosaic.Tactic
open Cert.DiffRefIdeal (S16x4096x512 S1x64 S1x128)
open Cert.DiffIdeal.Hand (slope word_nat sel_ite)
open Cert.Softmax

variable (Q K V : S16x4096x512.Idx → EReal) (L : Fin 4 → S1x64.Idx → EReal) (G : S1x128.Idx → EReal)

/-- Half `e`'s logit of query `t` and key `s` of batch `b` and head `h`: the scaled product less the slope times the distance. -/
def lg (e : Fin 2) (b : Fin 16) (h : Fin 4) (t s : Fin 4096) : EReal :=
  (∑ d : Fin 64, Q (ix3 b t (⟨128 * h.val + (64 * e.val + d.val), by omega⟩ : Fin 512)) * K (ix3 b s (⟨128 * h.val + (64 * e.val + d.val), by omega⟩ : Fin 512)))
    * Ideal.ofBits .f32 0x3E000000#32 + ((-slope h * |(t.val : ℝ) - s.val| : ℝ) : EReal)

/-- The same over the keys' numbers, a key in a later chunk (or past the end) at minus infinity. -/
def row (e : Fin 2) (b : Fin 16) (h : Fin 4) (t : Fin 4096) (s : ℕ) : EReal :=
  if hs : s < 4096 ∧ s / 64 ≤ t.val / 64 then lg Q K e b h t ⟨s, hs.1⟩ else ⊥

/-- The row's maximum. -/
def top (e : Fin 2) (b : Fin 16) (h : Fin 4) (t : Fin 4096) : EReal := Finset.univ.fold max ⊥ fun s : Fin 4096 => row Q K e b h t s.val

/-- Lambda. -/
def lam : EReal := Ideal.exp (∑ x : Fin 64, L 0 (ix2 0 x) * L 1 (ix2 0 x)) - Ideal.exp (∑ x : Fin 64, L 2 (ix2 0 x) * L 3 (ix2 0 x))
  + Ideal.ofBits .f32 0x3E4CCCCD#32

open Cert.DiffRefIdeal Cert.DiffRefIdeal.Read

theorem negInf : Ideal.ofBits .f32 4286578688#32 = ⊥ := by
  simp [Ideal.ofBits, Ideal.ieee]

theorem toInt_small (n : ℕ) (h : n < 4096) : (BitVec.ofNat 32 n).toInt = n := by
  rw [BitVec.toInt_eq_toNat_of_lt (by rw [BitVec.toNat_ofNat]; omega), BitVec.toNat_ofNat]
  exact congrArg Nat.cast (Nat.mod_eq_of_lt (by omega))

/-- A signed comparison of two small numbers. -/
theorem le_word (a b : ℕ) (ha : a < 4096) (hb : b < 4096) :
    IntOp.cmpi CmpIPredicate.sle (BitVec.ofNat 32 a) (BitVec.ofNat 32 b) = if a ≤ b then 1#1 else 0#1 := by
  by_cases h : a ≤ b
  · simp [IntOp.cmpi, BitVec.sle, toInt_small a ha, toInt_small b hb, h]
  · simp [IntOp.cmpi, BitVec.sle, toInt_small a ha, toInt_small b hb, h]

/-- The distance of two positions, as the reference casts it. -/
theorem dist_word (t s : ℕ) (ht : t < 4096) (hs : s < 4096) :
    (FloatOps.sitofp FTy.f32 (IntOp.absi (IntOp.subi (BitVec.ofNat 32 t) (BitVec.ofNat 32 s))) : Ideal FTy.f32) = ((|(t : ℝ) - s| : ℝ) : EReal) := by
  have e : (BitVec.ofNat 32 t - BitVec.ofNat 32 s).toInt = (t : ℤ) - s := by
    rw [BitVec.toInt_sub, toInt_small t ht, toInt_small s hs, Int.bmod_def]
    omega
  have k : (IntOp.absi (IntOp.subi (BitVec.ofNat 32 t) (BitVec.ofNat 32 s))).toInt = |(t : ℤ) - s| := by
    show (BitVec.abs (BitVec.ofNat 32 t - BitVec.ofNat 32 s)).toInt = _
    rw [BitVec.toInt_abs_eq_natAbs_of_ne_intMin, e, Int.natCast_natAbs]
    intro h
    rw [h] at e
    have : (BitVec.intMin 32).toInt = -2147483648 := by decide
    omega
  show (((IntOp.absi (IntOp.subi (BitVec.ofNat 32 t) (BitVec.ofNat 32 s))).toInt : ℝ) : EReal) = _
  rw [k]; push_cast; rfl

/-- The chunk of a key and of a query, as the reference divides. -/
theorem col_word (s : Fin 4096) : val_main_v42 (F := Ideal) (ix2 0 s) = BitVec.ofNat 32 (s.val / 64) := by
  pointwise [val_main_v42, val_main_v41, val_main_v27, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13]
  exact Cert.DiffIdeal.Hand.hi_word s

theorem row_word (s : Fin 4096) : val_main_v44 (F := Ideal) (ix2 s 0) = BitVec.ofNat 32 (s.val / 64) := by
  pointwise [val_main_v44, val_main_v43, val_main_v27, val_main_c_6, val_main_call1_v0, val_main_call1_v1, val_main_call1_v2, val_main_call1_v3, val_main_call1_v4, val_main_call1_v5, val_main_call1_v6, val_main_call1_v7, val_main_call1_v8, val_main_call1_c, val_main_call1_v9, val_main_call1_v10, val_main_call1_v11, val_main_call1_c_0, val_main_call1_v12, val_main_call1_v13]
  exact Cert.DiffIdeal.Hand.hi_word s

/-- The slopes of the reference. -/
theorem tab (h : Fin 4) : val_main_v26 (F := Ideal) (ix1 h) = (slope h : EReal) := by
  match h with
  | 0 =>
    pointwise [val_main_v26, val_main_v25, val_main_v24, val_main_v23, val_main_v22, val_main_cst_2, val_main_cst_3, val_main_cst_4, val_main_cst_5]
    exact Cert.DiffIdeal.Hand.slope_bits 0
  | 1 =>
    pointwise [val_main_v26, val_main_v25, val_main_v24, val_main_v23, val_main_v22, val_main_cst_2, val_main_cst_3, val_main_cst_4, val_main_cst_5]
    exact Cert.DiffIdeal.Hand.slope_bits 1
  | 2 =>
    pointwise [val_main_v26, val_main_v25, val_main_v24, val_main_v23, val_main_v22, val_main_cst_2, val_main_cst_3, val_main_cst_4, val_main_cst_5]
    exact Cert.DiffIdeal.Hand.slope_bits 2
  | 3 =>
    pointwise [val_main_v26, val_main_v25, val_main_v24, val_main_v23, val_main_v22, val_main_cst_2, val_main_cst_3, val_main_cst_4, val_main_cst_5]
    exact Cert.DiffIdeal.Hand.slope_bits 3

theorem ref_lam : val_main_v21 (F := Ideal) (L 0) (L 1) (L 2) (L 3) ix0 = lam L := by
  pointwise [val_main_v21, val_main_v20, val_main_v19, val_main_v14, val_main_v13, val_main_v12, val_main_v11, val_main_v10, val_main_v18, val_main_v17, val_main_v16, val_main_v15, val_main_cst, val_main_cst_0, val_main_cst_1]
  rfl

/-- Half 0's masked logits, the row's maximum, the weights' numerators and sums, and the weights, as the reference computes them. -/
theorem ref_logit0 (b : Fin 16) (h : Fin 4) (t s : Fin 4096) :
    val_main_v60 (F := Ideal) Q K (ix4 b h t s) = row Q K 0 b h t s.val := by
  unfold row lg
  rw [val_main_v60_apply, val_main_v53_apply, val_main_v50_apply, val_main_v48_apply]
  pointwise [val_main_v0, val_main_v1, val_main_v2, val_main_v3, val_main_v6, val_main_v7, val_main_cst_7, val_main_v49, val_main_v52, val_main_v51, val_main_call2_v0, val_main_call2_v1, val_main_call2_v2, val_main_cst_9, val_main_v40, val_main_v39, val_main_v38, val_main_v37, val_main_v36, val_main_v35, val_main_v34, val_main_v33, val_main_v32, val_main_v31, val_main_v30, val_main_v29, val_main_v28, val_main_v27, val_main_v47, val_main_v46, val_main_v45]
  simp only [id, Nat.mul_comm _ 128]
  rw [col_word, row_word, sel_ite (le_word _ _ (by omega) (by omega)), dist_word _ _ (by omega) (by omega), tab]
  by_cases hst : s.val / 64 ≤ t.val / 64
  · rw [if_pos hst, dif_pos hst, EReal.coe_mul, EReal.coe_neg]
  · rw [if_neg hst, dif_neg hst]; exact negInf

theorem ref_top0 (b : Fin 16) (h : Fin 4) (t : Fin 4096) :
    val_main_v63 (F := Ideal) Q K (ix3 b h t) = top Q K 0 b h t := by
  rw [val_main_v63_apply]
  unfold val_main_v61 top
  pointwise [val_main_v62, val_main_cst_10, val_main_cst_11]
  simp only [ref_logit0, negInf]
  exact max_eq_right bot_le

theorem ref_exp0 (b : Fin 16) (h : Fin 4) (t s : Fin 4096) :
    val_main_v67 (F := Ideal) Q K (ix4 b h t s) = Ideal.exp (row Q K 0 b h t s.val - top Q K 0 b h t) := by
  rw [val_main_v67_apply, val_main_v66_apply, ref_logit0]
  have e : val_main_v65 (F := Ideal) Q K (ix4 b h t s) = top Q K 0 b h t := by
    rw [← ref_top0, val_main_v65_apply, val_main_v64_apply]
    exact congrArg (val_main_v63 (F := Ideal) Q K) (funext fun a => match a with
      | ⟨0, _⟩ => rfl
      | ⟨1, _⟩ => rfl
      | ⟨2, _⟩ => rfl)
  rw [e]; rfl

theorem ref_weight0 (b : Fin 16) (h : Fin 4) (t s : Fin 4096) :
    val_main_v71 (F := Ideal) Q K (ix4 b h t s) = weight (row Q K 0 b h t) (top Q K 0 b h t) s := by
  have e : val_main_v70 (F := Ideal) Q K (ix4 b h t s) = ∑ j : Fin 4096, Ideal.exp (row Q K 0 b h t j.val - top Q K 0 b h t) := by
    rw [val_main_v70_apply, val_main_v69_apply, val_main_v68_apply]
    have z : val_main_cst_12 (F := Ideal) (Shape.Idx.first Cert.DiffRefIdeal.Gen.h_S_) = (0 : EReal) := by
      rw [val_main_cst_12_apply]; exact Ideal.ofBits_zero_f32
    rw [z, zero_add]
    refine Finset.sum_congr rfl fun k _ => ?_
    rw [← ref_exp0]
    exact congrArg (val_main_v67 (F := Ideal) Q K) (funext fun a => match a with
    | ⟨0, _⟩ => rfl
    | ⟨1, _⟩ => rfl
    | ⟨2, _⟩ => rfl
    | ⟨3, _⟩ => rfl)
  rw [val_main_v71_apply, ref_exp0, e]
  rfl

/-- Half 1's masked logits, the row's maximum, the weights' numerators and sums, and the weights, as the reference computes them. -/
theorem ref_logit1 (b : Fin 16) (h : Fin 4) (t s : Fin 4096) :
    val_main_v72 (F := Ideal) Q K (ix4 b h t s) = row Q K 1 b h t s.val := by
  unfold row lg
  rw [val_main_v72_apply, val_main_v59_apply, val_main_v56_apply, val_main_v54_apply]
  pointwise [val_main_v0, val_main_v1, val_main_v2, val_main_v3, val_main_v8, val_main_v9, val_main_cst_8, val_main_v55, val_main_v58, val_main_v57, val_main_call3_v0, val_main_call3_v1, val_main_call3_v2, val_main_cst_13, val_main_v40, val_main_v39, val_main_v38, val_main_v37, val_main_v36, val_main_v35, val_main_v34, val_main_v33, val_main_v32, val_main_v31, val_main_v30, val_main_v29, val_main_v28, val_main_v27, val_main_v47, val_main_v46, val_main_v45]
  simp only [id, Nat.mul_comm _ 128]
  rw [col_word, row_word, sel_ite (le_word _ _ (by omega) (by omega)), dist_word _ _ (by omega) (by omega), tab]
  by_cases hst : s.val / 64 ≤ t.val / 64
  · rw [if_pos hst, dif_pos hst, EReal.coe_mul, EReal.coe_neg]
  · rw [if_neg hst, dif_neg hst]; exact negInf

theorem ref_top1 (b : Fin 16) (h : Fin 4) (t : Fin 4096) :
    val_main_v75 (F := Ideal) Q K (ix3 b h t) = top Q K 1 b h t := by
  rw [val_main_v75_apply]
  unfold val_main_v73 top
  pointwise [val_main_v74, val_main_cst_14, val_main_cst_15]
  simp only [ref_logit1, negInf]
  exact max_eq_right bot_le

theorem ref_exp1 (b : Fin 16) (h : Fin 4) (t s : Fin 4096) :
    val_main_v79 (F := Ideal) Q K (ix4 b h t s) = Ideal.exp (row Q K 1 b h t s.val - top Q K 1 b h t) := by
  rw [val_main_v79_apply, val_main_v78_apply, ref_logit1]
  have e : val_main_v77 (F := Ideal) Q K (ix4 b h t s) = top Q K 1 b h t := by
    rw [← ref_top1, val_main_v77_apply, val_main_v76_apply]
    exact congrArg (val_main_v75 (F := Ideal) Q K) (funext fun a => match a with
      | ⟨0, _⟩ => rfl
      | ⟨1, _⟩ => rfl
      | ⟨2, _⟩ => rfl)
  rw [e]; rfl

theorem ref_weight1 (b : Fin 16) (h : Fin 4) (t s : Fin 4096) :
    val_main_v83 (F := Ideal) Q K (ix4 b h t s) = weight (row Q K 1 b h t) (top Q K 1 b h t) s := by
  have e : val_main_v82 (F := Ideal) Q K (ix4 b h t s) = ∑ j : Fin 4096, Ideal.exp (row Q K 1 b h t j.val - top Q K 1 b h t) := by
    rw [val_main_v82_apply, val_main_v81_apply, val_main_v80_apply]
    have z : val_main_cst_16 (F := Ideal) (Shape.Idx.first Cert.DiffRefIdeal.Gen.h_S_) = (0 : EReal) := by
      rw [val_main_cst_16_apply]; exact Ideal.ofBits_zero_f32
    rw [z, zero_add]
    refine Finset.sum_congr rfl fun k _ => ?_
    rw [← ref_exp1]
    exact congrArg (val_main_v79 (F := Ideal) Q K) (funext fun a => match a with
    | ⟨0, _⟩ => rfl
    | ⟨1, _⟩ => rfl
    | ⟨2, _⟩ => rfl
    | ⟨3, _⟩ => rfl)
  rw [val_main_v83_apply, ref_exp1, e]
  rfl

/-- The value lane of a head the reference sums. -/
def val (b : Fin 16) (h : Fin 4) (k : Fin 4096) (d : Fin 128) : EReal := V (ix3 b k (⟨128 * h.val + d.val, by omega⟩ : Fin 512))

/-- The sum of the values against the difference of the weights. -/
def mix (b : Fin 16) (h : Fin 4) (t : Fin 4096) (d : Fin 128) : EReal :=
  ∑ k : Fin 4096, (weight (row Q K 0 b h t) (top Q K 0 b h t) k - lam L * weight (row Q K 1 b h t) (top Q K 1 b h t) k) * val V b h k d

theorem ref_diff (b : Fin 16) (h : Fin 4) (t s : Fin 4096) :
    val_main_v86 (F := Ideal) Q K (L 0) (L 1) (L 2) (L 3) (ix4 b h t s)
      = weight (row Q K 0 b h t) (top Q K 0 b h t) s - lam L * weight (row Q K 1 b h t) (top Q K 1 b h t) s := by
  rw [val_main_v86_apply, val_main_v85_apply, ref_weight0, ref_weight1]
  have e : val_main_v84 (F := Ideal) (L 0) (L 1) (L 2) (L 3) (ix4 b h t s) = lam L := by
    rw [← ref_lam, val_main_v84_apply]
    exact congrArg (val_main_v21 (F := Ideal) (L 0) (L 1) (L 2) (L 3)) (funext fun a => a.elim0)
  rw [e]; rfl

theorem ref_mix (b : Fin 16) (h : Fin 4) (t : Fin 4096) (d : Fin 128) :
    val_main_v87 (F := Ideal) Q K V (L 0) (L 1) (L 2) (L 3) (ix4 b h t d) = mix Q K V L b h t d := by
  rw [val_main_v87_apply]
  refine Finset.sum_congr rfl fun k _ => ?_
  have el : lidx_main_v87 (ix4 b h t d) k = ix4 b h t k := funext fun a => match a with
    | ⟨0, _⟩ => rfl
    | ⟨1, _⟩ => rfl
    | ⟨2, _⟩ => rfl
    | ⟨3, _⟩ => rfl
  have er : ridx_main_v87 (ix4 b h t d) k = ix4 b h k d := funext fun a => match a with
    | ⟨0, _⟩ => rfl
    | ⟨1, _⟩ => rfl
    | ⟨2, _⟩ => rfl
    | ⟨3, _⟩ => rfl
  rw [el, er, ref_diff]
  refine congrArg (HMul.hMul (_ : EReal)) ?_
  unfold val
  pointwise [val_main_v5, val_main_v4]
  simp only [Nat.mul_comm _ 128]

theorem ref_normed (b : Fin 16) (h : Fin 4) (t : Fin 4096) (d : Fin 128) :
    val_main_v103 (F := Ideal) Q K V (L 0) (L 1) (L 2) (L 3) G (ix4 b h t d) = normed (mix Q K V L b h t) (G (ix2 0 d)) d := by
  have hs : val_main_v89 (F := Ideal) Q K V (L 0) (L 1) (L 2) (L 3) (ix3 b h t) = ∑ x : Fin 128, mix Q K V L b h t x * mix Q K V L b h t x := by
    rw [val_main_v89_apply]
    have z : val_main_cst_17 (F := Ideal) (Shape.Idx.first Cert.DiffRefIdeal.Gen.h_S_) = (0 : EReal) := by
      rw [val_main_cst_17_apply]; exact Ideal.ofBits_zero_f32
    rw [z, zero_add]
    refine Finset.sum_congr rfl fun k _ => ?_
    rw [← ref_mix]
    exact congrArg (fun i => val_main_v87 (F := Ideal) Q K V (L 0) (L 1) (L 2) (L 3) i * val_main_v87 (F := Ideal) Q K V (L 0) (L 1) (L 2) (L 3) i)
      (funext fun a => match a with
      | ⟨0, _⟩ => rfl
      | ⟨1, _⟩ => rfl
      | ⟨2, _⟩ => rfl
      | ⟨3, _⟩ => rfl)
  rw [val_main_v103_apply, val_main_v101_apply, val_main_v97_apply, ref_mix]
  pointwise [val_main_v96, val_main_v95, val_main_v94, val_main_v93, val_main_v92, val_main_v91, val_main_v90, val_main_v98, val_main_v99, val_main_v100, val_main_v102, val_main_cst_18, val_main_cst_19, val_main_cst_20]
  rw [hs]
  rfl

/-- The reference computes the differential attention. -/
theorem ref_eq (b : Fin 16) (t : Fin 4096) (j : Fin 512) : val_main_v106 (F := Ideal) Q K V (L 0) (L 1) (L 2) (L 3) G (ix3 b t j)
    = normed (mix Q K V L b (⟨j.val / 128, by omega⟩ : Fin 4) t) (G (ix2 0 (⟨j.val % 128, by omega⟩ : Fin 128))) (⟨j.val % 128, by omega⟩ : Fin 128) := by
  rw [val_main_v106_apply, val_main_v105_apply, val_main_v104_apply]
  have e : idx_main_v104 (idx_main_v105 (ix3 b t j)) = ix4 b (⟨j.val / 128, by omega⟩ : Fin 4) t (⟨j.val % 128, by omega⟩ : Fin 128) := by
    funext a; apply Fin.ext
    match a with
    | ⟨0, _⟩ => show ((b.val * 4096 + t.val) * 512 + j.val) / 2097152 = b.val; omega
    | ⟨1, _⟩ => show ((b.val * 4096 + t.val) * 512 + j.val) / 128 % 4 = j.val / 128; omega
    | ⟨2, _⟩ => show ((b.val * 4096 + t.val) * 512 + j.val) / 512 % 4096 = t.val; omega
    | ⟨3, _⟩ => show ((b.val * 4096 + t.val) * 512 + j.val) % 128 = j.val % 128; omega
  rw [e]
  exact ref_normed Q K V L G b _ t _

end Cert.Diff
end
-- ==== Proof.Diff.Logit.lean ====
/-
  The kernel's score of a query and a key is the logit: the selected lanes of the scaled query against the key's give the
  half's product, the position lanes the slope times the signed distance, and the diagonal's correction turns that into
  the distance or puts a later chunk at minus infinity.
-/
module

public import proofs.«01_k».proof.Proof.Diff.Ref
public import proofs.«01_k».proof.Proof.Diff.Row
public import proofs.«01_k».proof.Proof.Fox.Logit

@[expose] public section

set_option maxRecDepth 16384

noncomputable section

namespace Cert.Diff

open Idealize.ShloMosaic Idealize.ShloMosaic.TcCoe
open Cert.DiffRefIdeal (S16x4096x512 S1x64 S1x128)
open Cert.DiffIdeal.Hand (slope fixV)
open Cert.Softmax

variable {Q K : S16x4096x512.Idx → EReal} {L : Fin 4 → S1x64.Idx → EReal}

/-- The scaled product of a half. -/
def dotp (Q K : S16x4096x512.Idx → EReal) (e : Fin 2) (b : Fin 16) (h : Fin 4) (t s : Fin 4096) : EReal :=
  (∑ d : Fin 64, Q (ix3 b t (⟨128 * h.val + (64 * e.val + d.val), by omega⟩ : Fin 512)) * K (ix3 b s (⟨128 * h.val + (64 * e.val + d.val), by omega⟩ : Fin 512)))
    * Ideal.ofBits .f32 0x3E000000#32

theorem row_after (e : Fin 2) (b : Fin 16) (h : Fin 4) (t : Fin 4096) {s : ℕ} (hs : t.val / 64 < s / 64) : row Q K e b h t s = ⊥ := by
  unfold row
  exact dif_neg (by omega)

/-- A key before its query: the signed distance is the distance. -/
theorem row_before (e : Fin 2) (b : Fin 16) (h : Fin 4) (t s : Fin 4096) (hs : s.val ≤ t.val) :
    dotp Q K e b h t s + ((slope h * ((s.val : ℝ) - t.val) : ℝ) : EReal) = row Q K e b h t s.val := by
  unfold row
  rw [dif_pos ⟨s.isLt, by omega⟩]
  unfold lg
  refine congrArg₂ (· + ·) rfl (congrArg _ ?_)
  have h' : (s.val : ℝ) ≤ t.val := by exact_mod_cast hs
  rw [abs_of_nonneg (by linarith)]
  ring

/-- A key of the diagonal block: the correction turns the signed distance into the distance, or the logit into minus infinity. -/
theorem row_diag (e : Fin 2) (b : Fin 16) (h : Fin 4) (t s : Fin 4096) (n r c : ℕ) (ht : t.val = 512 * n + r) (hs : s.val = 512 * n + c) :
    dotp Q K e b h t s + ((slope h * ((s.val : ℝ) - t.val) : ℝ) : EReal) + fixV (slope h) r c = row Q K e b h t s.val := by
  unfold fixV
  by_cases hc : c / 64 ≤ r / 64
  · rw [if_pos hc, add_assoc, ← EReal.coe_add]
    unfold row
    rw [dif_pos ⟨s.isLt, by omega⟩]
    unfold lg
    refine congrArg₂ (· + ·) rfl (congrArg _ ?_)
    have ht' : (t.val : ℝ) = 512 * n + r := by exact_mod_cast ht
    have hs' : (s.val : ℝ) = 512 * n + c := by exact_mod_cast hs
    show _ = -slope h * |(t.val : ℝ) - s.val|
    rw [ht', hs']
    by_cases hcr : c ≤ r
    · have h' : (c : ℝ) ≤ r := by exact_mod_cast hcr
      rw [Nat.sub_eq_zero_of_le hcr, abs_of_nonneg (by push_cast; linarith)]
      push_cast; ring
    · have h' : (r : ℝ) ≤ c := by exact_mod_cast (by omega : r ≤ c)
      rw [Nat.cast_sub (by omega), abs_of_nonpos (by push_cast; linarith)]
      push_cast; ring
  · rw [if_neg hc, EReal.add_bot]
    exact (row_after e b h t (by omega)).symm

/-- Lambda of real vectors is a real. -/
theorem lam_real (hL : ∀ a i, ∃ r : ℝ, L a i = (r : EReal)) : ∃ r : ℝ, lam L = (r : EReal) := by
  choose q hq using hL
  have e2 : ∃ κ : ℝ, Ideal.ofBits .f32 0x3E4CCCCD#32 = (κ : EReal) := ⟨_, by simp [Ideal.ofBits, Ideal.ieee]; norm_cast⟩
  obtain ⟨κ, eκ⟩ := e2
  unfold lam
  simp only [hq, eκ]
  simp only [← EReal.coe_mul, ← coe_sum, Ideal.exp_coe, ← EReal.coe_sub, ← EReal.coe_add]
  exact ⟨_, rfl⟩

/-- Of 128 lanes with the last 64 at zero, the product is that of the first 64. -/
theorem half_sum (x y : Fin 128 → EReal) (a b : Fin 64 → EReal) (hx : ∀ i : Fin 128, x i = if h : i.val < 64 then a ⟨i.val, h⟩ else 0)
    (hy : ∀ i : Fin 128, y i = if h : i.val < 64 then b ⟨i.val, h⟩ else 0) : (∑ i : Fin 128, x i * y i) = ∑ i : Fin 64, a i * b i := by
  have hs := Fin.sum_univ_add (a := 64) (b := 64) (fun i : Fin (64 + 64) => x i * y i)
  refine hs.trans ?_
  have z : (∑ i : Fin 64, x (Fin.natAdd 64 i) * y (Fin.natAdd 64 i)) = 0 := Finset.sum_eq_zero fun i _ => by
    rw [hx, dif_neg (by rw [Fin.val_natAdd]; omega), zero_mul]
  rw [z, add_zero]
  refine Finset.sum_congr rfl fun i _ => ?_
  rw [hx, hy, dif_pos (show (Fin.castAdd 64 i).val < 64 from i.isLt), dif_pos (show (Fin.castAdd 64 i).val < 64 from i.isLt)]
  rfl

end Cert.Diff
end
-- ==== Proof.Diff.Value.lean ====
/-
  The differential attention's result: of finite values and lambda vectors, what the run leaves in the
  result array is what the reference computes.
-/
module

public import proofs.«01_k».proof.Proof.Diff.Row
public import proofs.«01_k».proof.Proof.Diff.Blocks
public import proofs.«01_k».proof.Proof.Diff.Inputs
public import proofs.«01_k».proof.Proof.Diff.Logit

@[expose] public section

set_option maxRecDepth 16384

noncomputable section

namespace Cert.DiffIdeal.Hand

open Cert.DiffIdeal Cert.DiffIdeal.Gen
open Cert.Diff (dotp row lam val row_after row_before row_diag lam_real half_sum normed_eq ref_eq)
open Cert.Fox (lanes_sum)
open Idealize.ShloMosaic Idealize.ShloMosaic.TcCoe Idealize.ShloMosaic.Tactic
open Idealize.ShloMosaic.Pipeline (Dat)

variable (m : (ℓ : Loc nD τ sig) → Buf (Elt Ideal) ℓ)

/-- A point's query row, head, batch, and a half. -/
abbrev qr (t : Fin cfg0.N) (r : Fin 512) : Fin 4096 := ⟨512 * pn t + r.val, by have := pn_lt t; omega⟩
abbrev hd (t : Fin cfg0.N) : Fin 4 := ⟨pp t, pp_lt t⟩
abbrev bt (t : Fin cfg0.N) : Fin 16 := ⟨pb t, pb_lt t⟩
abbrev hf (e : ℕ) : Fin 2 := ⟨e % 2, Nat.mod_lt _ (by decide)⟩

/-- The kernel's score of a query and a key: the scaled product and the slope times the signed distance. -/
theorem score_eq (c : Dev nD) (t : Fin cfg0.N) (r : Fin 512) (e : ℕ) (he : e < 2) (s : Fin 4096) :
    BL (iblk m c 0 t) (iblk m c 1 t) (iblk m c 2 t) (iblk m c 3 t) e r s
      = dotp (argQ m c) (argK m c) (hf e) (bt t) (hd t) (qr t r) s
        + ((slope (hd t) * ((s.val : ℝ) - (qr t r).val) : ℝ) : EReal) := by
  have hp := pp_lt t
  have hh : (hf e).val = e := Nat.mod_eq_of_lt he
  unfold BL dotp
  refine congrArg₂ (· + ·) ?_ ?_
  · have k := lanes_sum (fun j => if h : j < 512 then argQ m c (ix3 (bt t) (qr t r) ⟨j, h⟩) else 0) (fun j => if h : j < 512 then argK m c (ix3 (bt t) s ⟨j, h⟩) else 0) (pp t) e he
    refine Eq.trans (Finset.sum_congr rfl fun x _ => ?_) (k.trans (congrArg (· * _) (Finset.sum_congr rfl fun d _ => ?_)))
    · rw [iblk0_at, iblk2_at, V_q, V_k, dif_pos (show 128 * pp t + x.val < 512 by omega), dif_pos (show 128 * pp t + x.val < 512 by omega)]
    · rw [dif_pos (show 64 * (2 * pp t + e) + d.val < 512 by omega), dif_pos (show 64 * (2 * pp t + e) + d.val < 512 by omega)]
      exact congrArg₂ (· * ·) (congrArg (fun i : Fin 512 => argQ m c (ix3 (bt t) (qr t r) i)) (Fin.ext (by dsimp only; omega)))
        (congrArg (fun i : Fin 512 => argK m c (ix3 (bt t) s i)) (Fin.ext (by dsimp only; omega)))
  · rw [← pos_sum (slope (hd t)) (qr t r).val s.val, Cert.Softmax.coe_sum]
    refine Finset.sum_congr rfl fun x _ => ?_
    rw [iblk1_at, iblk3_at, V_pq, V_pk, EReal.coe_mul]

/-- The kernel's lambda is the reference's. -/
theorem lam_eq (c : Dev nD) (t : Fin cfg0.N) : lamK (iblk m c 6 t) = lam (argL m c) := by
  unfold lamK lam
  refine congrArg₂ (· + ·) (congrArg₂ (· - ·) (congrArg _ ?_) (congrArg _ ?_)) rfl
  · exact half_sum _ _ (fun x => argL m c 0 (ix2 0 x)) (fun x => argL m c 1 (ix2 0 x)) (fun i => by rw [iblk6_at, V_lam]) (fun i => by rw [iblk6_at, V_lam])
  · exact half_sum _ _ (fun x => argL m c 2 (ix2 0 x)) (fun x => argL m c 3 (ix2 0 x)) (fun i => by rw [iblk6_at, V_lam]) (fun i => by rw [iblk6_at, V_lam])

/-- THE RESULT ARRAY: of finite values and lambda vectors it ends at the reference's differential attention. -/
theorem result (c : Dev nD)
    (hV : ∀ i, ∃ r : ℝ, argV m c i = (r : EReal)) (hL : ∀ a i, ∃ r : ℝ, argL m c a i = (r : EReal)) :
    (dats m 0 c).arrAt 8 cfg0.N = Cert.DiffRefIdeal.Read.val_main_v106 (F := Ideal) (argQ m c) (argK m c) (argV m c)
      (argL m c 0) (argL m c 1) (argL m c 2) (argL m c 3) (argG m c) := by
  refine final_of m c _ fun t r l => ?_
  refine Eq.trans ?_ (ref_eq (argQ m c) (argK m c) (argV m c) (argL m c) (argG m c) _ _ _).symm
  have hp := pp_lt t
  have hn := pn_lt t
  have hl := l.isLt
  have eh : (⟨(128 * pp t + l.val) / 128, by omega⟩ : Fin 4) = hd t := Fin.ext (by dsimp only; omega)
  have ed : (⟨(128 * pp t + l.val) % 128, by omega⟩ : Fin 128) = l := Fin.ext (by dsimp only; omega)
  simp only [eh, ed]
  unfold outAt
  obtain ⟨y, y', hy, hy', e⟩ := outBlk_read (grid0.coords t) (iblk m c 0 t) (iblk m c 1 t) (iblk m c 2 t) (iblk m c 3 t) (iblk m c 4 t) (iblk m c 5 t)
    (iblk m c 6 t) (iblk m c 7 t) (slope (hd t)) (by rw [iblk5_at, V_sl]) (fun e s => row (argQ m c) (argK m c) (hf e) (bt t) (hd t) (qr t r) s)
    (fun s d => if h : s < 4096 ∧ d < 128 then val (argV m c) (bt t) (hd t) ⟨s, h.1⟩ ⟨d, h.2⟩ else 0)
    r
    (fun e he s hs => by
      rw [score_eq m c t r e he s]
      exact row_before _ _ _ _ _ (by have h : s.val < 512 * pn t := hs; show s.val ≤ 512 * pn t + r.val; omega))
    (fun e he s c' hs => by
      rw [score_eq m c t r e he s]
      exact row_diag _ _ _ _ _ (pn t) r.val c'.val rfl hs)
    (fun e s hs => row_after _ _ _ _ (by
      have hr := r.isLt
      have h : 512 * pn t + 512 ≤ s := hs
      show (512 * pn t + r.val) / 64 < s / 64
      omega))
    (fun s d => by
      rw [iblk4_at, V_v, dif_pos ⟨s.isLt, d.isLt⟩]
      rfl) l 0
  have eg : iblk m c 7 t (ix2 (0 : Fin 1) l : S1x128.Idx) = argG m c (ix2 0 l) := by rw [iblk7_at, V_g]
  have hz : ∀ (e : Fin 2) s, 4096 ≤ s → row (argQ m c) (argK m c) e (bt t) (hd t) (qr t r) s = ⊥ := fun e s hs =>
    row_after _ _ _ _ (by have h := (qr t r).isLt; omega)
  have ev : ∀ (k : Fin 4096) (x : Fin 128), (if h : k.val < 4096 ∧ x.val < 128 then val (argV m c) (bt t) (hd t) ⟨k.val, h.1⟩ ⟨x.val, h.2⟩ else 0) = val (argV m c) (bt t) (hd t) k x :=
    fun k x => dif_pos ⟨k.isLt, x.isLt⟩
  rw [e, eg, lam_eq, normed_eq (hz _) (hz _) (fun k x => by rw [ev]; exact hV _) (lam_real hL) hy hy']
  simp only [ev]
  rfl

end Cert.DiffIdeal.Hand
end
-- ==== Proof.Diff.Finite.lean ====
/-
  What the second precondition says of the arguments: every value and lambda entry is a real number.
-/
module

public import proofs.«01_k».proof.Defs
public import proofs.«01_k».proof.Proof.Gen.Pre_finite2
public import proofs.«01_k».proof.Proof.Fox.Finite

@[expose] public section

set_option maxRecDepth 16384

noncomputable section

namespace Cert.Diff

open Idealize.ShloMosaic Idealize.ShloMosaic.TcCoe Idealize.ShloMosaic.Tactic
open Cert.Pre_finite2
open Cert.Fox (real_of_abs_lt)

theorem finite_args [Facts] (q k v : FVec Ideal S16x4096x512 .f32) (l0 l1 l2 l3 : FVec Ideal S1x64 .f32) (g : FVec Ideal S1x128 .f32)
    (h : fn (F := Ideal) q k v l0 l1 l2 l3 g = fun _ => 1#1) :
    (∀ i, ∃ r : ℝ, v i = (r : EReal))
      ∧ (∀ i, ∃ r : ℝ, l0 i = (r : EReal)) ∧ (∀ i, ∃ r : ℝ, l1 i = (r : EReal)) ∧ (∀ i, ∃ r : ℝ, l2 i = (r : EReal)) ∧ (∀ i, ∃ r : ℝ, l3 i = (r : EReal)) := by
  have h0 := congrFun h ix0
  unfold fn fn_part1 at h0
  have hand : ∀ a b : BitVec 1, IntOp.andi a b = 1#1 → a = 1#1 ∧ b = 1#1 := by decide
  haveI : Subsingleton S_.Idx := ⟨fun a b => funext fun x => x.elim0⟩
  obtain ⟨h18, h22⟩ := hand _ _ h0
  obtain ⟨h13, h17⟩ := hand _ _ h18
  obtain ⟨h8, h12⟩ := hand _ _ h13
  obtain ⟨h3, h7⟩ := hand _ _ h8
  refine ⟨fun i => real_of_abs_lt _ ?_, fun i => real_of_abs_lt _ ?_, fun i => real_of_abs_lt _ ?_, fun i => real_of_abs_lt _ ?_, fun i => real_of_abs_lt _ ?_⟩
  · exact Host.reduce_andi_all _ _ _ _ _ h3 i
  · exact Host.reduce_andi_all _ _ _ _ _ h7 i
  · exact Host.reduce_andi_all _ _ _ _ _ h12 i
  · exact Host.reduce_andi_all _ _ _ _ _ h17 i
  · exact Host.reduce_andi_all _ _ _ _ _ h22 i

end Cert.Diff
end
-- ==== Proof.Diff.Same.lean ====
/- The kernel program and its ideal form have one body table, label by label. -/
module

public import proofs.«01_k».proof.Defs
public import proofs.«01_k».proof.Proof.Gen.Diff
public import proofs.«01_k».proof.Proof.Gen.DiffIdeal

@[expose] public section

noncomputable section

namespace Cert.Diff.Same

open Idealize.ShloMosaic Idealize.ShloMosaic.TcCoe Idealize.SL.Sem

/-- At the one label the two tables run the same body. -/
theorem body_eq (t s) : Cert.Diff.defs₀ (F := Bits) .tc (0 : Fin 1) (t, s)
    = Cert.DiffIdeal.defs₀ (F := Bits) .tc (0 : Fin 1) (t, s) := by
  show Cert.Diff.cc0_diff .. = Cert.DiffIdeal.cc0_diff ..
  rfl

set_option maxHeartbeats 4000000 in
/-- The two kernels' body tables are one. -/
theorem kernels_eq : Cert.Diff.defs₀ (F := Bits) = Cert.DiffIdeal.defs₀ (F := Bits) := by
  funext p ℓ a
  cases p with
  | tc =>
    match ℓ, a with
    | ⟨0, _⟩, (t, s) => exact body_eq t s
  | scScalar _ => rfl
  | scVector _ _ => rfl

set_option maxHeartbeats 4000000 in
/-- So are the tables with the pipeline's own labels. -/
theorem defs_eq : Cert.Diff.defs (F := Bits) = Cert.DiffIdeal.defs (F := Bits) :=
  congrArg (Pipeline.defs (Cert.DiffIdeal.pcfgs (F := Bits))) kernels_eq

set_option maxHeartbeats 4000000 in
/-- The two host programs are one. -/
theorem main_eq : Cert.Diff.main (F := Bits) = Cert.DiffIdeal.main (F := Bits) := rfl

end Cert.Diff.Same

end
-- ==== Proof.Diff.Claims.lean ====
/-
  The claims about the differential attention: the runs of the kernel, of its ideal program and of the reference, and that
  the last two compute one array.
-/
module

public import proofs.«01_k».proof.Defs
public import proofs.«01_k».proof.Proof.Diff.Value
public import proofs.«01_k».proof.Proof.Diff.Finite
public import proofs.«01_k».proof.Proof.Diff.Same
public import proofs.«01_k».proof.Proof.Gen.DiffRefIdeal.Run
public import Idealize.ShloMosaic.Lib.Quiescent
public import Idealize.ShloMosaic.Adequacy
public import Idealize.ShloMosaic.Init

@[expose] public section

noncomputable section

namespace Cert.DiffProof

open Idealize.ShloMosaic Idealize.ShloMosaic.TcCoe Idealize.SL.Sem
open Cert.DiffIdeal Cert.DiffIdeal.Gen Cert.DiffIdeal.Hand

/-- The kernel's run at any float type: the result array as the pipeline leaves it, the arguments unchanged, every counter at zero. -/
theorem run_diff {F : FTy → Type} [FloatOps F] (m : (ℓ : Loc nD τ sig) → Buf (Elt F) ℓ) (ρ : Dev nD → PrngReg) :
    θ_run (Cert.DiffIdeal.defs (F := F)) (onTc (τ := τ) (Cert.DiffIdeal.main (F := F))) ⟨m, fun _ => 0, ρ⟩ (fun r => (∀ c : Dev nD,
      r.2.mem ((c.tc : Thread nD τ).loc main_v88) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run Cert.DiffIdeal.defs _ _).mono (fun _ h => ⟨fun c => ⟨(h.1 c).1 8,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c)⟩, h.2⟩) (run_main m ρ)

/-- The kernel runs and is quiescent, bit for bit. -/
theorem frame_diff : Cert.quiescent_Diff := by
  intro m ρ _
  rw [Cert.Diff.Same.defs_eq, Cert.Diff.Same.main_eq]
  refine (θ_run Cert.DiffIdeal.defs _ _).mono ?_ (run_diff (F := Bits) m ρ)
  exact fun _ h => ⟨fun c => (h.1 c).2, h.2⟩

/-- Its idealization runs and is quiescent. -/
theorem frame_diffIdeal : Cert.quiescent_DiffIdeal := fun m ρ _ =>
  (θ_run Cert.DiffIdeal.defs _ _).mono (fun _ h => ⟨fun c => (h.1 c).2, h.2⟩) (run_diff (F := Ideal) m ρ)

theorem frame_diffIdeal_pre : Cert.quiescent_DiffIdeal_pre_finite2 := fun m ρ _ => frame_diffIdeal m ρ trivial

/-- The reference runs and is quiescent. -/
theorem frame_diffRef : Cert.quiescent_DiffRefIdeal := fun m ρ _ =>
  (θ_run Cert.DiffRefIdeal.defs _ _).mono (fun r h => ⟨fun c => (h c).2, sem_eq_zero_of_no_sems (by decide) r.2⟩) (Cert.DiffRefIdeal.Value.run m ρ)

theorem frame_diffRef_pre : Cert.quiescent_DiffRefIdeal_pre_finite2 := fun m ρ _ => frame_diffRef m ρ trivial

/-- Of finite values and lambda vectors, kernel and reference compute one array over the extended reals. -/
theorem value_diff : Cert.algebraic_DiffIdeal_DiffRefIdeal_pre_finite2 := fun m ρ m' ρ' hpre hag => by
  refine ⟨fun c => Cert.DiffRefIdeal.Read.val_main_v106 (F := Ideal) (argQ m c) (argK m c) (argV m c)
    (argL m c 0) (argL m c 1) (argL m c 2) (argL m c 3) (argG m c), ?_, ?_⟩
  · refine (θ_run Cert.DiffIdeal.defs _ _).mono (fun r h c => ⟨(h.1 c).1.trans ?_, (h.1 c).2⟩) (run_diff (F := Ideal) m ρ)
    obtain ⟨hV, h0, h1, h2, h3⟩ := Cert.Diff.finite_args _ _ _ _ _ _ _ _ (hpre c)
    exact result m c hV (fun a => match a with | 0 => h0 | 1 => h1 | 2 => h2 | 3 => h3)
  · refine (θ_run Cert.DiffRefIdeal.defs _ _).mono (fun r h c => ⟨(h c).1.trans ?_, (h c).2⟩) (Cert.DiffRefIdeal.Value.run m' ρ')
    obtain ⟨e0, e1, e2, e3, e4, e5, e6, e7⟩ := hag c
    rw [Cert.DiffRefIdeal.Read.val_main_v106_eq]
    show Cert.DiffRefIdeal.Read.val_main_v106 (F := Ideal) (m' ((c.tc : Thread Cert.DiffRefIdeal.nD Cert.DiffRefIdeal.τ).loc Cert.DiffRefIdeal.main_arg0))
      (m' ((c.tc : Thread Cert.DiffRefIdeal.nD Cert.DiffRefIdeal.τ).loc Cert.DiffRefIdeal.main_arg1))
      (m' ((c.tc : Thread Cert.DiffRefIdeal.nD Cert.DiffRefIdeal.τ).loc Cert.DiffRefIdeal.main_arg2))
      (m' ((c.tc : Thread Cert.DiffRefIdeal.nD Cert.DiffRefIdeal.τ).loc Cert.DiffRefIdeal.main_arg3))
      (m' ((c.tc : Thread Cert.DiffRefIdeal.nD Cert.DiffRefIdeal.τ).loc Cert.DiffRefIdeal.main_arg4))
      (m' ((c.tc : Thread Cert.DiffRefIdeal.nD Cert.DiffRefIdeal.τ).loc Cert.DiffRefIdeal.main_arg5))
      (m' ((c.tc : Thread Cert.DiffRefIdeal.nD Cert.DiffRefIdeal.τ).loc Cert.DiffRefIdeal.main_arg6))
      (m' ((c.tc : Thread Cert.DiffRefIdeal.nD Cert.DiffRefIdeal.τ).loc Cert.DiffRefIdeal.main_arg7)) = _
    rw [e0, e1, e2, e3, e4, e5, e6, e7]

end Cert.DiffProof
end
-- ==== Proof.lean ====
module

public import proofs.«01_k».proof.Defs
public import proofs.«01_k».proof.Proof.Gen.Fox
public import proofs.«01_k».proof.Proof.Gen.Fox.Skeleton
public import proofs.«01_k».proof.Proof.Gen.Fox.Loops
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.FoxRefIdeal.Run
public import proofs.«01_k».proof.Proof.Gen.FoxRefIdeal.Read
public import proofs.«01_k».proof.Proof.Gen.Pre_finite
public import proofs.«01_k».proof.Proof.Gen.Diff
public import proofs.«01_k».proof.Proof.Gen.Diff.Skeleton
public import proofs.«01_k».proof.Proof.Gen.Diff.Loops
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Loops
public import proofs.«01_k».proof.Proof.Gen.DiffIdeal.Launch
public import proofs.«01_k».proof.Proof.Gen.DiffIdeal.Points
public import proofs.«01_k».proof.Proof.Gen.DiffIdeal.Frame
public import proofs.«01_k».proof.Proof.Gen.DiffRefIdeal
public import proofs.«01_k».proof.Proof.Gen.DiffRefIdeal.Run
public import proofs.«01_k».proof.Proof.Gen.DiffRefIdeal.Read
public import proofs.«01_k».proof.Proof.Gen.Pre_finite2
public import proofs.«01_k».proof.Proof.Fox.Value
public import proofs.«01_k».proof.Proof.Fox.Finite
public import proofs.«01_k».proof.Proof.Fox.Same
public import proofs.«01_k».proof.Proof.Diff.Claims
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.FoxIdeal Cert.FoxIdeal.Gen Cert.FoxIdeal.Hand

/-- The kernel's run at any float type: the result array as the pipeline leaves it, the arguments unchanged, every counter at zero. -/
theorem run_fox {F : FTy → Type} [FloatOps F] (m : (ℓ : Loc nD τ sig) → Buf (Elt F) ℓ) (ρ : Dev nD → PrngReg) :
    θ_run (Cert.FoxIdeal.defs (F := F)) (onTc (τ := τ) (Cert.FoxIdeal.main (F := F))) ⟨m, fun _ => 0, ρ⟩ (fun r => (∀ c : Dev nD,
      r.2.mem ((c.tc : Thread nD τ).loc main_v31) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run Cert.FoxIdeal.defs _ _).mono (fun _ h => ⟨fun c => ⟨(h.1 c).1 6,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩, h.2⟩) (run_main m ρ)

/-- The kernel runs and is quiescent, bit for bit. -/
theorem frame_fox : Cert.quiescent_Fox := by
  intro m ρ _
  rw [Cert.Fox.Same.defs_eq, Cert.Fox.Same.main_eq]
  refine (θ_run Cert.FoxIdeal.defs _ _).mono ?_ (run_fox (F := Bits) m ρ)
  exact fun _ h => ⟨fun c => (h.1 c).2, h.2⟩

/-- Its idealization runs and is quiescent. -/
theorem frame_foxIdeal : Cert.quiescent_FoxIdeal := fun m ρ _ =>
  (θ_run Cert.FoxIdeal.defs _ _).mono (fun _ h => ⟨fun c => (h.1 c).2, h.2⟩) (run_fox (F := Ideal) m ρ)

theorem frame_foxIdeal_pre : Cert.quiescent_FoxIdeal_pre_finite := fun m ρ _ => frame_foxIdeal m ρ trivial

/-- The reference runs and is quiescent. -/
theorem frame_ref : Cert.quiescent_FoxRefIdeal := fun m ρ _ =>
  (θ_run Cert.FoxRefIdeal.defs _ _).mono (fun r h => ⟨fun c => (h c).2, sem_eq_zero_of_no_sems (by decide) r.2⟩) (Cert.FoxRefIdeal.Value.run m ρ)

theorem frame_ref_pre : Cert.quiescent_FoxRefIdeal_pre_finite := fun m ρ _ => frame_ref m ρ trivial

/-- Of finite queries, keys and biases, kernel and reference compute one array over the extended reals. -/
theorem value : Cert.algebraic_FoxIdeal_FoxRefIdeal_pre_finite := fun m ρ m' ρ' hpre hag => by
  refine ⟨fun c => Cert.FoxRefIdeal.Read.val_main_v37 (F := Ideal) (argQ m c) (argK m c) (argV m c) (argC m c), ?_, ?_⟩
  · refine (θ_run Cert.FoxIdeal.defs _ _).mono (fun r h c => ⟨(h.1 c).1.trans ?_, (h.1 c).2⟩) (run_fox (F := Ideal) m ρ)
    obtain ⟨hQ, hK, hC⟩ := Cert.Fox.finite_args _ _ _ _ (hpre c)
    exact result m c hQ hK hC
  · refine (θ_run Cert.FoxRefIdeal.defs _ _).mono (fun r h c => ⟨(h c).1.trans ?_, (h c).2⟩) (Cert.FoxRefIdeal.Value.run m' ρ')
    obtain ⟨e0, e1, e2, e3⟩ := hag c
    rw [Cert.FoxRefIdeal.Read.val_main_v37_eq, e0, e1, e2, e3]

theorem claim : Cert.Claim := ⟨Cert.Fox.Gen.facts, Cert.FoxIdeal.Gen.facts, Cert.FoxRefIdeal.Gen.facts,
  Cert.Diff.Gen.facts, Cert.DiffIdeal.Gen.facts, Cert.DiffRefIdeal.Gen.facts, Cert.Pre_finite.Gen.facts, Cert.Pre_finite2.Gen.facts,
  frame_fox, frame_foxIdeal, frame_foxIdeal_pre, frame_ref, frame_ref_pre,
  Cert.DiffProof.frame_diff, Cert.DiffProof.frame_diffIdeal, Cert.DiffProof.frame_diffIdeal_pre, Cert.DiffProof.frame_diffRef, Cert.DiffProof.frame_diffRef_pre,
  trivial, value, trivial, Cert.DiffProof.value_diff⟩

end Cert.Proof

end
